-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_is_permutation [hPre_is_permutation : Cert.Pre_is_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_is_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_permutation [hPre_is_permutation : Cert.Pre_is_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_is_permutation [hKernelIdeal : Cert.KernelIdeal.Facts] [hPre_is_permutation : Cert.Pre_is_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_permutation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_is_permutation [hReferenceIdeal : Cert.ReferenceIdeal.Facts] [hPre_is_permutation : Cert.Pre_is_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_is_permutation [hKernelIdeal : Cert.KernelIdeal.Facts] [hReferenceIdeal : Cert.ReferenceIdeal.Facts] [hPre_is_permutation : Cert.Pre_is_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_permutation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_is_permutation : Cert.Pre_is_permutation.Facts),
    quiescent_Kernel (hKernel := hKernel)
    ∧ quiescent_KernelIdeal (hKernelIdeal := hKernelIdeal)
    ∧ quiescent_KernelIdeal_pre_is_permutation (hKernelIdeal := hKernelIdeal) (hPre_is_permutation := hPre_is_permutation)
    ∧ quiescent_ReferenceIdeal (hReferenceIdeal := hReferenceIdeal)
    ∧ quiescent_ReferenceIdeal_pre_is_permutation (hReferenceIdeal := hReferenceIdeal) (hPre_is_permutation := hPre_is_permutation)
    ∧ preserves_Kernel_KernelIdeal
    ∧ algebraic_KernelIdeal_ReferenceIdeal_pre_is_permutation (hKernelIdeal := hKernelIdeal) (hReferenceIdeal := hReferenceIdeal) (hPre_is_permutation := hPre_is_permutation)
-- ==== Pre_is_permutation.lean ====
abbrev S8x2048x4096 : Shape := ⟨3, ![8, 2048, 4096]⟩
abbrev S4096 : Shape := ⟨1, ![4096]⟩
abbrev S1920x14336 : Shape := ⟨2, ![1920, 14336]⟩
abbrev S14336 : Shape := ⟨1, ![14336]⟩
abbrev S256x14336 : Shape := ⟨2, ![256, 14336]⟩
abbrev S4096x4096 : Shape := ⟨2, ![4096, 4096]⟩
abbrev S_ : Shape := ⟨0, ![]⟩

class Facts : Prop where
  bcast_S4096_S4096x4096_1 : S4096.BroadcastsInDim S4096x4096 (![1] : Fin 1 → Fin S4096x4096.rank)
  natLt_1_32 : 1 < 32
  reducesTo_S4096x4096_S4096_d1 : S4096x4096.ReducesTo [1] S4096
  h_S_ : 0 < S_.numel
  bcast_S_S4096 : S_.BroadcastsInDim S4096 (![] : Fin 0 → Fin S4096.rank)

variable [Facts]

def fn {F : FTy → Type} [FloatOps F] (main_arg0 : FVec F S8x2048x4096 .bf16) (main_arg1 : IVec S4096 32) (main_arg2 : IVec S1920x14336 8) (main_arg3 : FVec F S14336 .f32) (main_arg4 : FVec F S14336 .f32) (main_arg5 : FVec F S256x14336 .bf16) : IVec S4096 1 :=
  let main_v0 : IVec S4096x4096 32 := iotaInDim S4096x4096 32 0
  let main_v1 : IVec S4096x4096 32 := broadcastInDim S4096x4096 ![1] bcast_S4096_S4096x4096_1 main_arg1
  let main_v2 : IVec S4096x4096 1 := cmpi .eq main_v0 main_v1
  let main_v3 : IVec S4096x4096 32 := (extui 32 · natLt_1_32) main_v2
  let main_c : IVec S_ 32 := constantI S_ 32 0#32
  let main_v4 : IVec S4096 32 := (fun x v => Host.reduce IntOp.addi x v reducesTo_S4096x4096_S4096_d1 h_S_) main_v3 main_c
  let main_c_0 : IVec S_ 32 := constantI S_ 32 1#32
  let main_v5 : IVec S4096 32 := broadcastInDim S4096 ![] bcast_S_S4096 main_c_0
  let main_v6 : IVec S4096 1 := cmpi .eq main_v4 main_v5
  main_v6
-- ==== Kernel.lean ====
abbrev S8x2048x4096 : Shape := ⟨3, ![8, 2048, 4096]⟩
abbrev S4096 : Shape := ⟨1, ![4096]⟩
abbrev S1920x14336 : Shape := ⟨2, ![1920, 14336]⟩
abbrev S14336 : Shape := ⟨1, ![14336]⟩
abbrev S256x14336 : Shape := ⟨2, ![256, 14336]⟩
abbrev S16384x4096 : Shape := ⟨2, ![16384, 4096]⟩
abbrev S3840 : Shape := ⟨1, ![3840]⟩
abbrev S6x640 : Shape := ⟨2, ![6, 640]⟩
abbrev S256 : Shape := ⟨1, ![256]⟩
abbrev S1x256 : Shape := ⟨2, ![1, 256]⟩
abbrev S256x1 : Shape := ⟨2, ![256, 1]⟩
abbrev S16384x3840 : Shape := ⟨2, ![16384, 3840]⟩
abbrev S16384x256 : Shape := ⟨2, ![16384, 256]⟩
abbrev S16384x128 : Shape := ⟨2, ![16384, 128]⟩
abbrev S8x16384 : Shape := ⟨2, ![8, 16384]⟩
abbrev S256x4096 : Shape := ⟨2, ![256, 4096]⟩
abbrev S256x3840 : Shape := ⟨2, ![256, 3840]⟩
abbrev S256x256 : Shape := ⟨2, ![256, 256]⟩
abbrev S256x128 : Shape := ⟨2, ![256, 128]⟩
abbrev S8x256 : Shape := ⟨2, ![8, 256]⟩
abbrev S4096x768 : Shape := ⟨2, ![4096, 768]⟩
abbrev S4096x256 : Shape := ⟨2, ![4096, 256]⟩
abbrev S8x4096 : Shape := ⟨2, ![8, 4096]⟩
abbrev S4096x128 : Shape := ⟨2, ![4096, 128]⟩
abbrev S1x128 : Shape := ⟨2, ![1, 128]⟩
abbrev S4096x1 : Shape := ⟨2, ![4096, 1]⟩
abbrev S1x4096 : Shape := ⟨2, ![1, 4096]⟩
abbrev S256x768 : Shape := ⟨2, ![256, 768]⟩
abbrev S256x640 : Shape := ⟨2, ![256, 640]⟩
abbrev S128x256 : Shape := ⟨2, ![128, 256]⟩
abbrev S1x14336 : Shape := ⟨2, ![1, 14336]⟩
abbrev S16384x14336 : Shape := ⟨2, ![16384, 14336]⟩
abbrev S1024x3840 : Shape := ⟨2, ![1024, 3840]⟩
abbrev S1024x256 : Shape := ⟨2, ![1024, 256]⟩
abbrev S1024x128 : Shape := ⟨2, ![1024, 128]⟩
abbrev S1920x1024 : Shape := ⟨2, ![1920, 1024]⟩
abbrev S256x1024 : Shape := ⟨2, ![256, 1024]⟩
abbrev S1x1024 : Shape := ⟨2, ![1, 1024]⟩
abbrev S1024x1024 : Shape := ⟨2, ![1024, 1024]⟩
abbrev S3840x1024 : Shape := ⟨2, ![3840, 1024]⟩
abbrev S14x1x1024 : Shape := ⟨3, ![14, 1, 1024]⟩
abbrev S1024 : Shape := ⟨1, ![1024]⟩
abbrev S1x1x1024 : Shape := ⟨3, ![1, 1, 1024]⟩
abbrev S1024x1 : Shape := ⟨2, ![1024, 1]⟩
abbrev S1x16384 : Shape := ⟨2, ![1, 16384]⟩
abbrev S16384 : Shape := ⟨1, ![16384]⟩
abbrev S8x2048 : Shape := ⟨2, ![8, 2048]⟩
abbrev S8x2048x14336 : Shape := ⟨3, ![8, 2048, 14336]⟩
abbrev S8x2048x3840 : Shape := ⟨3, ![8, 2048, 3840]⟩

abbrev nBuf : Space → Nat
  | .hbm => 28
  | .vmem => 35
  | .smem => 0
  | _ => 0

abbrev bufTy : (tb : Table) → Fin (tcTables nBuf tb) → BufTy
  | .hbm, ⟨0, _⟩ => ⟨S8x2048x4096, .bf16⟩
  | .hbm, ⟨1, _⟩ => ⟨S4096, .i32⟩
  | .hbm, ⟨2, _⟩ => ⟨S1920x14336, .i8⟩
  | .hbm, ⟨3, _⟩ => ⟨S14336, .f32⟩
  | .hbm, ⟨4, _⟩ => ⟨S14336, .f32⟩
  | .hbm, ⟨5, _⟩ => ⟨S256x14336, .bf16⟩
  | .hbm, ⟨6, _⟩ => ⟨S16384x4096, .bf16⟩
  | .hbm, ⟨7, _⟩ => ⟨S3840, .i32⟩
  | .hbm, ⟨8, _⟩ => ⟨S6x640, .i32⟩
  | .hbm, ⟨9, _⟩ => ⟨S256, .i32⟩
  | .hbm, ⟨10, _⟩ => ⟨S1x256, .i32⟩
  | .hbm, ⟨11, _⟩ => ⟨S256, .i32⟩
  | .hbm, ⟨12, _⟩ => ⟨S256x1, .i32⟩
  | .hbm, ⟨13, _⟩ => ⟨S16384x3840, .i8⟩
  | .hbm, ⟨14, _⟩ => ⟨S16384x256, .bf16⟩
  | .hbm, ⟨15, _⟩ => ⟨S16384x128, .f32⟩
  | .hbm, ⟨16, _⟩ => ⟨S8x16384, .f32⟩
  | .hbm, ⟨17, _⟩ => ⟨S1x14336, .f32⟩
  | .hbm, ⟨18, _⟩ => ⟨S1x14336, .f32⟩
  | .hbm, ⟨19, _⟩ => ⟨S16384x14336, .bf16⟩
  | .hbm, ⟨20, _⟩ => ⟨S1x16384, .f32⟩
  | .hbm, ⟨21, _⟩ => ⟨S16384, .f32⟩
  | .hbm, ⟨22, _⟩ => ⟨S8x2048, .f32⟩
  | .hbm, ⟨23, _⟩ => ⟨S1x16384, .f32⟩
  | .hbm, ⟨24, _⟩ => ⟨S16384, .f32⟩
  | .hbm, ⟨25, _⟩ => ⟨S8x2048, .f32⟩
  | .hbm, ⟨26, _⟩ => ⟨S8x2048x14336, .bf16⟩
  | .hbm, ⟨27, _⟩ => ⟨S8x2048x3840, .i8⟩
  | .local _ .vmem, ⟨0, _⟩ => ⟨S6x640, .i32⟩
  | .local _ .vmem, ⟨1, _⟩ => ⟨S1x256, .i32⟩
  | .local _ .vmem, ⟨2, _⟩ => ⟨S256x1, .i32⟩
  | .local _ .vmem, ⟨3, _⟩ => ⟨S256x4096, .bf16⟩
  | .local _ .vmem, ⟨4, _⟩ => ⟨S256x4096, .bf16⟩
  | .local _ .vmem, ⟨5, _⟩ => ⟨S256x3840, .i8⟩
  | .local _ .vmem, ⟨6, _⟩ => ⟨S256x3840, .i8⟩
  | .local _ .vmem, ⟨7, _⟩ => ⟨S256x256, .bf16⟩
  | .local _ .vmem, ⟨8, _⟩ => ⟨S256x256, .bf16⟩
  | .local _ .vmem, ⟨9, _⟩ => ⟨S256x128, .f32⟩
  | .local _ .vmem, ⟨10, _⟩ => ⟨S256x128, .f32⟩
  | .local _ .vmem, ⟨11, _⟩ => ⟨S8x256, .f32⟩
  | .local _ .vmem, ⟨12, _⟩ => ⟨S8x256, .f32⟩
  | .local _ .vmem, ⟨13, _⟩ => ⟨S4096x768, .bf16⟩
  | .local _ .vmem, ⟨14, _⟩ => ⟨S4096x256, .bf16⟩
  | .local _ .vmem, ⟨15, _⟩ => ⟨S8x4096, .f32⟩
  | .local _ .vmem, ⟨16, _⟩ => ⟨S1024x3840, .i8⟩
  | .local _ .vmem, ⟨17, _⟩ => ⟨S1024x3840, .i8⟩
  | .local _ .vmem, ⟨18, _⟩ => ⟨S1024x256, .bf16⟩
  | .local _ .vmem, ⟨19, _⟩ => ⟨S1024x256, .bf16⟩
  | .local _ .vmem, ⟨20, _⟩ => ⟨S1024x128, .f32⟩
  | .local _ .vmem, ⟨21, _⟩ => ⟨S1024x128, .f32⟩
  | .local _ .vmem, ⟨22, _⟩ => ⟨S1920x1024, .i8⟩
  | .local _ .vmem, ⟨23, _⟩ => ⟨S1920x1024, .i8⟩
  | .local _ .vmem, ⟨24, _⟩ => ⟨S256x1024, .bf16⟩
  | .local _ .vmem, ⟨25, _⟩ => ⟨S256x1024, .bf16⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1024x1024, .bf16⟩
  | .local _ .vmem, ⟨31, _⟩ => ⟨S1024x1024, .bf16⟩
  | .local _ .vmem, ⟨32, _⟩ => ⟨S1024x3840, .bf16⟩
  | .local _ .vmem, ⟨33, _⟩ => ⟨S3840x1024, .bf16⟩
  | .local _ .vmem, ⟨34, _⟩ => ⟨S14x1x1024, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S6x640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3840 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 14], ![false, false]⟩

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k1_off1 (i : grid1.Coords) : Fin 3 → Nat :=
  let arg1 : BitVec 32 := BitVec.ofNat 32 (i 1).val
  let v76 : Index := Scalar.indexCast arg1
  let c0_33 : Index := 0#32
  let c0_34 : Index := 0#32
  ![v76.toNat, 0, 0]
def k1_off2 (i : grid1.Coords) : Fin 3 → Nat :=
  let arg1 : BitVec 32 := BitVec.ofNat 32 (i 1).val
  let v51 : Index := Scalar.indexCast arg1
  let c0_26 : Index := 0#32
  let c0_27 : Index := 0#32
  ![v51.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x3840 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1920x1024 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S8x2048x4096 : Shape := ⟨3, ![8, 2048, 4096]⟩
abbrev S4096 : Shape := ⟨1, ![4096]⟩
abbrev S1920x14336 : Shape := ⟨2, ![1920, 14336]⟩
abbrev S14336 : Shape := ⟨1, ![14336]⟩
abbrev S256x14336 : Shape := ⟨2, ![256, 14336]⟩
abbrev S1920 : Shape := ⟨1, ![1920]⟩
abbrev S3840 : Shape := ⟨1, ![3840]⟩
abbrev S_ : Shape := ⟨0, ![]⟩
abbrev S3840x1 : Shape := ⟨2, ![3840, 1]⟩
abbrev S8x2048x3840 : Shape := ⟨3, ![8, 2048, 3840]⟩
abbrev S256 : Shape := ⟨1, ![256]⟩
abbrev S256x1 : Shape := ⟨2, ![256, 1]⟩
abbrev S8x2048x256 : Shape := ⟨3, ![8, 2048, 256]⟩
abbrev S8x2048 : Shape := ⟨2, ![8, 2048]⟩
abbrev S8x2048x1 : Shape := ⟨3, ![8, 2048, 1]⟩
abbrev S8x2048x1920 : Shape := ⟨3, ![8, 2048, 1920]⟩
abbrev S8x2048x1920x1 : Shape := ⟨4, ![8, 2048, 1920, 1]⟩
abbrev S8x2048x1920x2 : Shape := ⟨4, ![8, 2048, 1920, 2]⟩
abbrev S8x2048x14336 : Shape := ⟨3, ![8, 2048, 14336]⟩
abbrev S1x1x14336 : Shape := ⟨3, ![1, 1, 14336]⟩

abbrev nBuf : Space → Nat
  | .hbm => 122
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S4096, .i32⟩
  | .hbm, ⟨2, _⟩ => ⟨S1920x14336, .i8⟩
  | .hbm, ⟨3, _⟩ => ⟨S14336, .f32⟩
  | .hbm, ⟨4, _⟩ => ⟨S14336, .f32⟩
  | .hbm, ⟨5, _⟩ => ⟨S256x14336, .bf16⟩
  | .hbm, ⟨6, _⟩ => ⟨S1920, .i32⟩
  | .hbm, ⟨7, _⟩ => ⟨S1920, .i32⟩
  | .hbm, ⟨8, _⟩ => ⟨S3840, .i32⟩
  | .hbm, ⟨9, _⟩ => ⟨S_, .i32⟩
  | .hbm, ⟨10, _⟩ => ⟨S3840, .i32⟩
  | .hbm, ⟨11, _⟩ => ⟨S3840, .i1⟩
  | .hbm, ⟨12, _⟩ => ⟨S_, .i32⟩
  | .hbm, ⟨13, _⟩ => ⟨S3840, .i32⟩
  | .hbm, ⟨14, _⟩ => ⟨S3840, .i32⟩
  | .hbm, ⟨15, _⟩ => ⟨S3840, .i32⟩
  | .hbm, ⟨16, _⟩ => ⟨S3840x1, .i32⟩
  | .hbm, ⟨17, _⟩ => ⟨S8x2048x3840, .bf16⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S8x2048x256, .bf16⟩
  | .hbm, ⟨28, _⟩ => ⟨S8x2048x3840, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048, .i1⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S8x2048x1, .f32⟩
  | .hbm, ⟨42, _⟩ => ⟨S8x2048x3840, .f32⟩
  | .hbm, ⟨43, _⟩ => ⟨S8x2048x3840, .f32⟩
  | .hbm, ⟨44, _⟩ => ⟨S8x2048x1, .f32⟩
  | .hbm, ⟨45, _⟩ => ⟨S8x2048x3840, .f32⟩
  | .hbm, ⟨46, _⟩ => ⟨S8x2048x3840, .f32⟩
  | .hbm, ⟨47, _⟩ => ⟨S8x2048x3840, .f32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S8x2048x3840, .f32⟩
  | .hbm, ⟨52, _⟩ => ⟨S8x2048x3840, .f32⟩
  | .hbm, ⟨53, _⟩ => ⟨S_, .f32⟩
  | .hbm, ⟨54, _⟩ => ⟨S8x2048x3840, .f32⟩
  | .hbm, ⟨55, _⟩ => ⟨S8x2048x3840, .f32⟩
  | .hbm, ⟨56, _⟩ => ⟨S8x2048x3840, .i32⟩
  | .hbm, ⟨57, _⟩ => ⟨S8x2048x3840, .i8⟩
  | .hbm, ⟨58, _⟩ => ⟨S8x2048x1920, .i8⟩
  | .hbm, ⟨59, _⟩ => ⟨S8x2048x1920, .i8⟩
  | .hbm, ⟨60, _⟩ => ⟨S8x2048x1920x1, .i8⟩
  | .hbm, ⟨61, _⟩ => ⟨S8x2048x1920x1, .i8⟩
  | .hbm, ⟨62, _⟩ => ⟨S8x2048x1920x2, .i8⟩
  | .hbm, ⟨63, _⟩ => ⟨S8x2048x3840, .i8⟩
  | .hbm, ⟨64, _⟩ => ⟨S1920x14336, .i32⟩
  | .hbm, ⟨65, _⟩ => ⟨S_, .i32⟩
  | .hbm, ⟨66, _⟩ => ⟨S1920x14336, .i32⟩
  | .hbm, ⟨67, _⟩ => ⟨S1920x14336, .i32⟩
  | .hbm, ⟨68, _⟩ => ⟨S_, .i32⟩
  | .hbm, ⟨69, _⟩ => ⟨S1920x14336, .i32⟩
  | .hbm, ⟨70, _⟩ => ⟨S1920x14336, .i32⟩
  | .hbm, ⟨71, _⟩ => ⟨S8x2048x1920, .i32⟩
  | .hbm, ⟨72, _⟩ => ⟨S8x2048x1920, .f32⟩
  | .hbm, ⟨73, _⟩ => ⟨S8x2048x1920, .bf16⟩
  | .hbm, ⟨74, _⟩ => ⟨S1920x14336, .f32⟩
  | .hbm, ⟨75, _⟩ => ⟨S1920x14336, .bf16⟩
  | .hbm, ⟨76, _⟩ => ⟨S8x2048x14336, .f32⟩
  | .hbm, ⟨77, _⟩ => ⟨S8x2048x1920, .i32⟩
  | .hbm, ⟨78, _⟩ => ⟨S8x2048x1920, .f32⟩
  | .hbm, ⟨79, _⟩ => ⟨S8x2048x1920, .bf16⟩
  | .hbm, ⟨80, _⟩ => ⟨S1920x14336, .f32⟩
  | .hbm, ⟨81, _⟩ => ⟨S1920x14336, .bf16⟩
  | .hbm, ⟨82, _⟩ => ⟨S8x2048x14336, .f32⟩
  | .hbm, ⟨83, _⟩ => ⟨S8x2048x14336, .f32⟩
  | .hbm, ⟨84, _⟩ => ⟨S_, .i32⟩
  | .hbm, ⟨85, _⟩ => ⟨S14336, .i32⟩
  | .hbm, ⟨86, _⟩ => ⟨S_, .i32⟩
  | .hbm, ⟨87, _⟩ => ⟨S14336, .i32⟩
  | .hbm, ⟨88, _⟩ => ⟨S14336, .i32⟩
  | .hbm, ⟨89, _⟩ => ⟨S14336, .f32⟩
  | .hbm, ⟨90, _⟩ => ⟨S8x2048x3840, .i32⟩
  | .hbm, ⟨91, _⟩ => ⟨S_, .i32⟩
  | .hbm, ⟨92, _⟩ => ⟨S8x2048, .i32⟩
  | .hbm, ⟨93, _⟩ => ⟨S8x2048, .f32⟩
  | .hbm, ⟨94, _⟩ => ⟨S8x2048x14336, .f32⟩
  | .hbm, ⟨95, _⟩ => ⟨S14336, .f32⟩
  | .hbm, ⟨96, _⟩ => ⟨S8x2048, .f32⟩
  | .hbm, ⟨97, _⟩ => ⟨S_, .f32⟩
  | .hbm, ⟨98, _⟩ => ⟨S8x2048, .f32⟩
  | .hbm, ⟨99, _⟩ => ⟨S8x2048, .f32⟩
  | .hbm, ⟨100, _⟩ => ⟨S8x2048, .f32⟩
  | .hbm, ⟨101, _⟩ => ⟨S8x2048x1, .f32⟩
  | .hbm, ⟨102, _⟩ => ⟨S8x2048x1, .f32⟩
  | .hbm, ⟨103, _⟩ => ⟨S1x1x14336, .f32⟩
  | .hbm, ⟨104, _⟩ => ⟨S8x2048x14336, .f32⟩
  | .hbm, ⟨105, _⟩ => ⟨S8x2048x14336, .f32⟩
  | .hbm, ⟨106, _⟩ => ⟨S8x2048x14336, .f32⟩
  | .hbm, ⟨107, _⟩ => ⟨S8x2048x14336, .f32⟩
  | .hbm, ⟨108, _⟩ => ⟨S8x2048x1, .f32⟩
  | .hbm, ⟨109, _⟩ => ⟨S14336, .f32⟩
  | .hbm, ⟨110, _⟩ => ⟨S1x1x14336, .f32⟩
  | .hbm, ⟨111, _⟩ => ⟨S8x2048x14336, .f32⟩
  | .hbm, ⟨112, _⟩ => ⟨S8x2048x14336, .f32⟩
  | .hbm, ⟨113, _⟩ => ⟨S8x2048x14336, .f32⟩
  | .hbm, ⟨114, _⟩ => ⟨S8x2048x14336, .f32⟩
  | .hbm, ⟨115, _⟩ => ⟨S1x1x14336, .f32⟩
  | .hbm, ⟨116, _⟩ => ⟨S8x2048x14336, .f32⟩
  | .hbm, ⟨117, _⟩ => ⟨S8x2048x14336, .f32⟩
  | .hbm, ⟨118, _⟩ => ⟨S8x2048x14336, .f32⟩
  | .hbm, ⟨119, _⟩ => ⟨S8x2048x14336, .f32⟩
  | .hbm, ⟨120, _⟩ => ⟨S8x2048x14336, .f32⟩
  | .hbm, ⟨121, _⟩ => ⟨S8x2048x14336, .bf16⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_c_7 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_10 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]
-- ==== Proof.MixRun.lean ====
/- The matrix-product kernel's body at one grid point: what it leaves in its result block and its scratch buffers,
   as a function of the point's input blocks and of what the scratch held. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Proof.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body: the point is the first of its row of the grid. -/
abbrev cond0 (i : grid1.Coords) : Prop := (Scalar.cmpi .ne (Scalar.extui (Scalar.cmpi .eq (BitVec.ofNat 32 (i 1).val) 0#32)) 0#32) = 1#1
/-- The second branch of the body: the point is in the first row of the grid. -/
abbrev cond1 (i : grid1.Coords) : Prop := k1_cond2 i = 1#1

theorem hcond0 : ∀ t : Fin cfg1.N, cond0 (grid1.coords t) ↔ t.val % 14 = 0 :=
  (fun t => by
    have ht : t.val < 224 := Nat.lt_of_lt_of_eq t.isLt N_1
    have e0 : (grid1.coords t 0).val = t.val / 14 % 16 := Pipeline.Grid.coords_val t 0 (by decide) rfl
    have e1 : (grid1.coords t 1).val = t.val / 1 % 14 := Pipeline.Grid.coords_val t 1 (by decide) rfl
    simp only [cond0, e0, e1]
    word_cmp
   : ∀ t : Fin grid1.N, cond0 (grid1.coords t) ↔ t.val % 14 = 0)

theorem hcond1 : ∀ t : Fin cfg1.N, cond1 (grid1.coords t) ↔ t.val < 14 :=
  (fun t => by
    have ht : t.val < 224 := Nat.lt_of_lt_of_eq t.isLt N_1
    have e0 : (grid1.coords t 0).val = t.val / 14 % 16 := Pipeline.Grid.coords_val t 0 (by decide) rfl
    have e1 : (grid1.coords t 1).val = t.val / 1 % 14 := Pipeline.Grid.coords_val t 1 (by decide) rfl
    simp only [cond1, k1_cond2, e0, e1]
    word_cmp
   : ∀ t : Fin grid1.N, cond1 (grid1.coords t) ↔ t.val < 14)

/-- The rectangle of the column sums' scratch that point `i` reads. -/
abbrev csRect (i : grid1.Coords) : Rect S14x1x1024 := Rect.unit (s := S14x1x1024) (k1_off2 i) S1x1x1024.size (k1_off2_inb i)

/-- The result block from the codes in bf16, the column sums and the other operands. -/
def mixY (qb : Vec F S1024x3840 .bf16) (x1 : Vec F S1024x256 .bf16) (x2 : Vec F S1024x128 .f32) (x3 : Vec F S1920x1024 .i8)
    (x4 : Vec F S256x1024 .bf16) (x5 x6 : Vec F S1x1024 .f32) (cs : Vec F S1x1x1024 .f32) : Vec F S1024x1024 .bf16 :=
  k1_pay1 (k1_pay5 qb (k1_pay4 x3)) (k1_pay6 x1 x4)
    (k1_pay7 (View.ld x2 (Rect.unit (s := S1024x128) ![0, 0] S1024x1.size inb_S1024x128_S1024x1_0_0)))
    (View.ld x2 (Rect.unit (s := S1024x128) ![0, 1] S1024x1.size inb_S1024x128_S1024x1_0_1))
    (View.ld x2 (Rect.unit (s := S1024x128) ![0, 2] S1024x1.size inb_S1024x128_S1024x1_0_2)) x5 x6 cs

section
variable {Val : EltTy → Type} [∀ e, Nonempty (Val e)] {κ : Kind} {sp : Space} {S : Shape} {e : EltTy}

/-- A store through the whole shape leaves its payload. -/
theorem read_store_whole (v : View sig κ sp S e) (f : v.ty.Contents Val) {off : Fin S.rank → Nat} (h : off = fun _ => 0)
    (inb : ∀ a, off a + S.size a ≤ S.size a) (w : S.Idx → Val e) :
    v.read Val (v.writes Val f [⟨Rect.unit off S.size inb, w⟩]) = w := by
  subst h; exact View.read_writes_whole v f w

/-- A load through the whole shape of a buffer that reads `x` is `x`. -/
theorem readAt_whole {sg : RefSig} (M : Memref sg κ sp S e) (hM : M.IsWhole) {off : Fin S.rank → Nat} (h : off = fun _ => 0)
    (inb : ∀ a, off a + S.size a ≤ S.size a) (x : S.Idx → Val e) :
    M.view.readAt Val (Rect.unit off S.size inb).toLoadRect (hM.unread x) = x := by
  subst h
  exact (View.readAt_eq_ld _ _ _).trans ((View.ld_unit_zero rfl _ _).trans (hM.read_unread x))

/-- A load through a box of a buffer that reads `x` is `x` at the box. -/
theorem readAt_unread {sg : RefSig} (M : Memref sg κ sp S e) (hM : M.IsWhole) (r : Rect S) (x : S.Idx → Val e) :
    M.view.readAt Val r.toLoadRect (hM.unread x) = View.ld x r :=
  (View.readAt_eq_ld _ _ _).trans (congrArg (View.ld · r) (hM.read_unread x))
end

theorem z2 : (![0, 0] : Fin 2 → Nat) = fun _ => 0 := by decide

section
variable {Val : EltTy → Type} [∀ e, Nonempty (Val e)] {κ : Kind} {sp : Space} {S : Shape} {e : EltTy} {sg : RefSig}

/-- A store to a box, read at the box, is its payload. -/
theorem ld_store (v : View sg κ sp S e) (f : v.ty.Contents Val) (r : Rect S) (w : r.shape.Idx → Val e) :
    View.ld (v.read Val (v.writes Val f [⟨r, w⟩])) r = w :=
  funext fun y => View.read_writes_cons_emb v f r w [] y

/-- A store to a box, loaded from the box, is its payload. -/
theorem readAt_store (v : View sg κ sp S e) (f : v.ty.Contents Val) (r : Rect S) (w : r.shape.Idx → Val e) :
    v.readAt Val r.toLoadRect (v.writes Val f [⟨r, w⟩]) = w :=
  (View.readAt_eq_ld _ _ _).trans (ld_store v f r w)

/-- A store to a box leaves the rest. -/
theorem store_off (v : View sg κ sp S e) (f : v.ty.Contents Val) (r : Rect S) (w : r.shape.Idx → Val e) (y : S.Idx) (hy : y ∉ r.set) :
    v.read Val (v.writes Val f [⟨r, w⟩]) y = v.read Val f y :=
  View.read_writes_cons_miss v f ⟨r, w⟩ [] y hy
end

set_option maxHeartbeats 1000000 in
theorem run_A (c : Dev nD) (i : grid1.Coords) (arg2 : Memref sig .tc .vmem S1024x3840 .i8) (harg2 : arg2.IsWhole) (arg3 : Memref sig .tc .vmem S1024x256 .bf16) (harg3 : arg3.IsWhole) (arg4 : Memref sig .tc .vmem S1024x128 .f32) (harg4 : arg4.IsWhole) (arg5 : Memref sig .tc .vmem S1920x1024 .i8) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x3840 .bf16) (harg10 : arg10.IsWhole) (arg11 : Memref sig .tc .vmem S3840x1024 .bf16) (harg11 : arg11.IsWhole) (arg12 : Memref sig .tc .vmem S14x1x1024 .f32) (harg12 : arg12.IsWhole) (hc0 : cond0 i) (hc1 : cond1 i)
    (x0 : Vec F S1024x3840 .i8) (x1 : Vec F S1024x256 .bf16) (x2 : Vec F S1024x128 .f32) (x3 : Vec F S1920x1024 .i8) (x4 : Vec F S256x1024 .bf16) (x5 : Vec F S1x1024 .f32) (x6 : Vec F S1x1024 .f32) (cs : Vec F S14x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare cs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (mixY (k1_pay2 x0) x1 x2 x3 x4 x5 x6 (k1_pay3 x3)) ∗ owns (c : Thread nD τ) arg10 fullShare (k1_pay2 x0) ∗ (∃ d, owns (c : Thread nD τ) arg11 fullShare d) ∗ (∃ cs', ⌜View.ld cs' (csRect i) = k1_pay3 x3 ∧ ∀ y, y ∉ (csRect i).set → cs' y = cs y⌝ ∗ owns (c : Thread nD τ) arg12 fullShare cs')) -∗ K ⟨⟩))
      ⊢ wp frame (wpE (defs₀ (F := F)) Variants.none c none) E (cc1_mixmm i arg2 harg2 arg3 harg3 arg4 harg4 arg5 harg5 arg6 harg6 arg7 harg7 arg8 harg8 arg9 harg9 arg10 harg10 arg11 harg11 arg12 harg12) K := by
  simp only [cc1_mixmm_eq_skeleton]; unfold cc1_mixmm_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg12.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_store_whole _ _ z2 _ _).trans ?_
    unfold mixY
    congr 1
    · sl_unfold_words
      refine congr (congrArg _ ?_) ?_
      · refine (View.readCov_unit_zero _ z2 _ _).trans ?_; refine congrArg k1_pay2 ?_; exact readAt_whole _ harg2 z2 _ _
      · refine (View.readCov_unit_zero _ z2 _ _).trans ?_; refine congrArg k1_pay4 ?_; exact readAt_whole _ harg5 z2 _ _
    · sl_unfold_words
      refine congr (congrArg _ ?_) ?_
      · exact readAt_whole _ harg3 z2 _ _
      · exact readAt_whole _ harg6 z2 _ _
    · sl_unfold_words
      refine congrArg _ ?_
      exact readAt_unread _ harg4 _ _
    · exact readAt_unread _ harg4 _ _
    · exact readAt_unread _ harg4 _ _
    · exact readAt_whole _ harg7 z2 _ _
    · exact readAt_whole _ harg8 z2 _ _
    · sl_unfold_words
      refine (readAt_store _ _ (csRect i) _).trans ?_
      refine congrArg k1_pay3 ?_
      exact readAt_whole _ harg5 z2 _ _
  isplitl [HS0]
  · iexists _; isplitr; swap; · iexact HS0
    ipureintro
    sl_unfold_words
    refine (read_store_whole _ _ z2 _ _).trans ?_
    refine congrArg k1_pay2 ?_
    exact readAt_whole _ harg2 z2 _ _
  isplitl [HS1]
  · iexists _, _; isplitr; swap; · iexact HS1
    ipureintro; rfl
  iexists _
  isplitr; swap
  · iexists _; isplitr; swap; · iexact HS2
    ipureintro; rfl
  ipureintro
  sl_unfold_words
  refine ⟨(ld_store _ _ (csRect i) _).trans ?_, fun y hy => (store_off _ _ (csRect i) _ y hy).trans ?_⟩
  · refine congrArg k1_pay3 ?_
    exact readAt_whole _ harg5 z2 _ _
  · exact congrFun (harg12.read_unread _) y

set_option maxHeartbeats 1000000 in
theorem run_B (c : Dev nD) (i : grid1.Coords) (arg2 : Memref sig .tc .vmem S1024x3840 .i8) (harg2 : arg2.IsWhole) (arg3 : Memref sig .tc .vmem S1024x256 .bf16) (harg3 : arg3.IsWhole) (arg4 : Memref sig .tc .vmem S1024x128 .f32) (harg4 : arg4.IsWhole) (arg5 : Memref sig .tc .vmem S1920x1024 .i8) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x3840 .bf16) (harg10 : arg10.IsWhole) (arg11 : Memref sig .tc .vmem S3840x1024 .bf16) (harg11 : arg11.IsWhole) (arg12 : Memref sig .tc .vmem S14x1x1024 .f32) (harg12 : arg12.IsWhole) (hc0 : cond0 i) (hc1 : ¬ cond1 i)
    (x0 : Vec F S1024x3840 .i8) (x1 : Vec F S1024x256 .bf16) (x2 : Vec F S1024x128 .f32) (x3 : Vec F S1920x1024 .i8) (x4 : Vec F S256x1024 .bf16) (x5 : Vec F S1x1024 .f32) (x6 : Vec F S1x1024 .f32) (cs : Vec F S14x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare cs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (mixY (k1_pay2 x0) x1 x2 x3 x4 x5 x6 (View.ld cs (csRect i))) ∗ owns (c : Thread nD τ) arg10 fullShare (k1_pay2 x0) ∗ (∃ d, owns (c : Thread nD τ) arg11 fullShare d) ∗ owns (c : Thread nD τ) arg12 fullShare cs) -∗ K ⟨⟩))
      ⊢ wp frame (wpE (defs₀ (F := F)) Variants.none c none) E (cc1_mixmm i arg2 harg2 arg3 harg3 arg4 harg4 arg5 harg5 arg6 harg6 arg7 harg7 arg8 harg8 arg9 harg9 arg10 harg10 arg11 harg11 arg12 harg12) K := by
  simp only [cc1_mixmm_eq_skeleton]; unfold cc1_mixmm_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg12.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_store_whole _ _ z2 _ _).trans ?_
    unfold mixY
    congr 1
    · sl_unfold_words
      refine congr (congrArg _ ?_) ?_
      · refine (View.readCov_unit_zero _ z2 _ _).trans ?_; refine congrArg k1_pay2 ?_; exact readAt_whole _ harg2 z2 _ _
      · refine (View.readCov_unit_zero _ z2 _ _).trans ?_; refine congrArg k1_pay4 ?_; exact readAt_whole _ harg5 z2 _ _
    · sl_unfold_words
      refine congr (congrArg _ ?_) ?_
      · exact readAt_whole _ harg3 z2 _ _
      · exact readAt_whole _ harg6 z2 _ _
    · sl_unfold_words
      refine congrArg _ ?_
      exact readAt_unread _ harg4 _ _
    · exact readAt_unread _ harg4 _ _
    · exact readAt_unread _ harg4 _ _
    · exact readAt_whole _ harg7 z2 _ _
    · exact readAt_whole _ harg8 z2 _ _
    · exact readAt_unread _ harg12 _ _
  isplitl [HS0]
  · iexists _; isplitr; swap; · iexact HS0
    ipureintro
    sl_unfold_words
    refine (read_store_whole _ _ z2 _ _).trans ?_
    refine congrArg k1_pay2 ?_
    exact readAt_whole _ harg2 z2 _ _
  isplitl [HS1]
  · iexists _, _; isplitr; swap; · iexact HS1
    ipureintro; rfl
  iexists _; isplitr; swap; · iexact HS2
  ipureintro; exact harg12.read_unread _

set_option maxHeartbeats 1000000 in
theorem run_C (c : Dev nD) (i : grid1.Coords) (arg2 : Memref sig .tc .vmem S1024x3840 .i8) (harg2 : arg2.IsWhole) (arg3 : Memref sig .tc .vmem S1024x256 .bf16) (harg3 : arg3.IsWhole) (arg4 : Memref sig .tc .vmem S1024x128 .f32) (harg4 : arg4.IsWhole) (arg5 : Memref sig .tc .vmem S1920x1024 .i8) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x3840 .bf16) (harg10 : arg10.IsWhole) (arg11 : Memref sig .tc .vmem S3840x1024 .bf16) (harg11 : arg11.IsWhole) (arg12 : Memref sig .tc .vmem S14x1x1024 .f32) (harg12 : arg12.IsWhole) (hc0 : ¬ cond0 i) (hc1 : cond1 i)
    (x0 : Vec F S1024x3840 .i8) (x1 : Vec F S1024x256 .bf16) (x2 : Vec F S1024x128 .f32) (x3 : Vec F S1920x1024 .i8) (x4 : Vec F S256x1024 .bf16) (x5 : Vec F S1x1024 .f32) (x6 : Vec F S1x1024 .f32) (q : Vec F S1024x3840 .bf16) (cs : Vec F S14x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare q ∗ (∃ d, owns (c : Thread nD τ) arg11 fullShare d) ∗ owns (c : Thread nD τ) arg12 fullShare cs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (mixY q x1 x2 x3 x4 x5 x6 (k1_pay3 x3)) ∗ owns (c : Thread nD τ) arg10 fullShare q ∗ (∃ d, owns (c : Thread nD τ) arg11 fullShare d) ∗ (∃ cs', ⌜View.ld cs' (csRect i) = k1_pay3 x3 ∧ ∀ y, y ∉ (csRect i).set → cs' y = cs y⌝ ∗ owns (c : Thread nD τ) arg12 fullShare cs')) -∗ K ⟨⟩))
      ⊢ wp frame (wpE (defs₀ (F := F)) Variants.none c none) E (cc1_mixmm i arg2 harg2 arg3 harg3 arg4 harg4 arg5 harg5 arg6 harg6 arg7 harg7 arg8 harg8 arg9 harg9 arg10 harg10 arg11 harg11 arg12 harg12) K := by
  simp only [cc1_mixmm_eq_skeleton]; unfold cc1_mixmm_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hfs0; obtain rfl := harg12.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_store_whole _ _ z2 _ _).trans ?_
    unfold mixY
    congr 1
    · sl_unfold_words
      refine congr (congrArg _ ?_) ?_
      · exact readAt_whole _ harg10 z2 _ _
      · refine (View.readCov_unit_zero _ z2 _ _).trans ?_; refine congrArg k1_pay4 ?_; exact readAt_whole _ harg5 z2 _ _
    · sl_unfold_words
      refine congr (congrArg _ ?_) ?_
      · exact readAt_whole _ harg3 z2 _ _
      · exact readAt_whole _ harg6 z2 _ _
    · sl_unfold_words
      refine congrArg _ ?_
      exact readAt_unread _ harg4 _ _
    · exact readAt_unread _ harg4 _ _
    · exact readAt_unread _ harg4 _ _
    · exact readAt_whole _ harg7 z2 _ _
    · exact readAt_whole _ harg8 z2 _ _
    · sl_unfold_words
      refine (readAt_store _ _ (csRect i) _).trans ?_
      refine congrArg k1_pay3 ?_
      exact readAt_whole _ harg5 z2 _ _
  isplitl [HS0]
  · iexists _; isplitr; swap; · iexact HS0
    ipureintro; exact harg10.read_unread _
  isplitl [HS1]
  · iexists _, _; isplitr; swap; · iexact HS1
    ipureintro; rfl
  iexists _
  isplitr; swap
  · iexists _; isplitr; swap; · iexact HS2
    ipureintro; rfl
  ipureintro
  sl_unfold_words
  refine ⟨(ld_store _ _ (csRect i) _).trans ?_, fun y hy => (store_off _ _ (csRect i) _ y hy).trans ?_⟩
  · refine congrArg k1_pay3 ?_
    exact readAt_whole _ harg5 z2 _ _
  · exact congrFun (harg12.read_unread _) y

set_option maxHeartbeats 1000000 in
theorem run_D (c : Dev nD) (i : grid1.Coords) (arg2 : Memref sig .tc .vmem S1024x3840 .i8) (harg2 : arg2.IsWhole) (arg3 : Memref sig .tc .vmem S1024x256 .bf16) (harg3 : arg3.IsWhole) (arg4 : Memref sig .tc .vmem S1024x128 .f32) (harg4 : arg4.IsWhole) (arg5 : Memref sig .tc .vmem S1920x1024 .i8) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x3840 .bf16) (harg10 : arg10.IsWhole) (arg11 : Memref sig .tc .vmem S3840x1024 .bf16) (harg11 : arg11.IsWhole) (arg12 : Memref sig .tc .vmem S14x1x1024 .f32) (harg12 : arg12.IsWhole) (hc0 : ¬ cond0 i) (hc1 : ¬ cond1 i)
    (x0 : Vec F S1024x3840 .i8) (x1 : Vec F S1024x256 .bf16) (x2 : Vec F S1024x128 .f32) (x3 : Vec F S1920x1024 .i8) (x4 : Vec F S256x1024 .bf16) (x5 : Vec F S1x1024 .f32) (x6 : Vec F S1x1024 .f32) (q : Vec F S1024x3840 .bf16) (cs : Vec F S14x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare q ∗ (∃ d, owns (c : Thread nD τ) arg11 fullShare d) ∗ owns (c : Thread nD τ) arg12 fullShare cs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (mixY q x1 x2 x3 x4 x5 x6 (View.ld cs (csRect i))) ∗ owns (c : Thread nD τ) arg10 fullShare q ∗ (∃ d, owns (c : Thread nD τ) arg11 fullShare d) ∗ owns (c : Thread nD τ) arg12 fullShare cs) -∗ K ⟨⟩))
      ⊢ wp frame (wpE (defs₀ (F := F)) Variants.none c none) E (cc1_mixmm i arg2 harg2 arg3 harg3 arg4 harg4 arg5 harg5 arg6 harg6 arg7 harg7 arg8 harg8 arg9 harg9 arg10 harg10 arg11 harg11 arg12 harg12) K := by
  simp only [cc1_mixmm_eq_skeleton]; unfold cc1_mixmm_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hfs0; obtain rfl := harg12.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_store_whole _ _ z2 _ _).trans ?_
    unfold mixY
    congr 1
    · sl_unfold_words
      refine congr (congrArg _ ?_) ?_
      · exact readAt_whole _ harg10 z2 _ _
      · refine (View.readCov_unit_zero _ z2 _ _).trans ?_; refine congrArg k1_pay4 ?_; exact readAt_whole _ harg5 z2 _ _
    · sl_unfold_words
      refine congr (congrArg _ ?_) ?_
      · exact readAt_whole _ harg3 z2 _ _
      · exact readAt_whole _ harg6 z2 _ _
    · sl_unfold_words
      refine congrArg _ ?_
      exact readAt_unread _ harg4 _ _
    · exact readAt_unread _ harg4 _ _
    · exact readAt_unread _ harg4 _ _
    · exact readAt_whole _ harg7 z2 _ _
    · exact readAt_whole _ harg8 z2 _ _
    · exact readAt_unread _ harg12 _ _
  isplitl [HS0]
  · iexists _; isplitr; swap; · iexact HS0
    ipureintro; exact harg10.read_unread _
  isplitl [HS1]
  · iexists _, _; isplitr; swap; · iexact HS1
    ipureintro; rfl
  iexists _; isplitr; swap; · iexact HS2
  ipureintro; exact harg12.read_unread _

end Cert.Proof.Mix

end
-- ==== Proof.MixRegion.lean ====
/- The matrix-product call over its whole grid: what its result holds at the end, and its proof that the body keeps
   what the scratch buffers carry from point to point. -/
module

public import proofs.«01_k».proof.Proof.MixRun
public import Idealize.ShloMosaic.Lib.Pipeline.RegionArraysS

@[expose] public section

set_option maxRecDepth 16384

noncomputable section

namespace Cert.Proof.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

theorem before_0_of {c : Dev nD} (dat : Dat τ (Elt F) Unit ℕ (UR sig nD τ) ℕ cfg1 c) (hA : dat.A 0 = W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = W c (Pipeline.arrRef spec1 3))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = W c (Pipeline.arrRef spec1 4))
    (hafter : ∀ t, dat.after 4 t = iblk W c 4 t) (t : Fin cfg1.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = W c (Pipeline.arrRef spec1 5))
    (hafter : ∀ t, dat.after 5 t = iblk W c 5 t) (t : Fin cfg1.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg1 c) (hA : dat.A 6 = W c (Pipeline.arrRef spec1 6))
    (hafter : ∀ t, dat.after 6 t = iblk W c 6 t) (t : Fin cfg1.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The scoped buffers of the core that this call uses neither for staging nor as scratch. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The scoped buffers no window stages: the scratch buffers and the others. -/
theorem scoped_split (c : Dev nD) :
    (Pipeline.scopedRest (Ix := Unit) (Name := ℕ) (U := UR sig nD τ) (Lvl := ℕ) (Val := Elt F) spec1 c : sProp 𝕄)
      = iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ rest c) := by
  simp only [owns_whole]
  exact Pipeline.scopedRest_eq_of_list spec1 c [cc1_scratch0, cc1_scratch1, cc1_scratch2, cc0_stg0_0, cc0_stg1_0, cc0_stg2_0, cc0_stg3_0, cc0_stg3_1, cc0_stg4_0, cc0_stg4_1, cc0_stg5_0, cc0_stg5_1, cc0_stg6_0, cc0_stg6_1, cc0_stg7_0, cc0_stg7_1, cc0_scratch0, cc0_scratch1, cc0_scratch2] (by decide) (by decide)

/-- What the codes' scratch holds before point `n`. -/
def qOk (c : Dev nD) (n : ℕ) (d : Vec F S1024x3840 .bf16) : Prop :=
  ∀ h : n < cfg1.N, n % 14 ≠ 0 → d = k1_pay2 (iblk W c 0 ⟨n, h⟩)
/-- What the column sums' scratch holds before point `n`. -/
def csOk (c : Dev nD) (n : ℕ) (d : Vec F S14x1x1024 .f32) : Prop :=
  ∀ (j : ℕ) (h : j < cfg1.N), j < 14 → j < n → View.ld d (csRect (grid1.coords ⟨j, h⟩)) = k1_pay3 (iblk W c 3 ⟨j, h⟩)

/-- The region's invariant before point `n`. -/
def PhiS (c : Dev nD) (n : ℕ) (_ : n ≤ cfg1.N) : sProp 𝕄 :=
  iprop((∃ d, ⌜qOk W c n d⌝ ∗ owns (c : Thread nD τ) (Memref.whole cc1_scratch0) fullShare d) ∗ (∃ d, owns (c : Thread nD τ) (Memref.whole cc1_scratch1) fullShare d)
    ∗ (∃ d, ⌜csOk W c n d⌝ ∗ owns (c : Thread nD τ) (Memref.whole cc1_scratch2) fullShare d) ∗ rest c)

theorem off2_val (t : Fin cfg1.N) (a : Fin 3) : k1_off2 (grid1.coords t) a = (![t.val % 14, 0, 0] : Fin 3 → ℕ) a := by
  have ht : t.val < 224 := Nat.lt_of_lt_of_eq t.isLt N_1
  have e1 : (grid1.coords t 1).val = t.val / 1 % 14 := Pipeline.Grid.coords_val t 1 (by decide) rfl
  have : k1_off2 (grid1.coords t) = ![t.val % 14, 0, 0] := by
    unfold k1_off2; dsimp only
    rw [e1, Nat.div_one]
    have : (Scalar.indexCast (BitVec.ofNat 32 (t.val % 14))).toNat = t.val % 14 := by
      unfold Scalar.indexCast
      rw [BitVec.toNat_ofNat]; omega
    rw [this]
  rw [this]

/-- Points of one column of the grid read the same rectangle of the column sums. -/
theorem ld_cs_col (d : Vec F S14x1x1024 .f32) (t t' : Fin cfg1.N) (h : t.val % 14 = t'.val % 14) :
    View.ld d (csRect (grid1.coords t)) = (View.ld d (csRect (grid1.coords t')) : Vec F S1x1x1024 .f32) := by
  have e : k1_off2 (grid1.coords t) = k1_off2 (grid1.coords t') := by
    funext a; rw [off2_val, off2_val, h]
  have gen : ∀ (o o' : Fin 3 → ℕ) (i : ∀ a, o a + S1x1x1024.size a ≤ S14x1x1024.size a) (i' : ∀ a, o' a + S1x1x1024.size a ≤ S14x1x1024.size a), o = o' →
      (View.ld d (Rect.unit (s := S14x1x1024) o S1x1x1024.size i) : Vec F S1x1x1024 .f32) = View.ld d (Rect.unit (s := S14x1x1024) o' S1x1x1024.size i') := by
    intro o o' i i' h; subst h; rfl
  exact gen _ _ _ _ e

/-- A store to one column's rectangle leaves the others. -/
theorem ld_cs_keep (d d' : Vec F S14x1x1024 .f32) (t t' : Fin cfg1.N) (h : t.val % 14 ≠ t'.val % 14)
    (hk : ∀ y, y ∉ (csRect (grid1.coords t)).set → d' y = d y) :
    View.ld d' (csRect (grid1.coords t')) = (View.ld d (csRect (grid1.coords t')) : Vec F S1x1x1024 .f32) := by
  funext y
  refine hk _ fun hm => ?_
  have h0 := (Rect.mem_set_unit (inb := k1_off2_inb _)).mp hm 0
  have ei : ((csRect (grid1.coords t')).idx y 0).val = (csRect (grid1.coords t')).off 0 + 1 * (y 0).val := rfl
  rw [ei] at h0
  have hy : (y 0).val = 0 := by have := (y 0).isLt; change (y 0).val < 1 at this; omega
  have h1 : (csRect (grid1.coords t')).off 0 = t'.val % 14 := off2_val t' 0
  rw [off2_val, h1, hy] at h0
  have e : S1x1x1024.size 0 = 1 := rfl
  have e0 : (![t.val % 14, 0, 0] : Fin 3 → ℕ) 0 = t.val % 14 := rfl
  rw [e, e0] at h0
  exact h (by omega)

/-- The result block that the body leaves at point `t`. -/
def outY (c : Dev nD) (t : Fin cfg1.N) : Vec F S1024x1024 .bf16 :=
  mixY (k1_pay2 (iblk W c 0 t)) (iblk W c 1 t) (iblk W c 2 t) (iblk W c 3 t) (iblk W c 4 t) (iblk W c 5 t) (iblk W c 6 t) (k1_pay3 (iblk W c 3 t))

/-- The proof data of the call on core `c`. -/
def dats (c : Dev nD) : Dat τ (Elt F) Unit ℕ (UR sig nD τ) ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => outY W c t
  Φ t := PhiS W c t.val (Nat.le_of_lt_succ t.isLt)
  q _ := fullShare
  owed _ := 0

theorem A_eq (c : Dev nD) (w : Fin cfg1.W) : (dats W c).A w = W c (Pipeline.arrRef spec1 w) := by
  dsimp only [dats]

theorem PhiS_castSucc (c : Dev nD) (t : Fin cfg1.N) :
    (dats W c).Φ t.castSucc = PhiS W c t.val (Nat.le_of_lt t.isLt) := by
  dsimp only [dats]; exact Pipeline.Dat.Φ_castSucc (PhiS W c) t

theorem after_0 (c : Dev nD) (t : Fin cfg1.N) : (dats W c).after 0 t = iblk W c 0 t := by dsimp only [dats]
theorem after_1 (c : Dev nD) (t : Fin cfg1.N) : (dats W c).after 1 t = iblk W c 1 t := by dsimp only [dats]
theorem after_2 (c : Dev nD) (t : Fin cfg1.N) : (dats W c).after 2 t = iblk W c 2 t := by dsimp only [dats]
theorem after_3 (c : Dev nD) (t : Fin cfg1.N) : (dats W c).after 3 t = iblk W c 3 t := by dsimp only [dats]
theorem after_4 (c : Dev nD) (t : Fin cfg1.N) : (dats W c).after 4 t = iblk W c 4 t := by dsimp only [dats]
theorem after_5 (c : Dev nD) (t : Fin cfg1.N) : (dats W c).after 5 t = iblk W c 5 t := by dsimp only [dats]
theorem after_6 (c : Dev nD) (t : Fin cfg1.N) : (dats W c).after 6 t = iblk W c 6 t := by dsimp only [dats]
theorem after_7 (c : Dev nD) (t : Fin cfg1.N) : (dats W c).after 7 t = outY W c t := by dsimp only [dats]
theorem before_0 (c : Dev nD) (t : Fin cfg1.N) (d) : (dats W c).before 0 t d = iblk W c 0 t :=
  before_0_of W (dats W c) (A_eq W c 0) (after_0 W c) t d
theorem before_1 (c : Dev nD) (t : Fin cfg1.N) (d) : (dats W c).before 1 t d = iblk W c 1 t :=
  before_1_of W (dats W c) (A_eq W c 1) (after_1 W c) t d
theorem before_2 (c : Dev nD) (t : Fin cfg1.N) (d) : (dats W c).before 2 t d = iblk W c 2 t :=
  before_2_of W (dats W c) (A_eq W c 2) (after_2 W c) t d
theorem before_3 (c : Dev nD) (t : Fin cfg1.N) (d) : (dats W c).before 3 t d = iblk W c 3 t :=
  before_3_of W (dats W c) (A_eq W c 3) (after_3 W c) t d
theorem before_4 (c : Dev nD) (t : Fin cfg1.N) (d) : (dats W c).before 4 t d = iblk W c 4 t :=
  before_4_of W (dats W c) (A_eq W c 4) (after_4 W c) t d
theorem before_5 (c : Dev nD) (t : Fin cfg1.N) (d) : (dats W c).before 5 t d = iblk W c 5 t :=
  before_5_of W (dats W c) (A_eq W c 5) (after_5 W c) t d
theorem before_6 (c : Dev nD) (t : Fin cfg1.N) (d) : (dats W c).before 6 t d = iblk W c 6 t :=
  before_6_of W (dats W c) (A_eq W c 6) (after_6 W c) t d

/-- What the body is called with at point `t`, the windows one by one. -/
def bodyPre (c : Dev nD) (t : Fin cfg1.N) : sProp 𝕄 :=
  iprop((dats W c).Φ t.castSucc ∗ (dats W c).owesAt () t.castSucc
    ∗ (∃ d, owns (c : Thread nD τ) (st1_0 t) fullShare ((dats W c).before 0 t d))
    ∗ (∃ d, owns (c : Thread nD τ) (st1_1 t) fullShare ((dats W c).before 1 t d))
    ∗ (∃ d, owns (c : Thread nD τ) (st1_2 t) fullShare ((dats W c).before 2 t d))
    ∗ (∃ d, owns (c : Thread nD τ) (st1_3 t) fullShare ((dats W c).before 3 t d))
    ∗ (∃ d, owns (c : Thread nD τ) (st1_4 t) fullShare ((dats W c).before 4 t d))
    ∗ (∃ d, owns (c : Thread nD τ) (st1_5 t) fullShare ((dats W c).before 5 t d))
    ∗ (∃ d, owns (c : Thread nD τ) (st1_6 t) fullShare ((dats W c).before 6 t d))
    ∗ (∃ d, owns (c : Thread nD τ) (st1_7 t) fullShare ((dats W c).before 7 t d)))

/-- What it returns. -/
def bodyPost (c : Dev nD) (t : Fin cfg1.N) : sProp 𝕄 :=
  iprop((dats W c).Φ t.succ ∗ (dats W c).owesAt () t.succ
    ∗ owns (c : Thread nD τ) (st1_0 t) fullShare ((dats W c).after 0 t)
    ∗ owns (c : Thread nD τ) (st1_1 t) fullShare ((dats W c).after 1 t)
    ∗ owns (c : Thread nD τ) (st1_2 t) fullShare ((dats W c).after 2 t)
    ∗ owns (c : Thread nD τ) (st1_3 t) fullShare ((dats W c).after 3 t)
    ∗ owns (c : Thread nD τ) (st1_4 t) fullShare ((dats W c).after 4 t)
    ∗ owns (c : Thread nD τ) (st1_5 t) fullShare ((dats W c).after 5 t)
    ∗ owns (c : Thread nD τ) (st1_6 t) fullShare ((dats W c).after 6 t)
    ∗ owns (c : Thread nD τ) (st1_7 t) fullShare ((dats W c).after 7 t))

theorem fetched_eq_0 (c : Dev nD) (t : Fin cfg1.N) (d) : (dats W c).fetched 0 t d = iblk W c 0 t := by
  unfold Dat.fetched Dat.blockOf iblk; rw [A_eq]; rfl
theorem fetched_eq_3 (c : Dev nD) (t : Fin cfg1.N) (d) : (dats W c).fetched 3 t d = iblk W c 3 t := by
  unfold Dat.fetched Dat.blockOf iblk; rw [A_eq]; rfl

/-- The block of window 0 is the same along a row of the grid. -/
theorem iblk0_prev (c : Dev nD) (n : ℕ) (h : n + 1 < cfg1.N) (hn : (n + 1) % 14 ≠ 0) :
    iblk W c 0 ⟨n + 1, h⟩ = iblk W c 0 ⟨n, Nat.lt_of_succ_lt h⟩ := by
  have hf : (cfg1.win 0).fetch ⟨n + 1, h⟩ = false := by
    have := (fetch1_0 ⟨n + 1, h⟩).not.mpr hn
    simpa using this
  obtain ⟨_, hix⟩ := (cfg1.win 0).index_eq_of_fetch rfl _ hf
  rw [← fetched_eq_0 W c ⟨n + 1, h⟩ (iblk W c 0 ⟨n, Nat.lt_of_succ_lt h⟩), ← fetched_eq_0 W c ⟨n, Nat.lt_of_succ_lt h⟩ (iblk W c 0 ⟨n, Nat.lt_of_succ_lt h⟩)]
  exact (dats W c).fetched_congr 0 hix rfl _

/-- The block of window 3 is the same down a column of the grid. -/
theorem iblk3_col (c : Dev nD) (t t' : Fin cfg1.N) (h : t.val % 14 = t'.val % 14) : iblk W c 3 t = iblk W c 3 t' := by
  have e : (grid1.coords t 1) = (grid1.coords t' 1) := by
    apply Fin.ext
    have e1 : (grid1.coords t 1).val = t.val / 1 % 14 := Pipeline.Grid.coords_val t 1 (by decide) rfl
    have e2 : (grid1.coords t' 1).val = t'.val / 1 % 14 := Pipeline.Grid.coords_val t' 1 (by decide) rfl
    rw [e1, e2, Nat.div_one, Nat.div_one, h]
  have hix : (cfg1.win 3).index t = (cfg1.win 3).index t' := by
    show cc1_transform_3 (grid1.coords t) = cc1_transform_3 (grid1.coords t')
    unfold cc1_transform_3; dsimp only; rw [e]
  rw [← fetched_eq_3 W c t (iblk W c 3 t'), ← fetched_eq_3 W c t' (iblk W c 3 t')]
  exact (dats W c).fetched_congr 3 hix rfl _

theorem qOk_succ (c : Dev nD) (t : Fin cfg1.N) : qOk W c (t.val + 1) (k1_pay2 (iblk W c 0 t)) := by
  intro h hn
  rw [iblk0_prev W c t.val h hn]

theorem csOk_store (c : Dev nD) (t : Fin cfg1.N) (ht : t.val < 14) (d d' : Vec F S14x1x1024 .f32) (h : csOk W c t.val d)
    (hs : View.ld d' (csRect (grid1.coords t)) = k1_pay3 (iblk W c 3 t))
    (hk : ∀ y, y ∉ (csRect (grid1.coords t)).set → d' y = d y) : csOk W c (t.val + 1) d' := by
  intro j hj hj14 hjt
  rcases Nat.lt_succ_iff_lt_or_eq.mp hjt with hlt | rfl
  · exact (ld_cs_keep d d' t ⟨j, hj⟩ (by show t.val % 14 ≠ j % 14; omega) hk).trans (h j hj hj14 hlt)
  · exact hs

theorem csOk_keep (c : Dev nD) (t : Fin cfg1.N) (ht : ¬ t.val < 14) (d : Vec F S14x1x1024 .f32) (h : csOk W c t.val d) : csOk W c (t.val + 1) d :=
  fun j hj hj14 hjt => h j hj hj14 (by omega)

theorem csOk_read (c : Dev nD) (t : Fin cfg1.N) (ht : ¬ t.val < 14) (d : Vec F S14x1x1024 .f32) (h : csOk W c t.val d) :
    (View.ld d (csRect (grid1.coords t)) : Vec F S1x1x1024 .f32) = k1_pay3 (iblk W c 3 t) := by
  have hl : t.val % 14 < cfg1.N := lt_of_le_of_lt (Nat.mod_le _ _) t.isLt
  have e : t.val % 14 = (⟨t.val % 14, hl⟩ : Fin cfg1.N).val % 14 := by show _ = t.val % 14 % 14; omega
  rw [ld_cs_col d t ⟨t.val % 14, hl⟩ e, iblk3_col W c t ⟨t.val % 14, hl⟩ e]
  exact h _ hl (by omega) (by omega)

set_option maxHeartbeats 12800000 in
/-- The body at any point takes the invariant before the point to the invariant after it. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6]
  rw [show (dats W c).owesAt () t.succ = (dats W c).owesAt () t.castSucc from rfl,
    after_0, after_1, after_2, after_3, after_4, after_5, after_6, after_7]
  rw [PhiS_castSucc W c t, show (dats W c).Φ t.succ = PhiS W c (t.val + 1) t.isLt from rfl]
  unfold PhiS outY
  iintro ⟨⟨⟨%q, %hq, HS0⟩, HS1, ⟨%cs, %hcs, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 14 = 0
  · by_cases h1 : t.val < 14
    · iapply (run_A c (grid1.coords t) _ _ _ _ _ _ _ _ _ _ _ _ _ _ _ _ _ _ _ _ _ _ ((hcond0 t).mpr h0) ((hcond1 t).mpr h1) (iblk W c 0 t) (iblk W c 1 t) (iblk W c 2 t) (iblk W c 3 t) (iblk W c 4 t) (iblk W c 5 t) (iblk W c 6 t) cs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      isplitl [HS2]; · iexact HS2
      iintro ⟨H0, H1, H2, H3, H4, H5, H6, H7, HS0, HS1, ⟨%cs', %hcs', HS2⟩⟩
      isplitl [HS0 HS1 HS2 HR]
      · isplitl [HS0]; · (iexists _; isplitr; (· ipureintro; exact qOk_succ W c t); iexact HS0)
        isplitl [HS1]; · iexact HS1
        isplitl [HS2]; · (iexists _; isplitr; (· ipureintro; exact csOk_store W c t h1 cs cs' hcs hcs'.1 hcs'.2); iexact HS2)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [← csOk_read W c t h1 cs hcs]
      iapply (run_B c (grid1.coords t) _ _ _ _ _ _ _ _ _ _ _ _ _ _ _ _ _ _ _ _ _ _ ((hcond0 t).mpr h0) (fun h => h1 ((hcond1 t).mp h)) (iblk W c 0 t) (iblk W c 1 t) (iblk W c 2 t) (iblk W c 3 t) (iblk W c 4 t) (iblk W c 5 t) (iblk W c 6 t) cs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      isplitl [HS2]; · iexact HS2
      iintro ⟨H0, H1, H2, H3, H4, H5, H6, H7, HS0, HS1, HS2⟩
      isplitl [HS0 HS1 HS2 HR]
      · isplitl [HS0]; · (iexists _; isplitr; (· ipureintro; exact qOk_succ W c t); iexact HS0)
        isplitl [HS1]; · iexact HS1
        isplitl [HS2]; · (iexists _; isplitr; (· ipureintro; exact csOk_keep W c t h1 cs hcs); iexact HS2)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h1 : t.val < 14
    · obtain rfl := hq t.isLt h0
      iapply (run_C c (grid1.coords t) _ _ _ _ _ _ _ _ _ _ _ _ _ _ _ _ _ _ _ _ _ _ (fun h => h0 ((hcond0 t).mp h)) ((hcond1 t).mpr h1) (iblk W c 0 t) (iblk W c 1 t) (iblk W c 2 t) (iblk W c 3 t) (iblk W c 4 t) (iblk W c 5 t) (iblk W c 6 t) (k1_pay2 (iblk W c 0 t)) cs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, ⟨%cs', %hcs', HS2⟩⟩
      isplitl [HS0 HS1 HS2 HR]
      · isplitl [HS0]; · (iexists _; isplitr; (· ipureintro; exact qOk_succ W c t); iexact HS0)
        isplitl [HS1]; · iexact HS1
        isplitl [HS2]; · (iexists _; isplitr; (· ipureintro; exact csOk_store W c t h1 cs cs' hcs hcs'.1 hcs'.2); iexact HS2)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · obtain rfl := hq t.isLt h0
      rw [← csOk_read W c t h1 cs hcs]
      iapply (run_D c (grid1.coords t) _ _ _ _ _ _ _ _ _ _ _ _ _ _ _ _ _ _ _ _ _ _ (fun h => h0 ((hcond0 t).mp h)) (fun h => h1 ((hcond1 t).mp h)) (iblk W c 0 t) (iblk W c 1 t) (iblk W c 2 t) (iblk W c 3 t) (iblk W c 4 t) (iblk W c 5 t) (iblk W c 6 t) (k1_pay2 (iblk W c 0 t)) cs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 HR]
      · isplitl [HS0]; · (iexists _; isplitr; (· ipureintro; exact qOk_succ W c t); iexact HS0)
        isplitl [HS1]; · iexact HS1
        isplitl [HS2]; · (iexists _; isplitr; (· ipureintro; exact csOk_keep W c t h1 cs hcs); iexact HS2)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dats W c) (defs₀ (F := F)) Variants.none () Set.univ := fun t => by
  rw [bigSep_W1, bigSep_W1, defs₀_row]
  exact triple_restated (sound_body W c t) rfl .rfl fun _ => .rfl

theorem hin (c : Dev nD) : iprop(Pipeline.scopedRest spec1 c ∗ emp) ⊢ (dats W c).Φ 0 := by
  rw [show (dats W c).Φ 0 = PhiS W c 0 (Nat.zero_le _) from rfl, scoped_split]
  unfold PhiS
  iintro ⟨⟨⟨%d0, H0⟩, H1, ⟨%d2, H2⟩, HR⟩, -⟩
  isplitl [H0]; · (iexists d0; isplitr; (· ipureintro; intro h hn; exact absurd (Nat.zero_mod _) hn); iexact H0)
  isplitl [H1]; · iexact H1
  isplitl [H2]; · (iexists d2; isplitr; (· ipureintro; intro j hj _ h; exact absurd h (Nat.not_lt_zero _)); iexact H2)
  iexact HR

theorem hout (c : Dev nD) : (dats W c).Φ (Fin.last cfg1.N) ⊢ iprop(Pipeline.scopedRest spec1 c ∗ emp) := by
  rw [show (dats W c).Φ (Fin.last cfg1.N) = PhiS W c cfg1.N (Nat.le_refl _) from rfl, scoped_split]
  unfold PhiS
  iintro ⟨⟨%d0, -, H0⟩, H1, ⟨%d2, -, H2⟩, HR⟩
  isplitl [H0 H1 H2 HR]
  · isplitl [H0]; · iexists _; iexact H0
    isplitl [H1]; · iexact H1
    isplitl [H2]; · iexists _; iexact H2
    iexact HR
  iempintro

end Cert.Proof.Mix

end
-- ==== Proof.QuantRun.lean ====
/- The quantising kernel's body at one grid point: what it leaves in its four result blocks and its scratch buffers,
   as a function of the point's input blocks and of what the scratch held. -/
module

public import proofs.«01_k».proof.Proof.MixRun

@[expose] public section

set_option maxRecDepth 16384

noncomputable section

namespace Cert.Proof.Quant

open Cert.KernelIdeal Cert.KernelIdeal.Gen Cert.Proof.Mix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: the point is the first of the grid. -/
abbrev cond0 (i : grid0.Coords) : Prop := (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    simp only [cond0, e0]
    word_cmp
   : ∀ t : Fin grid0.N, cond0 (grid0.coords t) ↔ t.val = 0)

/-- The row numbers of a column block. -/
def colIota : IVec S4096x128 32 := iota .tc S4096x128 32 [0] iota_S4096x128_d0_w32

/-- The row of the mask's scratch that the body writes and reads. -/
abbrev padRect : Rect S8x4096 := Rect.unit (s := S8x4096) ![0, 0] S1x4096.size inb_S8x4096_S1x4096_0_0

/-- Column block 0 of the gather matrix, from the loads of the index rows. -/
def pc0 (p : (r : Rect S6x640) → Vec F r.shape .i32) : Vec F S4096x128 .bf16 :=
  k0_pay6 (k0_pay5 (p (Rect.unit (s := S6x640) ![0, 0] S1x128.size inb_S6x640_S1x128_0_0)) (p (Rect.unit (s := S6x640) ![1, 0] S1x128.size inb_S6x640_S1x128_1_0)) (p (Rect.unit (s := S6x640) ![2, 0] S1x128.size inb_S6x640_S1x128_2_0)) (p (Rect.unit (s := S6x640) ![3, 0] S1x128.size inb_S6x640_S1x128_3_0)) (p (Rect.unit (s := S6x640) ![4, 0] S1x128.size inb_S6x640_S1x128_4_0)) (p (Rect.unit (s := S6x640) ![5, 0] S1x128.size inb_S6x640_S1x128_5_0)))

/-- Column block 1 of the gather matrix, from the loads of the index rows. -/
def pc1 (p : (r : Rect S6x640) → Vec F r.shape .i32) : Vec F S4096x128 .bf16 :=
  k0_pay8 (k0_pay7 colIota (p (Rect.unit (s := S6x640) ![0, 128] S1x128.size inb_S6x640_S1x128_0_128)) (p (Rect.unit (s := S6x640) ![1, 128] S1x128.size inb_S6x640_S1x128_1_128)) (p (Rect.unit (s := S6x640) ![2, 128] S1x128.size inb_S6x640_S1x128_2_128)) (p (Rect.unit (s := S6x640) ![3, 128] S1x128.size inb_S6x640_S1x128_3_128)) (p (Rect.unit (s := S6x640) ![4, 128] S1x128.size inb_S6x640_S1x128_4_128)) (p (Rect.unit (s := S6x640) ![5, 128] S1x128.size inb_S6x640_S1x128_5_128)))

/-- Column block 2 of the gather matrix, from the loads of the index rows. -/
def pc2 (p : (r : Rect S6x640) → Vec F r.shape .i32) : Vec F S4096x128 .bf16 :=
  k0_pay11 (k0_pay9 colIota (p (Rect.unit (s := S6x640) ![0, 256] S1x128.size inb_S6x640_S1x128_0_256)) (p (Rect.unit (s := S6x640) ![1, 256] S1x128.size inb_S6x640_S1x128_1_256)) (p (Rect.unit (s := S6x640) ![2, 256] S1x128.size inb_S6x640_S1x128_2_256)) (p (Rect.unit (s := S6x640) ![3, 256] S1x128.size inb_S6x640_S1x128_3_256)) (p (Rect.unit (s := S6x640) ![4, 256] S1x128.size inb_S6x640_S1x128_4_256))) (k0_pay10 colIota (p (Rect.unit (s := S6x640) ![5, 256] S1x128.size inb_S6x640_S1x128_5_256)))

/-- Column block 3 of the gather matrix, from the loads of the index rows. -/
def pc3 (p : (r : Rect S6x640) → Vec F r.shape .i32) : Vec F S4096x128 .bf16 :=
  k0_pay13 colIota (k0_pay12 colIota (p (Rect.unit (s := S6x640) ![0, 384] S1x128.size inb_S6x640_S1x128_0_384)) (p (Rect.unit (s := S6x640) ![1, 384] S1x128.size inb_S6x640_S1x128_1_384)) (p (Rect.unit (s := S6x640) ![2, 384] S1x128.size inb_S6x640_S1x128_2_384)) (p (Rect.unit (s := S6x640) ![3, 384] S1x128.size inb_S6x640_S1x128_3_384)) (p (Rect.unit (s := S6x640) ![4, 384] S1x128.size inb_S6x640_S1x128_4_384))) (p (Rect.unit (s := S6x640) ![5, 384] S1x128.size inb_S6x640_S1x128_5_384))

/-- Column block 4 of the gather matrix, from the loads of the index rows. -/
def pc4 (p : (r : Rect S6x640) → Vec F r.shape .i32) : Vec F S4096x128 .bf16 :=
  k0_pay15 colIota (k0_pay14 colIota (p (Rect.unit (s := S6x640) ![0, 512] S1x128.size inb_S6x640_S1x128_0_512)) (p (Rect.unit (s := S6x640) ![1, 512] S1x128.size inb_S6x640_S1x128_1_512)) (p (Rect.unit (s := S6x640) ![2, 512] S1x128.size inb_S6x640_S1x128_2_512)) (p (Rect.unit (s := S6x640) ![3, 512] S1x128.size inb_S6x640_S1x128_3_512)) (p (Rect.unit (s := S6x640) ![4, 512] S1x128.size inb_S6x640_S1x128_4_512))) (p (Rect.unit (s := S6x640) ![5, 512] S1x128.size inb_S6x640_S1x128_5_512))

/-- Column block 5 of the gather matrix, from the loads of the index rows. -/
def pc5 (o : (r : Rect S1x256) → Vec F r.shape .i32) : Vec F S4096x128 .bf16 :=
  k0_pay20 colIota k0_pay18 (k0_pay19 colIota (o (Rect.unit (s := S1x256) ![0, 0] S1x128.size inb_S1x256_S1x128_0_0))) (o (Rect.unit (s := S1x256) ![0, 128] S1x128.size inb_S1x256_S1x128_0_128))

/-- The gather matrix: its six column blocks, as stored. -/
def pcL (p : (r : Rect S6x640) → Vec F r.shape .i32) (o : (r : Rect S1x256) → Vec F r.shape .i32) : List (View.Piece (Elt F) S4096x768 .bf16) :=
  [⟨Rect.unit (s := S4096x768) ![0, 640] S4096x128.size inb_S4096x768_S4096x128_0_640, pc5 (F := F) o⟩,
    ⟨Rect.unit (s := S4096x768) ![0, 512] S4096x128.size inb_S4096x768_S4096x128_0_512, pc4 (F := F) p⟩,
    ⟨Rect.unit (s := S4096x768) ![0, 384] S4096x128.size inb_S4096x768_S4096x128_0_384, pc3 (F := F) p⟩,
    ⟨Rect.unit (s := S4096x768) ![0, 256] S4096x128.size inb_S4096x768_S4096x128_0_256, pc2 (F := F) p⟩,
    ⟨Rect.unit (s := S4096x768) ![0, 128] S4096x128.size inb_S4096x768_S4096x128_0_128, pc1 (F := F) p⟩,
    ⟨Rect.unit (s := S4096x768) ![0, 0] S4096x128.size inb_S4096x768_S4096x128_0_0, pc0 (F := F) p⟩]
def pcV (p : Vec F S6x640 .i32) (o : Vec F S1x256 .i32) : Vec F S4096x768 .bf16 := View.canon (pcL (View.ld p) (View.ld o))

/-- The selection matrix of the outlier columns: its two column blocks, as stored. -/
def poL (o : (r : Rect S1x256) → Vec F r.shape .i32) : List (View.Piece (Elt F) S4096x256 .bf16) :=
  [⟨Rect.unit (s := S4096x256) ![0, 128] S4096x128.size inb_S4096x256_S4096x128_0_128, k0_pay17 colIota (o (Rect.unit (s := S1x256) ![0, 128] S1x128.size inb_S1x256_S1x128_0_128))⟩,
    ⟨Rect.unit (s := S4096x256) ![0, 0] S4096x128.size inb_S4096x256_S4096x128_0_0, k0_pay16 colIota (o (Rect.unit (s := S1x256) ![0, 0] S1x128.size inb_S1x256_S1x128_0_0))⟩]
def poV (o : Vec F S1x256 .i32) : Vec F S4096x256 .bf16 := View.canon (poL (View.ld o))

/-- The mask row. -/
def padV (x2 : Vec F S256x1 .i32) : Vec F S1x4096 .f32 := k0_pay23 (k0_pay21 x2) k0_pay22

/-- The codes' block from the packed sums: its six column blocks, as stored. -/
def qL (v39 : Vec F S256x768 .f32) : List (View.Piece (Elt F) S256x3840 .i8) :=
  [⟨Rect.unit (s := S256x3840) ![0, 3200] S256x640.size inb_S256x3840_S256x640_0_3200, k0_pay2 (k0_pay30 v39)⟩,
    ⟨Rect.unit (s := S256x3840) ![0, 2560] S256x640.size inb_S256x3840_S256x640_0_2560, k0_pay1 (k0_pay35 v39) k0_pay36⟩,
    ⟨Rect.unit (s := S256x3840) ![0, 1920] S256x640.size inb_S256x3840_S256x640_0_1920, k0_pay34 v39⟩,
    ⟨Rect.unit (s := S256x3840) ![0, 1280] S256x640.size inb_S256x3840_S256x640_0_1280, k0_pay33 v39⟩,
    ⟨Rect.unit (s := S256x3840) ![0, 640] S256x640.size inb_S256x3840_S256x640_0_640, k0_pay32 v39⟩,
    ⟨Rect.unit (s := S256x3840) ![0, 0] S256x640.size inb_S256x3840_S256x640_0_0, k0_pay31 v39⟩]
def qV (v39 : Vec F S256x768 .f32) : Vec F S256x3840 .i8 := View.canon (qL v39)

/-- The four result blocks, from the activation block, the mask row and the two matrices. -/
def outQ (x : Vec F S256x4096 .bf16) (pad : Vec F S1x4096 .f32) (pc : Vec F S4096x768 .bf16) : Vec F S256x3840 .i8 := qV (k0_pay28 x pad pc)
def outX (x : Vec F S256x4096 .bf16) (po : Vec F S4096x256 .bf16) : Vec F S256x256 .bf16 := k0_pay29 (k0_pay24 x) po
def outS (x : Vec F S256x4096 .bf16) (pad : Vec F S1x4096 .f32) (pc : Vec F S4096x768 .bf16) : Vec F S256x128 .f32 :=
  k0_pay3 (k0_pay26 x pad) (k0_pay27 x pad) (k0_pay28 x pad pc)
def outT (x : Vec F S256x4096 .bf16) (pad : Vec F S1x4096 .f32) (pc : Vec F S4096x768 .bf16) : Vec F S8x256 .f32 :=
  k0_pay4 (k0_pay26 x pad) (k0_pay27 x pad) (k0_pay28 x pad pc)

theorem pc_covers (p : (r : Rect S6x640) → Vec F r.shape .i32) (o : (r : Rect S1x256) → Vec F r.shape .i32) (y : S4096x768.Idx) : ∃ q ∈ pcL p o, y ∈ q.1.set := by
  have h0 : (y 0).val < 4096 := (y 0).isLt
  have h1 : (y 1).val < 768 := (y 1).isLt
  have key : ∀ (off : ℕ) (inb : _) (w : S4096x128.Idx → Elt F .bf16), (⟨Rect.unit (s := S4096x768) ![0, off] S4096x128.size inb, w⟩ : View.Piece (Elt F) S4096x768 .bf16) ∈ pcL p o →
      off ≤ (y 1).val → (y 1).val < off + 128 → ∃ q ∈ pcL p o, y ∈ q.1.set := fun off inb w hm h2 h3 =>
    ⟨⟨_, w⟩, hm, (Rect.mem_set_unit (inb := inb)).mpr (Fin.forall_fin_two.mpr ⟨⟨Nat.zero_le _, by show (y 0).val < 0 + 4096; omega⟩, h2, h3⟩)⟩
  have : (y 1).val < 128 ∨ (128 ≤ (y 1).val ∧ (y 1).val < 256) ∨ (256 ≤ (y 1).val ∧ (y 1).val < 384) ∨ (384 ≤ (y 1).val ∧ (y 1).val < 512) ∨ (512 ≤ (y 1).val ∧ (y 1).val < 640) ∨ 640 ≤ (y 1).val := by omega
  rcases this with h | h | h | h | h | h
  · exact key 0 inb_S4096x768_S4096x128_0_0 _ (by unfold pcL; exact List.Mem.tail _ (List.Mem.tail _ (List.Mem.tail _ (List.Mem.tail _ (List.Mem.tail _ (List.Mem.head _)))))) (by omega) (by omega)
  · exact key 128 inb_S4096x768_S4096x128_0_128 _ (by unfold pcL; exact List.Mem.tail _ (List.Mem.tail _ (List.Mem.tail _ (List.Mem.tail _ (List.Mem.head _))))) (by omega) (by omega)
  · exact key 256 inb_S4096x768_S4096x128_0_256 _ (by unfold pcL; exact List.Mem.tail _ (List.Mem.tail _ (List.Mem.tail _ (List.Mem.head _)))) (by omega) (by omega)
  · exact key 384 inb_S4096x768_S4096x128_0_384 _ (by unfold pcL; exact List.Mem.tail _ (List.Mem.tail _ (List.Mem.head _))) (by omega) (by omega)
  · exact key 512 inb_S4096x768_S4096x128_0_512 _ (by unfold pcL; exact List.Mem.tail _ (List.Mem.head _)) (by omega) (by omega)
  · exact key 640 inb_S4096x768_S4096x128_0_640 _ (by unfold pcL; exact List.Mem.head _) (by omega) (by omega)

theorem po_covers (o : (r : Rect S1x256) → Vec F r.shape .i32) (y : S4096x256.Idx) : ∃ q ∈ poL o, y ∈ q.1.set := by
  have h0 : (y 0).val < 4096 := (y 0).isLt
  have h1 : (y 1).val < 256 := (y 1).isLt
  have key : ∀ (off : ℕ) (inb : _) (w : S4096x128.Idx → Elt F .bf16), (⟨Rect.unit (s := S4096x256) ![0, off] S4096x128.size inb, w⟩ : View.Piece (Elt F) S4096x256 .bf16) ∈ poL o →
      off ≤ (y 1).val → (y 1).val < off + 128 → ∃ q ∈ poL o, y ∈ q.1.set := fun off inb w hm h2 h3 =>
    ⟨⟨_, w⟩, hm, (Rect.mem_set_unit (inb := inb)).mpr (Fin.forall_fin_two.mpr ⟨⟨Nat.zero_le _, by show (y 0).val < 0 + 4096; omega⟩, h2, h3⟩)⟩
  have : (y 1).val < 128 ∨ 128 ≤ (y 1).val := by omega
  rcases this with h | h
  · exact key 0 inb_S4096x256_S4096x128_0_0 _ (by unfold poL; exact List.Mem.tail _ (List.Mem.head _)) (by omega) (by omega)
  · exact key 128 inb_S4096x256_S4096x128_0_128 _ (by unfold poL; exact List.Mem.head _) (by omega) (by omega)

theorem q_covers (v : Vec F S256x768 .f32) (y : S256x3840.Idx) : ∃ q ∈ qL v, y ∈ q.1.set := by
  have h0 : (y 0).val < 256 := (y 0).isLt
  have h1 : (y 1).val < 3840 := (y 1).isLt
  have key : ∀ (off : ℕ) (inb : _) (w : S256x640.Idx → Elt F .i8), (⟨Rect.unit (s := S256x3840) ![0, off] S256x640.size inb, w⟩ : View.Piece (Elt F) S256x3840 .i8) ∈ qL v →
      off ≤ (y 1).val → (y 1).val < off + 640 → ∃ q ∈ qL v, y ∈ q.1.set := fun off inb w hm h2 h3 =>
    ⟨⟨_, w⟩, hm, (Rect.mem_set_unit (inb := inb)).mpr (Fin.forall_fin_two.mpr ⟨⟨Nat.zero_le _, by show (y 0).val < 0 + 256; omega⟩, h2, h3⟩)⟩
  have : (y 1).val < 640 ∨ (640 ≤ (y 1).val ∧ (y 1).val < 1280) ∨ (1280 ≤ (y 1).val ∧ (y 1).val < 1920) ∨ (1920 ≤ (y 1).val ∧ (y 1).val < 2560) ∨ (2560 ≤ (y 1).val ∧ (y 1).val < 3200) ∨ 3200 ≤ (y 1).val := by omega
  rcases this with h | h | h | h | h | h
  · exact key 0 inb_S256x3840_S256x640_0_0 _ (by unfold qL; exact List.Mem.tail _ (List.Mem.tail _ (List.Mem.tail _ (List.Mem.tail _ (List.Mem.tail _ (List.Mem.head _)))))) (by omega) (by omega)
  · exact key 640 inb_S256x3840_S256x640_0_640 _ (by unfold qL; exact List.Mem.tail _ (List.Mem.tail _ (List.Mem.tail _ (List.Mem.tail _ (List.Mem.head _))))) (by omega) (by omega)
  · exact key 1280 inb_S256x3840_S256x640_0_1280 _ (by unfold qL; exact List.Mem.tail _ (List.Mem.tail _ (List.Mem.tail _ (List.Mem.head _)))) (by omega) (by omega)
  · exact key 1920 inb_S256x3840_S256x640_0_1920 _ (by unfold qL; exact List.Mem.tail _ (List.Mem.tail _ (List.Mem.head _))) (by omega) (by omega)
  · exact key 2560 inb_S256x3840_S256x640_0_2560 _ (by unfold qL; exact List.Mem.tail _ (List.Mem.head _)) (by omega) (by omega)
  · exact key 3200 inb_S256x3840_S256x640_0_3200 _ (by unfold qL; exact List.Mem.head _) (by omega) (by omega)

theorem outQ_of {x x' : Vec F S256x4096 .bf16} {pad pad' : Vec F S1x4096 .f32} {pc pc' : Vec F S4096x768 .bf16} (h0 : x = x') (h1 : pad = pad') (h2 : pc = pc') :
    View.canon (qL (k0_pay28 x pad pc)) = outQ x' pad' pc' := by subst h0 h1 h2; rfl
theorem outX_of {x x' : Vec F S256x4096 .bf16} {po po' : Vec F S4096x256 .bf16} (h0 : x = x') (h2 : po = po') :
    k0_pay29 (k0_pay24 x) po = outX x' po' := by subst h0 h2; rfl
theorem outS_of {x x' : Vec F S256x4096 .bf16} {pad pad' : Vec F S1x4096 .f32} {pc pc' : Vec F S4096x768 .bf16} (h0 : x = x') (h1 : pad = pad') (h2 : pc = pc') :
    k0_pay3 (k0_pay26 x pad) (k0_pay27 x pad) (k0_pay28 x pad pc) = outS x' pad' pc' := by subst h0 h1 h2; rfl
theorem outT_of {x x' : Vec F S256x4096 .bf16} {pad pad' : Vec F S1x4096 .f32} {pc pc' : Vec F S4096x768 .bf16} (h0 : x = x') (h1 : pad = pad') (h2 : pc = pc') :
    k0_pay4 (k0_pay26 x pad) (k0_pay27 x pad) (k0_pay28 x pad pc) = outT x' pad' pc' := by subst h0 h1 h2; rfl

section
variable {κ : Kind} {sp : Space} {S : Shape} {e : EltTy}
/-- The loads of a whole buffer that reads `x`, as loads of `x`. -/
theorem loads_unread {sg : RefSig} (M : Memref sg κ sp S e) (hM : M.IsWhole) (x : Vec F S e) :
    (fun r : Rect S => M.view.readAt (Elt F) r.toLoadRect (hM.unread x)) = fun r => View.ld x r :=
  funext fun r => readAt_unread M hM r x
end

theorem pc_of {p p' : (r : Rect S6x640) → Vec F r.shape .i32} {o o' : (r : Rect S1x256) → Vec F r.shape .i32} (hp : p = p') (ho : o = o') :
    View.canon (pcL p o) = View.canon (pcL p' o') := by subst hp ho; rfl
theorem po_of {o o' : (r : Rect S1x256) → Vec F r.shape .i32} (ho : o = o') : View.canon (poL o) = View.canon (poL o') := by subst ho; rfl

set_option maxHeartbeats 1000000 in
theorem run_A (c : Dev nD) (i : grid0.Coords) (arg1 : Memref sig .tc .vmem S6x640 .i32) (harg1 : arg1.IsWhole) (arg2 : Memref sig .tc .vmem S1x256 .i32) (harg2 : arg2.IsWhole) (arg3 : Memref sig .tc .vmem S256x1 .i32) (harg3 : arg3.IsWhole) (arg4 : Memref sig .tc .vmem S256x4096 .bf16) (harg4 : arg4.IsWhole) (arg5 : Memref sig .tc .vmem S256x3840 .i8) (harg5 : arg5.IsWhole) (arg6 : Memref sig .tc .vmem S256x256 .bf16) (harg6 : arg6.IsWhole) (arg7 : Memref sig .tc .vmem S256x128 .f32) (harg7 : arg7.IsWhole) (arg8 : Memref sig .tc .vmem S8x256 .f32) (harg8 : arg8.IsWhole) (arg9 : Memref sig .tc .vmem S4096x768 .bf16) (harg9 : arg9.IsWhole) (arg10 : Memref sig .tc .vmem S4096x256 .bf16) (harg10 : arg10.IsWhole) (arg11 : Memref sig .tc .vmem S8x4096 .f32) (harg11 : arg11.IsWhole) (hc0 : cond0 i)
    (x0 : Vec F S6x640 .i32) (x1 : Vec F S1x256 .i32) (x2 : Vec F S256x1 .i32) (x3 : Vec F S256x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outQ x3 (padV x2) (pcV x0 x1)) ∗ owns (c : Thread nD τ) arg6 fullShare (outX x3 (poV x1)) ∗ owns (c : Thread nD τ) arg7 fullShare (outS x3 (padV x2) (pcV x0 x1)) ∗ owns (c : Thread nD τ) arg8 fullShare (outT x3 (padV x2) (pcV x0 x1)) ∗ owns (c : Thread nD τ) arg9 fullShare (pcV x0 x1) ∗ owns (c : Thread nD τ) arg10 fullShare (poV x1) ∗ (∃ pad', ⌜View.ld pad' padRect = padV x2⌝ ∗ owns (c : Thread nD τ) arg11 fullShare pad')) -∗ K ⟨⟩))
      ⊢ wp frame (wpE (defs₀ (F := F)) Variants.none c none) E (cc0_quant i arg1 harg1 arg2 harg2 arg3 harg3 arg4 harg4 arg5 harg5 arg6 harg6 arg7 harg7 arg8 harg8 arg9 harg9 arg10 harg10 arg11 harg11) K := by
  simp only [cc0_quant_eq_skeleton]; unfold cc0_quant_skel
  simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    refine (View.read_writes_eq_canon _ _ (qL _) (q_covers _)).trans ?_
    exact outQ_of (readAt_whole _ harg4 z2 _ _) ((readAt_store _ _ padRect _).trans (congrArg (fun z => k0_pay23 (k0_pay21 z) k0_pay22) (readAt_whole _ harg3 z2 _ _))) ((View.readCov_eq_canon_ld _ (pcL (fun r => arg1.view.readAt (Elt F) r.toLoadRect (harg1.unread x0)) (fun r => arg2.view.readAt (Elt F) r.toLoadRect (harg2.unread x1))) _ (pc_covers _ _)).trans ((View.ld_unit_zero z2 _ _).trans (pc_of (loads_unread _ harg1 _) (loads_unread _ harg2 _))))
  isplitl [H5]
  · iexists _; isplitr; swap; · iexact H5
    ipureintro
    sl_unfold_words
    refine (read_store_whole _ _ z2 _ _).trans ?_
    exact outX_of (readAt_whole _ harg4 z2 _ _) ((View.readCov_eq_canon_ld _ (poL (fun r => arg2.view.readAt (Elt F) r.toLoadRect (harg2.unread x1))) _ (po_covers _)).trans ((View.ld_unit_zero z2 _ _).trans (po_of (loads_unread _ harg2 _))))
  isplitl [H6]
  · iexists _; isplitr; swap; · iexact H6
    ipureintro
    sl_unfold_words
    refine (read_store_whole _ _ z2 _ _).trans ?_
    exact outS_of (readAt_whole _ harg4 z2 _ _) ((readAt_store _ _ padRect _).trans (congrArg (fun z => k0_pay23 (k0_pay21 z) k0_pay22) (readAt_whole _ harg3 z2 _ _))) ((View.readCov_eq_canon_ld _ (pcL (fun r => arg1.view.readAt (Elt F) r.toLoadRect (harg1.unread x0)) (fun r => arg2.view.readAt (Elt F) r.toLoadRect (harg2.unread x1))) _ (pc_covers _ _)).trans ((View.ld_unit_zero z2 _ _).trans (pc_of (loads_unread _ harg1 _) (loads_unread _ harg2 _))))
  isplitl [H7]
  · iexists _; isplitr; swap; · iexact H7
    ipureintro
    sl_unfold_words
    refine (read_store_whole _ _ z2 _ _).trans ?_
    exact outT_of (readAt_whole _ harg4 z2 _ _) ((readAt_store _ _ padRect _).trans (congrArg (fun z => k0_pay23 (k0_pay21 z) k0_pay22) (readAt_whole _ harg3 z2 _ _))) ((View.readCov_eq_canon_ld _ (pcL (fun r => arg1.view.readAt (Elt F) r.toLoadRect (harg1.unread x0)) (fun r => arg2.view.readAt (Elt F) r.toLoadRect (harg2.unread x1))) _ (pc_covers _ _)).trans ((View.ld_unit_zero z2 _ _).trans (pc_of (loads_unread _ harg1 _) (loads_unread _ harg2 _))))
  isplitl [HS0]
  · iexists _; isplitr; swap; · iexact HS0
    ipureintro
    sl_unfold_words
    refine (View.read_writes_eq_canon _ _ (pcL (fun r => arg1.view.readAt (Elt F) r.toLoadRect (harg1.unread x0)) (fun r => arg2.view.readAt (Elt F) r.toLoadRect (harg2.unread x1))) (pc_covers _ _)).trans ?_
    exact pc_of (loads_unread _ harg1 _) (loads_unread _ harg2 _)
  isplitl [HS1]
  · iexists _; isplitr; swap; · iexact HS1
    ipureintro
    sl_unfold_words
    refine (View.read_writes_eq_canon _ _ (poL (fun r => arg2.view.readAt (Elt F) r.toLoadRect (harg2.unread x1))) (po_covers _)).trans ?_
    exact po_of (loads_unread _ harg2 _)
  iexists _
  isplitr; swap
  · iexists _; isplitr; swap; · iexact HS2
    ipureintro; rfl
  ipureintro
  sl_unfold_words
  exact (ld_store _ _ padRect _).trans (congrArg (fun z => k0_pay23 (k0_pay21 z) k0_pay22) (readAt_whole _ harg3 z2 _ _))

set_option maxHeartbeats 1000000 in
theorem run_B (c : Dev nD) (i : grid0.Coords) (arg1 : Memref sig .tc .vmem S6x640 .i32) (harg1 : arg1.IsWhole) (arg2 : Memref sig .tc .vmem S1x256 .i32) (harg2 : arg2.IsWhole) (arg3 : Memref sig .tc .vmem S256x1 .i32) (harg3 : arg3.IsWhole) (arg4 : Memref sig .tc .vmem S256x4096 .bf16) (harg4 : arg4.IsWhole) (arg5 : Memref sig .tc .vmem S256x3840 .i8) (harg5 : arg5.IsWhole) (arg6 : Memref sig .tc .vmem S256x256 .bf16) (harg6 : arg6.IsWhole) (arg7 : Memref sig .tc .vmem S256x128 .f32) (harg7 : arg7.IsWhole) (arg8 : Memref sig .tc .vmem S8x256 .f32) (harg8 : arg8.IsWhole) (arg9 : Memref sig .tc .vmem S4096x768 .bf16) (harg9 : arg9.IsWhole) (arg10 : Memref sig .tc .vmem S4096x256 .bf16) (harg10 : arg10.IsWhole) (arg11 : Memref sig .tc .vmem S8x4096 .f32) (harg11 : arg11.IsWhole) (hc0 : ¬ cond0 i)
    (x0 : Vec F S6x640 .i32) (x1 : Vec F S1x256 .i32) (x2 : Vec F S256x1 .i32) (x3 : Vec F S256x4096 .bf16) (pc : Vec F S4096x768 .bf16) (po : Vec F S4096x256 .bf16) (pad : Vec F S8x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare pc ∗ owns (c : Thread nD τ) arg10 fullShare po ∗ owns (c : Thread nD τ) arg11 fullShare pad ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outQ x3 (View.ld pad padRect) pc) ∗ owns (c : Thread nD τ) arg6 fullShare (outX x3 po) ∗ owns (c : Thread nD τ) arg7 fullShare (outS x3 (View.ld pad padRect) pc) ∗ owns (c : Thread nD τ) arg8 fullShare (outT x3 (View.ld pad padRect) pc) ∗ owns (c : Thread nD τ) arg9 fullShare pc ∗ owns (c : Thread nD τ) arg10 fullShare po ∗ owns (c : Thread nD τ) arg11 fullShare pad) -∗ K ⟨⟩))
      ⊢ wp frame (wpE (defs₀ (F := F)) Variants.none c none) E (cc0_quant i arg1 harg1 arg2 harg2 arg3 harg3 arg4 harg4 arg5 harg5 arg6 harg6 arg7 harg7 arg8 harg8 arg9 harg9 arg10 harg10 arg11 harg11) K := by
  simp only [cc0_quant_eq_skeleton]; unfold cc0_quant_skel
  simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg9.eq_unread hfs0; obtain rfl := harg10.eq_unread hfs1; obtain rfl := harg11.eq_unread hfs2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    refine (View.read_writes_eq_canon _ _ (qL _) (q_covers _)).trans ?_
    exact outQ_of (readAt_whole _ harg4 z2 _ _) (readAt_unread _ harg11 _ _) (readAt_whole _ harg9 z2 _ _)
  isplitl [H5]
  · iexists _; isplitr; swap; · iexact H5
    ipureintro
    sl_unfold_words
    refine (read_store_whole _ _ z2 _ _).trans ?_
    exact outX_of (readAt_whole _ harg4 z2 _ _) (readAt_whole _ harg10 z2 _ _)
  isplitl [H6]
  · iexists _; isplitr; swap; · iexact H6
    ipureintro
    sl_unfold_words
    refine (read_store_whole _ _ z2 _ _).trans ?_
    exact outS_of (readAt_whole _ harg4 z2 _ _) (readAt_unread _ harg11 _ _) (readAt_whole _ harg9 z2 _ _)
  isplitl [H7]
  · iexists _; isplitr; swap; · iexact H7
    ipureintro
    sl_unfold_words
    refine (read_store_whole _ _ z2 _ _).trans ?_
    exact outT_of (readAt_whole _ harg4 z2 _ _) (readAt_unread _ harg11 _ _) (readAt_whole _ harg9 z2 _ _)
  isplitl [HS0]
  · iexists _; isplitr; swap; · iexact HS0
    ipureintro; exact harg9.read_unread _
  isplitl [HS1]
  · iexists _; isplitr; swap; · iexact HS1
    ipureintro; exact harg10.read_unread _
  iexists _; isplitr; swap; · iexact HS2
  ipureintro; exact harg11.read_unread _

end Cert.Proof.Quant

end
-- ==== Proof.QuantRegion.lean ====
/- The quantising call over its whole grid: what its results hold at the end, and its proof that the body keeps
   the selection matrices and the padding row in scratch. -/
module

public import proofs.«01_k».proof.Proof.QuantRun
public import Idealize.ShloMosaic.Lib.Pipeline.RegionArraysS

@[expose] public section

set_option maxRecDepth 16384

noncomputable section

namespace Cert.Proof.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

theorem before_0_of {c : Dev nD} (dat : Dat τ (Elt F) Unit ℕ (UR sig nD τ) ℕ cfg0 c) (hA : dat.A 0 = W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = W c (Pipeline.arrRef spec0 3))
    (hafter : ∀ t, dat.after 3 t = iblk W c 3 t) (t : Fin cfg0.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The scoped buffers of the core that this call uses neither for staging nor as scratch. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The scoped buffers no window stages: the scratch buffers and the others. -/
theorem scoped_split (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ rest c) := by
  simp only [owns_whole]
  exact Pipeline.scopedRest_eq_of_list spec0 c [cc0_scratch0, cc0_scratch1, cc0_scratch2, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_scratch0, cc1_scratch1, cc1_scratch2] (by decide) (by decide)

/-- The first point of the grid. -/
abbrev p0 : Fin cfg0.N := ⟨0, by rw [show cfg0.N = 64 from N_0]; decide⟩

/-- The packed selection matrix in scratch. -/
def pcS (c : Dev nD) : Vec F S4096x768 .bf16 := pcV (iblk W c 0 p0) (iblk W c 1 p0)
/-- The outlier selection matrix in scratch. -/
def poS (c : Dev nD) : Vec F S4096x256 .bf16 := poV (iblk W c 1 p0)
/-- The padding row. -/
def padS (c : Dev nD) : Vec F S1x4096 .f32 := padV (iblk W c 2 p0)

/-- The region's invariant before point `n`. -/
def PhiS (c : Dev nD) (n : ℕ) (_ : n ≤ cfg0.N) : sProp 𝕄 :=
  iprop((∃ d, ⌜n ≠ 0 → d = pcS W c⌝ ∗ owns (c : Thread nD τ) (Memref.whole cc0_scratch0) fullShare d)
    ∗ (∃ d, ⌜n ≠ 0 → d = poS W c⌝ ∗ owns (c : Thread nD τ) (Memref.whole cc0_scratch1) fullShare d)
    ∗ (∃ d, ⌜n ≠ 0 → View.ld d padRect = padS W c⌝ ∗ owns (c : Thread nD τ) (Memref.whole cc0_scratch2) fullShare d) ∗ rest c)

/-- The proof data of the call on core `c`. -/
def dats (c : Dev nD) : Dat τ (Elt F) Unit ℕ (UR sig nD τ) ℕ cfg0 c where
  A w := W c (Pipeline.arrRef spec0 w)
  after w t := match w with
    | ⟨0, _⟩ => iblk W c 0 t
    | ⟨1, _⟩ => iblk W c 1 t
    | ⟨2, _⟩ => iblk W c 2 t
    | ⟨3, _⟩ => iblk W c 3 t
    | ⟨4, _⟩ => outQ (iblk W c 3 t) (padS W c) (pcS W c)
    | ⟨5, _⟩ => outX (iblk W c 3 t) (poS W c)
    | ⟨6, _⟩ => outS (iblk W c 3 t) (padS W c) (pcS W c)
    | ⟨7, _⟩ => outT (iblk W c 3 t) (padS W c) (pcS W c)
  Φ t := PhiS W c t.val (Nat.le_of_lt_succ t.isLt)
  q _ := fullShare
  owed _ := 0

theorem A_eq (c : Dev nD) (w : Fin cfg0.W) : (dats W c).A w = W c (Pipeline.arrRef spec0 w) := by
  dsimp only [dats]

theorem PhiS_castSucc (c : Dev nD) (t : Fin cfg0.N) :
    (dats W c).Φ t.castSucc = PhiS W c t.val (Nat.le_of_lt t.isLt) := by
  dsimp only [dats]; exact Pipeline.Dat.Φ_castSucc (PhiS W c) t

theorem after_0 (c : Dev nD) (t : Fin cfg0.N) : (dats W c).after 0 t = iblk W c 0 t := by dsimp only [dats]
theorem after_1 (c : Dev nD) (t : Fin cfg0.N) : (dats W c).after 1 t = iblk W c 1 t := by dsimp only [dats]
theorem after_2 (c : Dev nD) (t : Fin cfg0.N) : (dats W c).after 2 t = iblk W c 2 t := by dsimp only [dats]
theorem after_3 (c : Dev nD) (t : Fin cfg0.N) : (dats W c).after 3 t = iblk W c 3 t := by dsimp only [dats]
theorem after_4 (c : Dev nD) (t : Fin cfg0.N) : (dats W c).after 4 t = outQ (iblk W c 3 t) (padS W c) (pcS W c) := by dsimp only [dats]
theorem after_5 (c : Dev nD) (t : Fin cfg0.N) : (dats W c).after 5 t = outX (iblk W c 3 t) (poS W c) := by dsimp only [dats]
theorem after_6 (c : Dev nD) (t : Fin cfg0.N) : (dats W c).after 6 t = outS (iblk W c 3 t) (padS W c) (pcS W c) := by dsimp only [dats]
theorem after_7 (c : Dev nD) (t : Fin cfg0.N) : (dats W c).after 7 t = outT (iblk W c 3 t) (padS W c) (pcS W c) := by dsimp only [dats]
theorem before_0 (c : Dev nD) (t : Fin cfg0.N) (d) : (dats W c).before 0 t d = iblk W c 0 t :=
  before_0_of W (dats W c) (A_eq W c 0) (after_0 W c) t d
theorem before_1 (c : Dev nD) (t : Fin cfg0.N) (d) : (dats W c).before 1 t d = iblk W c 1 t :=
  before_1_of W (dats W c) (A_eq W c 1) (after_1 W c) t d
theorem before_2 (c : Dev nD) (t : Fin cfg0.N) (d) : (dats W c).before 2 t d = iblk W c 2 t :=
  before_2_of W (dats W c) (A_eq W c 2) (after_2 W c) t d
theorem before_3 (c : Dev nD) (t : Fin cfg0.N) (d) : (dats W c).before 3 t d = iblk W c 3 t :=
  before_3_of W (dats W c) (A_eq W c 3) (after_3 W c) t d

/-- What the body is called with at point `t`, the windows one by one. -/
def bodyPre (c : Dev nD) (t : Fin cfg0.N) : sProp 𝕄 :=
  iprop((dats W c).Φ t.castSucc ∗ (dats W c).owesAt () t.castSucc
    ∗ (∃ d, owns (c : Thread nD τ) (st0_0 t) fullShare ((dats W c).before 0 t d))
    ∗ (∃ d, owns (c : Thread nD τ) (st0_1 t) fullShare ((dats W c).before 1 t d))
    ∗ (∃ d, owns (c : Thread nD τ) (st0_2 t) fullShare ((dats W c).before 2 t d))
    ∗ (∃ d, owns (c : Thread nD τ) (st0_3 t) fullShare ((dats W c).before 3 t d))
    ∗ (∃ d, owns (c : Thread nD τ) (st0_4 t) fullShare ((dats W c).before 4 t d))
    ∗ (∃ d, owns (c : Thread nD τ) (st0_5 t) fullShare ((dats W c).before 5 t d))
    ∗ (∃ d, owns (c : Thread nD τ) (st0_6 t) fullShare ((dats W c).before 6 t d))
    ∗ (∃ d, owns (c : Thread nD τ) (st0_7 t) fullShare ((dats W c).before 7 t d)))

/-- What it returns. -/
def bodyPost (c : Dev nD) (t : Fin cfg0.N) : sProp 𝕄 :=
  iprop((dats W c).Φ t.succ ∗ (dats W c).owesAt () t.succ
    ∗ owns (c : Thread nD τ) (st0_0 t) fullShare ((dats W c).after 0 t)
    ∗ owns (c : Thread nD τ) (st0_1 t) fullShare ((dats W c).after 1 t)
    ∗ owns (c : Thread nD τ) (st0_2 t) fullShare ((dats W c).after 2 t)
    ∗ owns (c : Thread nD τ) (st0_3 t) fullShare ((dats W c).after 3 t)
    ∗ owns (c : Thread nD τ) (st0_4 t) fullShare ((dats W c).after 4 t)
    ∗ owns (c : Thread nD τ) (st0_5 t) fullShare ((dats W c).after 5 t)
    ∗ owns (c : Thread nD τ) (st0_6 t) fullShare ((dats W c).after 6 t)
    ∗ owns (c : Thread nD τ) (st0_7 t) fullShare ((dats W c).after 7 t))

theorem fetched_eq_0 (c : Dev nD) (t : Fin cfg0.N) (d) : (dats W c).fetched 0 t d = iblk W c 0 t := by
  unfold Dat.fetched Dat.blockOf iblk; rw [A_eq]; rfl
/-- The block of window 0 is the same at every point. -/
theorem iblk0_const (c : Dev nD) (t : Fin cfg0.N) : iblk W c 0 t = iblk W c 0 p0 := by
  rw [← fetched_eq_0 W c t (iblk W c 0 p0), ← fetched_eq_0 W c p0 (iblk W c 0 p0)]
  exact (dats W c).fetched_congr 0 rfl rfl _

theorem fetched_eq_1 (c : Dev nD) (t : Fin cfg0.N) (d) : (dats W c).fetched 1 t d = iblk W c 1 t := by
  unfold Dat.fetched Dat.blockOf iblk; rw [A_eq]; rfl
/-- The block of window 1 is the same at every point. -/
theorem iblk1_const (c : Dev nD) (t : Fin cfg0.N) : iblk W c 1 t = iblk W c 1 p0 := by
  rw [← fetched_eq_1 W c t (iblk W c 1 p0), ← fetched_eq_1 W c p0 (iblk W c 1 p0)]
  exact (dats W c).fetched_congr 1 rfl rfl _

theorem fetched_eq_2 (c : Dev nD) (t : Fin cfg0.N) (d) : (dats W c).fetched 2 t d = iblk W c 2 t := by
  unfold Dat.fetched Dat.blockOf iblk; rw [A_eq]; rfl
/-- The block of window 2 is the same at every point. -/
theorem iblk2_const (c : Dev nD) (t : Fin cfg0.N) : iblk W c 2 t = iblk W c 2 p0 := by
  rw [← fetched_eq_2 W c t (iblk W c 2 p0), ← fetched_eq_2 W c p0 (iblk W c 2 p0)]
  exact (dats W c).fetched_congr 2 rfl rfl _

set_option maxHeartbeats 12800000 in
/-- The body at any point takes the invariant before the point to the invariant after it. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2, before_3]
  rw [show (dats W c).owesAt () t.succ = (dats W c).owesAt () t.castSucc from rfl,
    after_0, after_1, after_2, after_3, after_4, after_5, after_6, after_7]
  rw [PhiS_castSucc W c t, show (dats W c).Φ t.succ = PhiS W c (t.val + 1) t.isLt from rfl]
  unfold PhiS
  iintro ⟨⟨⟨%pc, %hpc, HS0⟩, ⟨%po, %hpo, HS1⟩, ⟨%pad, %hpad, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val = 0
  · unfold pcS poS padS
    rw [← iblk0_const W c t, ← iblk1_const W c t, ← iblk2_const W c t]
    iapply (run_A c (grid0.coords t) _ _ _ _ _ _ _ _ _ _ _ _ _ _ _ _ _ _ _ _ _ _ ((hcond0 t).mpr h0) (iblk W c 0 t) (iblk W c 1 t) (iblk W c 2 t) (iblk W c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    iintro ⟨H0, H1, H2, H3, H4, H5, H6, H7, HS0, HS1, ⟨%pad', %hpad', HS2⟩⟩
    isplitl [HS0 HS1 HS2 HR]
    · isplitl [HS0]; · (iexists _; isplitr; (· ipureintro; intro _; rfl); iexact HS0)
      isplitl [HS1]; · (iexists _; isplitr; (· ipureintro; intro _; rfl); iexact HS1)
      isplitl [HS2]; · (iexists _; isplitr; (· ipureintro; intro _; exact hpad'); iexact HS2)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain rfl := hpc h0; obtain rfl := hpo h0; rw [← hpad h0]
    iapply (run_B c (grid0.coords t) _ _ _ _ _ _ _ _ _ _ _ _ _ _ _ _ _ _ _ _ _ _ (fun h => h0 ((hcond0 t).mp h)) (iblk W c 0 t) (iblk W c 1 t) (iblk W c 2 t) (iblk W c 3 t) _ _ pad Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 HR]
    · isplitl [HS0]; · (iexists _; isplitr; (· ipureintro; intro _; rfl); iexact HS0)
      isplitl [HS1]; · (iexists _; isplitr; (· ipureintro; intro _; rfl); iexact HS1)
      isplitl [HS2]; · (iexists _; isplitr; (· ipureintro; intro _; rfl); iexact HS2)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats W c) (defs₀ (F := F)) Variants.none () Set.univ := fun t => by
  rw [bigSep_W0, bigSep_W0, defs₀_row]
  exact triple_restated (sound_body W c t) rfl .rfl fun _ => .rfl

theorem hin (c : Dev nD) : iprop(Pipeline.scopedRest spec0 c ∗ emp) ⊢ (dats W c).Φ 0 := by
  rw [show (dats W c).Φ 0 = PhiS W c 0 (Nat.zero_le _) from rfl, scoped_split]
  unfold PhiS
  iintro ⟨⟨⟨%d0, H0⟩, ⟨%d1, H1⟩, ⟨%d2, H2⟩, HR⟩, -⟩
  isplitl [H0]; · (iexists d0; isplitr; (· ipureintro; intro h; exact absurd rfl h); iexact H0)
  isplitl [H1]; · (iexists d1; isplitr; (· ipureintro; intro h; exact absurd rfl h); iexact H1)
  isplitl [H2]; · (iexists d2; isplitr; (· ipureintro; intro h; exact absurd rfl h); iexact H2)
  iexact HR

theorem hout (c : Dev nD) : (dats W c).Φ (Fin.last cfg0.N) ⊢ iprop(Pipeline.scopedRest spec0 c ∗ emp) := by
  rw [show (dats W c).Φ (Fin.last cfg0.N) = PhiS W c cfg0.N (Nat.le_refl _) from rfl, scoped_split]
  unfold PhiS
  iintro ⟨⟨%d0, -, H0⟩, ⟨%d1, -, H1⟩, ⟨%d2, -, H2⟩, HR⟩
  isplitl [H0 H1 H2 HR]
  · isplitl [H0]; · iexists _; iexact H0
    isplitl [H1]; · iexists _; iexact H1
    isplitl [H2]; · iexists _; iexact H2
    iexact HR
  iempintro

end Cert.Proof.Quant

end
-- ==== Proof.Run.lean ====
/- The whole program: the two calls between the host's reshapes, run from any memory; every unscoped buffer's contents
   at the end. -/
module

public import proofs.«01_k».proof.Proof.MixRegion
public import proofs.«01_k».proof.Proof.QuantRegion
public import proofs.«01_k».proof.Proof.Gen.KernelIdeal.Regions

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- What the quantising call's results hold at its end, and everything else as the call found it. -/
def outs0 : Outs (F := F) := fun _ r c =>
  Pipeline.afterRegion (Quant.dats (V1 m) c) (V1 m c) (Proc.devRef .tc r)

/-- What the two calls leave. -/
def outs : Outs (F := F) := fun J r c =>
  if J = 4 then Pipeline.afterRegion (Mix.dats (V3 m (outs0 m)) c) (V3 m (outs0 m) c) (Proc.devRef .tc r) else outs0 m J r c

theorem V2_outs (c : Dev nD) : V2 m (outs m) c = V2 m (outs0 m) c := rfl
theorem V3_outs (c : Dev nD) : V3 m (outs m) c = V3 m (outs0 m) c := rfl

/-- The proof data of the two calls, from what each finds. -/
def pdats (A B : Dev nD → Valuation τ sig (Elt F)) : (p : Fin 2) → (c : Dev nD) → Dat τ (Elt F) Unit ℕ (UR sig nD τ) ℕ (cfgs p) c
  | ⟨0, _⟩ => Quant.dats A
  | ⟨1, _⟩ => Mix.dats B

/-- The waits' levels: the one index on every cell of a TensorCore. -/
def lvL : GSem nD τ sig → Finset Unit := fun g => if g.1.2 = .tc then {()} else ∅
def lvv : GSem nD τ sig → Unit → ℕ := fun _ _ => 0

theorem cut (p : Fin 2) : Pipeline.LevelCut (pcfgs (F := F)) adm () lvL lvv p (fun _ : Dev nD => (0 : CellTallies nD τ sig Unit)) (fun _ => 0) :=
  ⟨fun c w s => by unfold lvL; exact Finset.mem_singleton.mpr rfl, fun _ _ _ => le_refl _, fun _ _ _ h => absurd h (Nat.lt_irrefl 0)⟩

/-- What rides along beside the buffers. -/
def E (_ : Fin 3) (c : Dev nD) : sProp 𝕄 := iprop((∃ Wd, owes (c : Thread nD τ) (0 : CellTallies nD τ sig Unit) Wd) ∗ emp ∗ emp)

set_option backward.isDefEq.respectTransparency.types false in
/-- The quantising call's region. -/
def R0 (A B : Dev nD → Valuation τ sig (Elt F)) : RegionSeg (pcfgs (F := F)) adm (pdats A B) () defs₀ Variants.none lvL lvv 0 :=
  RegionSeg.ofHeldIn (pcfgs (F := F)) adm (pdats A B) () defs₀ Variants.none lvL lvv 0 (fun _ => 0) (Pipeline.ucRefs τ sig) (fun _ => iprop(emp)) (fun _ => iprop(emp))
    launch0.toP rfl (fun c => (Quant.body_obligation A c).loose) (fun _ _ => rfl) (fun _ => rfl)
    (fun c => (Quant.dats A c).share_full fun _ => rfl) (fun c => Quant.hin A c) (fun c => Quant.hout A c)
    (fun _ => 0) (cut 0) (fun _ => iprop(emp)) A (fun c w => Quant.A_eq A c w)

set_option backward.isDefEq.respectTransparency.types false in
/-- The matrix-product call's region. -/
def R1 (A B : Dev nD → Valuation τ sig (Elt F)) : RegionSeg (pcfgs (F := F)) adm (pdats A B) () defs₀ Variants.none lvL lvv 1 :=
  RegionSeg.ofHeldIn (pcfgs (F := F)) adm (pdats A B) () defs₀ Variants.none lvL lvv 1 (fun _ => 0) (Pipeline.ucRefs τ sig) (fun _ => iprop(emp)) (fun _ => iprop(emp))
    launch1.toP rfl (fun c => (Mix.body_obligation B c).loose) (fun _ _ => rfl) (fun _ => rfl)
    (fun c => (Mix.dats B c).share_full fun _ => rfl) (fun c => Mix.hin B c) (fun c => Mix.hout B c)
    (fun _ => 0) (cut 1) (fun _ => iprop(emp)) B (fun c w => Mix.A_eq B c w)

set_option backward.isDefEq.respectTransparency.types false in
theorem R0_pre (A B : Dev nD → Valuation τ sig (Elt F)) (c : Dev nD) :
    iprop(StableHlo.held (c : Thread nD τ) (Pipeline.ucRefs τ sig) (A c) ∗ E 0 c) ⊢ (R0 A B).pre c := by
  unfold R0 E
  have hS : Pipeline.arrRefs (pcfgs (F := F) 0).spec ⊆ Pipeline.ucRefs τ sig := Pipeline.arrRefs_sub_ucRefs spec0 (by decide)
  exact RegionSeg.ofHeldIn_pre (pcs := pcfgs (F := F)) (a := adm) (p := 0) (S := Pipeline.ucRefs τ sig) (pdats := pdats A B) (ι := ()) (D := fun _ => 0) (X := fun _ => iprop(emp)) (Y := fun _ => iprop(emp)) (R := fun _ => iprop(emp)) (W := A) (b := fun _ => 0) hS c

set_option backward.isDefEq.respectTransparency.types false in
theorem R0_post (A B : Dev nD → Valuation τ sig (Elt F)) (c : Dev nD) :
    (R0 A B).post c ⊢ iprop(StableHlo.held (c : Thread nD τ) (Pipeline.ucRefs τ sig) (Pipeline.afterRegion (Quant.dats A c) (A c)) ∗ E 0 c) := by
  unfold R0 E
  have hS : Pipeline.arrRefs (pcfgs (F := F) 0).spec ⊆ Pipeline.ucRefs τ sig := Pipeline.arrRefs_sub_ucRefs spec0 (by decide)
  exact RegionSeg.ofHeldIn_post (pcs := pcfgs (F := F)) (a := adm) (p := 0) (S := Pipeline.ucRefs τ sig) hS c

set_option backward.isDefEq.respectTransparency.types false in
theorem R1_pre (A B : Dev nD → Valuation τ sig (Elt F)) (c : Dev nD) :
    iprop(StableHlo.held (c : Thread nD τ) (Pipeline.ucRefs τ sig) (B c) ∗ E 0 c) ⊢ (R1 A B).pre c := by
  unfold R1 E
  have hS : Pipeline.arrRefs (pcfgs (F := F) 1).spec ⊆ Pipeline.ucRefs τ sig := Pipeline.arrRefs_sub_ucRefs spec1 (by decide)
  exact RegionSeg.ofHeldIn_pre (pcs := pcfgs (F := F)) (a := adm) (p := 1) (S := Pipeline.ucRefs τ sig) (pdats := pdats A B) (ι := ()) (D := fun _ => 0) (X := fun _ => iprop(emp)) (Y := fun _ => iprop(emp)) (R := fun _ => iprop(emp)) (W := B) (b := fun _ => 0) hS c

set_option backward.isDefEq.respectTransparency.types false in
theorem R1_post (A B : Dev nD → Valuation τ sig (Elt F)) (c : Dev nD) :
    (R1 A B).post c ⊢ iprop(StableHlo.held (c : Thread nD τ) (Pipeline.ucRefs τ sig) (Pipeline.afterRegion (Mix.dats B c) (B c)) ∗ E 0 c) := by
  unfold R1 E
  have hS : Pipeline.arrRefs (pcfgs (F := F) 1).spec ⊆ Pipeline.ucRefs τ sig := Pipeline.arrRefs_sub_ucRefs spec1 (by decide)
  exact RegionSeg.ofHeldIn_post (pcs := pcfgs (F := F)) (a := adm) (p := 1) (S := Pipeline.ucRefs τ sig) hS c

theorem uc_tc (b : DevRef τ sig) (hb : b ∈ Pipeline.ucRefs τ sig) : ∃ r : Ref sig .tc, b = Proc.devRef .tc r := by
  have h := (Finset.mem_filter.mp hb).1
  obtain ⟨r, -, e⟩ := Finset.mem_map.mp h
  exact ⟨r, e.symm⟩

theorem after0_eq (c : Dev nD) (b : DevRef τ sig) (hb : b ∈ Pipeline.ucRefs τ sig) :
    Pipeline.afterRegion (Quant.dats (V1 m) c) (V1 m c) b = V2 m (outs m) c b := by
  obtain ⟨r, rfl⟩ := uc_tc b hb
  by_cases h3 : r = main_v7_3
  · subst h3; simp only [V2]; rw [Function.update_self]; rfl
  by_cases h2 : r = main_v7_2
  · subst h2
    rw [show V2 m (outs m) c (Proc.devRef .tc main_v7_2) = _ from Function.update_of_ne (StableHlo.devRef_ne_of_ne h3) _ _]
    rw [Function.update_self]; rfl
  by_cases h1 : r = main_v7_1
  · subst h1
    rw [show V2 m (outs m) c (Proc.devRef .tc main_v7_1) = _ from Function.update_of_ne (StableHlo.devRef_ne_of_ne h3) _ _,
      Function.update_of_ne (StableHlo.devRef_ne_of_ne h2)]
    rw [Function.update_self]; rfl
  by_cases h0 : r = main_v7_0
  · subst h0
    rw [show V2 m (outs m) c (Proc.devRef .tc main_v7_0) = _ from Function.update_of_ne (StableHlo.devRef_ne_of_ne h3) _ _,
      Function.update_of_ne (StableHlo.devRef_ne_of_ne h2), Function.update_of_ne (StableHlo.devRef_ne_of_ne h1)]
    rw [Function.update_self]; rfl
  rw [show V2 m (outs m) c (Proc.devRef .tc r) = _ from V2_of m (outs m) c r (by simp [h0, h1, h2, h3])]
  refine Pipeline.afterRegion_keeps _ _ winFacts0.arr_inj (Quant.A_eq (V1 m) c) r fun w e => ?_
  fin_cases w
  · rfl
  · rfl
  · rfl
  · rfl
  · exact absurd e.symm h0
  · exact absurd e.symm h1
  · exact absurd e.symm h2
  · exact absurd e.symm h3

theorem after1_eq (c : Dev nD) (b : DevRef τ sig) (hb : b ∈ Pipeline.ucRefs τ sig) :
    Pipeline.afterRegion (Mix.dats (V3 m (outs0 m)) c) (V3 m (outs0 m) c) b = V4 m (outs m) c b := by
  obtain ⟨r, rfl⟩ := uc_tc b hb
  by_cases h7 : r = main_v10
  · subst h7; simp only [V4]; rw [Function.update_self]; rfl
  rw [show V4 m (outs m) c (Proc.devRef .tc r) = _ from V4_of m (outs m) c r (by simp [h7])]
  refine Pipeline.afterRegion_keeps _ _ winFacts1.arr_inj (Mix.A_eq (V3 m (outs0 m)) c) r fun w e => ?_
  fin_cases w
  · rfl
  · rfl
  · rfl
  · rfl
  · rfl
  · rfl
  · rfl
  · exact absurd e.symm h7

theorem hpre0 (c : Dev nD) : iprop(StableHlo.held (c : Thread nD τ) (Pipeline.ucRefs τ sig) (V1 m c) ∗ E 0 c) ⊢ (R0 (V1 m) (V3 m (outs0 m))).pre c :=
  R0_pre (V1 m) (V3 m (outs0 m)) c

theorem hpre1 (c : Dev nD) : iprop(StableHlo.held (c : Thread nD τ) (Pipeline.ucRefs τ sig) (V3 m (outs m) c) ∗ E 1 c) ⊢ (R1 (V1 m) (V3 m (outs0 m))).pre c :=
  R1_pre (V1 m) (V3 m (outs0 m)) c

theorem hpost0 (c : Dev nD) : (R0 (V1 m) (V3 m (outs0 m))).post c ⊢ iprop(StableHlo.held (c : Thread nD τ) (Pipeline.ucRefs τ sig) (V2 m (outs m) c) ∗ E 1 c) := by
  rw [← StableHlo.held_congr (c.tc : Thread nD τ) (S := Pipeline.ucRefs τ sig) (after0_eq m c)]
  exact R0_post (V1 m) (V3 m (outs0 m)) c

theorem hpost1 (c : Dev nD) : (R1 (V1 m) (V3 m (outs0 m))).post c ⊢ iprop(StableHlo.held (c : Thread nD τ) (Pipeline.ucRefs τ sig) (V4 m (outs m) c) ∗ E 2 c) := by
  rw [← StableHlo.held_congr (c.tc : Thread nD τ) (S := Pipeline.ucRefs τ sig) (after1_eq m c)]
  exact R1_post (V1 m) (V3 m (outs0 m)) c

theorem E_in (c : Dev nD) (x : PrngReg) :
    (iprop(unscopedSems0 c ∗ owes (c : Thread nD τ) (0 : CellTallies nD τ sig Unit) ∅ ∗ Pipeline.launchCred (fun _ => 0) c ∗ prngReg c x ∗ emp) : sProp 𝕄) ⊢ E 0 c := by
  unfold E
  iintro ⟨-, HO, -⟩
  isplitl [HO]
  · iexists _; iexact HO
  isplitl []
  · iempintro
  iempintro

theorem E_out (c : Dev nD) : (E 2 c : sProp 𝕄) ⊢ iprop(∃ Wd, owes (c : Thread nD τ) (0 : CellTallies nD τ sig Unit) Wd) := by
  unfold E
  iintro ⟨H, -⟩
  iexact H

theorem hE0 (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ emp)) ∗ levAts lvL lvv)
      ⊢ (|={Set.univ}=> bigSep Finset.univ (E 0) : sProp 𝕄) := by
  iintro ⟨H, -⟩
  imodintro
  have h : (bigSep Finset.univ fun c : Dev nD => iprop(unscopedSems0 c ∗ owes (c : Thread nD τ) (0 : CellTallies nD τ sig Unit) ∅ ∗ Pipeline.launchCred (fun _ => 0) c ∗ prngReg c (ρ c) ∗ emp))
      ⊢ (bigSep Finset.univ (E 0) : sProp 𝕄) :=
    bigSep_mono fun c _ => E_in c (ρ c)
  iapply h; iexact H

set_option backward.isDefEq.respectTransparency.types false in
/-- Every weakly fair execution from memory `m` with zero counters terminates, with every unscoped buffer at the last
    valuation and every counter at zero. -/
theorem run_main (ρ : Dev nD → PrngReg) :
    θ_run defs (onTc (τ := τ) (main (F := F))) ⟨m, fun _ => 0, ρ⟩ (fun r => (∀ c : Dev nD, ∀ b ∈ Pipeline.ucRefs τ sig, r.2.mem (c, b) = V5 m (outs m) c b) ∧ r.2.sem = fun _ => 0) := by
  refine Pipeline.θ_run_regions_kit_dev_sems (pcfgs (F := F)) adm (pdats (V1 m) (V3 m (outs0 m))) () cellOf_inj emb₁ defs₀ Variants.none lvL lvv m ρ main
    (segs m (outs m) Variants.none lvL lvv E () (pdats (V1 m) (V3 m (outs0 m))) (R0 (V1 m) (V3 m (outs0 m))) (R1 (V1 m) (V3 m (outs0 m))))
    (fun c Q => by
      rewrite [main_chain c, Seg.run_eq_chain,
        show (segs m (outs m) Variants.none lvL lvv E () (pdats (V1 m) (V3 m (outs0 m))) (R0 (V1 m) (V3 m (outs0 m))) (R1 (V1 m) (V3 m (outs0 m))) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun g h => if_neg h) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, hpre0 m c, hpost0 m c, hpre1 m c, hpost1 m c, BI.sep_mono (BI.Entails.refl _) (E_out c)⟩)
    (hinit := ?_) (QY := fun c s => ∀ b ∈ Pipeline.ucRefs τ sig, s.mem (c, b) = V5 m (outs m) c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact h
    · iexact HSI

end Cert.Proof.Run

end
-- ==== Proof.KMixRun.lean ====
/- The matrix-product kernel's body at one grid point: what it leaves in its result block and its scratch buffers,
   as a function of the point's input blocks and of what the scratch held. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Proof.KMix

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body: the point is the first of its row of the grid. -/
abbrev cond0 (i : grid1.Coords) : Prop := (Scalar.cmpi .ne (Scalar.extui (Scalar.cmpi .eq (BitVec.ofNat 32 (i 1).val) 0#32)) 0#32) = 1#1
/-- The second branch of the body: the point is in the first row of the grid. -/
abbrev cond1 (i : grid1.Coords) : Prop := k1_cond2 i = 1#1

theorem hcond0 : ∀ t : Fin cfg1.N, cond0 (grid1.coords t) ↔ t.val % 14 = 0 :=
  (fun t => by
    have ht : t.val < 224 := Nat.lt_of_lt_of_eq t.isLt N_1
    have e0 : (grid1.coords t 0).val = t.val / 14 % 16 := Pipeline.Grid.coords_val t 0 (by decide) rfl
    have e1 : (grid1.coords t 1).val = t.val / 1 % 14 := Pipeline.Grid.coords_val t 1 (by decide) rfl
    simp only [cond0, e0, e1]
    word_cmp
   : ∀ t : Fin grid1.N, cond0 (grid1.coords t) ↔ t.val % 14 = 0)

theorem hcond1 : ∀ t : Fin cfg1.N, cond1 (grid1.coords t) ↔ t.val < 14 :=
  (fun t => by
    have ht : t.val < 224 := Nat.lt_of_lt_of_eq t.isLt N_1
    have e0 : (grid1.coords t 0).val = t.val / 14 % 16 := Pipeline.Grid.coords_val t 0 (by decide) rfl
    have e1 : (grid1.coords t 1).val = t.val / 1 % 14 := Pipeline.Grid.coords_val t 1 (by decide) rfl
    simp only [cond1, k1_cond2, e0, e1]
    word_cmp
   : ∀ t : Fin grid1.N, cond1 (grid1.coords t) ↔ t.val < 14)

/-- The rectangle of the column sums' scratch that point `i` reads. -/
abbrev csRect (i : grid1.Coords) : Rect S14x1x1024 := Rect.unit (s := S14x1x1024) (k1_off2 i) S1x1x1024.size (k1_off2_inb i)

/-- The result block from the codes in bf16, the column sums and the other operands. -/
def mixY (qb : Vec F S1024x3840 .bf16) (x1 : Vec F S1024x256 .bf16) (x2 : Vec F S1024x128 .f32) (x3 : Vec F S1920x1024 .i8)
    (x4 : Vec F S256x1024 .bf16) (x5 x6 : Vec F S1x1024 .f32) (cs : Vec F S1x1x1024 .f32) : Vec F S1024x1024 .bf16 :=
  k1_pay1 (k1_pay5 qb (k1_pay4 x3)) (k1_pay6 x1 x4)
    (k1_pay7 (View.ld x2 (Rect.unit (s := S1024x128) ![0, 0] S1024x1.size inb_S1024x128_S1024x1_0_0)))
    (View.ld x2 (Rect.unit (s := S1024x128) ![0, 1] S1024x1.size inb_S1024x128_S1024x1_0_1))
    (View.ld x2 (Rect.unit (s := S1024x128) ![0, 2] S1024x1.size inb_S1024x128_S1024x1_0_2)) x5 x6 cs

section
variable {Val : EltTy → Type} [∀ e, Nonempty (Val e)] {κ : Kind} {sp : Space} {S : Shape} {e : EltTy}

/-- A store through the whole shape leaves its payload. -/
theorem read_store_whole (v : View sig κ sp S e) (f : v.ty.Contents Val) {off : Fin S.rank → Nat} (h : off = fun _ => 0)
    (inb : ∀ a, off a + S.size a ≤ S.size a) (w : S.Idx → Val e) :
    v.read Val (v.writes Val f [⟨Rect.unit off S.size inb, w⟩]) = w := by
  subst h; exact View.read_writes_whole v f w

/-- A load through the whole shape of a buffer that reads `x` is `x`. -/
theorem readAt_whole {sg : RefSig} (M : Memref sg κ sp S e) (hM : M.IsWhole) {off : Fin S.rank → Nat} (h : off = fun _ => 0)
    (inb : ∀ a, off a + S.size a ≤ S.size a) (x : S.Idx → Val e) :
    M.view.readAt Val (Rect.unit off S.size inb).toLoadRect (hM.unread x) = x := by
  subst h
  exact (View.readAt_eq_ld _ _ _).trans ((View.ld_unit_zero rfl _ _).trans (hM.read_unread x))

/-- A load through a box of a buffer that reads `x` is `x` at the box. -/
theorem readAt_unread {sg : RefSig} (M : Memref sg κ sp S e) (hM : M.IsWhole) (r : Rect S) (x : S.Idx → Val e) :
    M.view.readAt Val r.toLoadRect (hM.unread x) = View.ld x r :=
  (View.readAt_eq_ld _ _ _).trans (congrArg (View.ld · r) (hM.read_unread x))
end

theorem z2 : (![0, 0] : Fin 2 → Nat) = fun _ => 0 := by decide

section
variable {Val : EltTy → Type} [∀ e, Nonempty (Val e)] {κ : Kind} {sp : Space} {S : Shape} {e : EltTy} {sg : RefSig}

/-- A store to a box, read at the box, is its payload. -/
theorem ld_store (v : View sg κ sp S e) (f : v.ty.Contents Val) (r : Rect S) (w : r.shape.Idx → Val e) :
    View.ld (v.read Val (v.writes Val f [⟨r, w⟩])) r = w :=
  funext fun y => View.read_writes_cons_emb v f r w [] y

/-- A store to a box, loaded from the box, is its payload. -/
theorem readAt_store (v : View sg κ sp S e) (f : v.ty.Contents Val) (r : Rect S) (w : r.shape.Idx → Val e) :
    v.readAt Val r.toLoadRect (v.writes Val f [⟨r, w⟩]) = w :=
  (View.readAt_eq_ld _ _ _).trans (ld_store v f r w)

/-- A store to a box leaves the rest. -/
theorem store_off (v : View sg κ sp S e) (f : v.ty.Contents Val) (r : Rect S) (w : r.shape.Idx → Val e) (y : S.Idx) (hy : y ∉ r.set) :
    v.read Val (v.writes Val f [⟨r, w⟩]) y = v.read Val f y :=
  View.read_writes_cons_miss v f ⟨r, w⟩ [] y hy
end

set_option maxHeartbeats 1000000 in
theorem run_A (c : Dev nD) (i : grid1.Coords) (arg2 : Memref sig .tc .vmem S1024x3840 .i8) (harg2 : arg2.IsWhole) (arg3 : Memref sig .tc .vmem S1024x256 .bf16) (harg3 : arg3.IsWhole) (arg4 : Memref sig .tc .vmem S1024x128 .f32) (harg4 : arg4.IsWhole) (arg5 : Memref sig .tc .vmem S1920x1024 .i8) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x3840 .bf16) (harg10 : arg10.IsWhole) (arg11 : Memref sig .tc .vmem S3840x1024 .bf16) (harg11 : arg11.IsWhole) (arg12 : Memref sig .tc .vmem S14x1x1024 .f32) (harg12 : arg12.IsWhole) (hc0 : cond0 i) (hc1 : cond1 i)
    (x0 : Vec F S1024x3840 .i8) (x1 : Vec F S1024x256 .bf16) (x2 : Vec F S1024x128 .f32) (x3 : Vec F S1920x1024 .i8) (x4 : Vec F S256x1024 .bf16) (x5 : Vec F S1x1024 .f32) (x6 : Vec F S1x1024 .f32) (cs : Vec F S14x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare cs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (mixY (k1_pay2 x0) x1 x2 x3 x4 x5 x6 (k1_pay3 x3)) ∗ owns (c : Thread nD τ) arg10 fullShare (k1_pay2 x0) ∗ (∃ d, owns (c : Thread nD τ) arg11 fullShare d) ∗ (∃ cs', ⌜View.ld cs' (csRect i) = k1_pay3 x3 ∧ ∀ y, y ∉ (csRect i).set → cs' y = cs y⌝ ∗ owns (c : Thread nD τ) arg12 fullShare cs')) -∗ K ⟨⟩))
      ⊢ wp frame (wpE (defs₀ (F := F)) Variants.none c none) E (cc1_mixmm i arg2 harg2 arg3 harg3 arg4 harg4 arg5 harg5 arg6 harg6 arg7 harg7 arg8 harg8 arg9 harg9 arg10 harg10 arg11 harg11 arg12 harg12) K := by
  simp only [cc1_mixmm_eq_skeleton]; unfold cc1_mixmm_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg12.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_store_whole _ _ z2 _ _).trans ?_
    unfold mixY
    congr 1
    · sl_unfold_words
      refine congr (congrArg _ ?_) ?_
      · refine (View.readCov_unit_zero _ z2 _ _).trans ?_; refine congrArg k1_pay2 ?_; exact readAt_whole _ harg2 z2 _ _
      · refine (View.readCov_unit_zero _ z2 _ _).trans ?_; refine congrArg k1_pay4 ?_; exact readAt_whole _ harg5 z2 _ _
    · sl_unfold_words
      refine congr (congrArg _ ?_) ?_
      · exact readAt_whole _ harg3 z2 _ _
      · exact readAt_whole _ harg6 z2 _ _
    · sl_unfold_words
      refine congrArg _ ?_
      exact readAt_unread _ harg4 _ _
    · exact readAt_unread _ harg4 _ _
    · exact readAt_unread _ harg4 _ _
    · exact readAt_whole _ harg7 z2 _ _
    · exact readAt_whole _ harg8 z2 _ _
    · sl_unfold_words
      refine (readAt_store _ _ (csRect i) _).trans ?_
      refine congrArg k1_pay3 ?_
      exact readAt_whole _ harg5 z2 _ _
  isplitl [HS0]
  · iexists _; isplitr; swap; · iexact HS0
    ipureintro
    sl_unfold_words
    refine (read_store_whole _ _ z2 _ _).trans ?_
    refine congrArg k1_pay2 ?_
    exact readAt_whole _ harg2 z2 _ _
  isplitl [HS1]
  · iexists _, _; isplitr; swap; · iexact HS1
    ipureintro; rfl
  iexists _
  isplitr; swap
  · iexists _; isplitr; swap; · iexact HS2
    ipureintro; rfl
  ipureintro
  sl_unfold_words
  refine ⟨(ld_store _ _ (csRect i) _).trans ?_, fun y hy => (store_off _ _ (csRect i) _ y hy).trans ?_⟩
  · refine congrArg k1_pay3 ?_
    exact readAt_whole _ harg5 z2 _ _
  · exact congrFun (harg12.read_unread _) y

set_option maxHeartbeats 1000000 in
theorem run_B (c : Dev nD) (i : grid1.Coords) (arg2 : Memref sig .tc .vmem S1024x3840 .i8) (harg2 : arg2.IsWhole) (arg3 : Memref sig .tc .vmem S1024x256 .bf16) (harg3 : arg3.IsWhole) (arg4 : Memref sig .tc .vmem S1024x128 .f32) (harg4 : arg4.IsWhole) (arg5 : Memref sig .tc .vmem S1920x1024 .i8) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x3840 .bf16) (harg10 : arg10.IsWhole) (arg11 : Memref sig .tc .vmem S3840x1024 .bf16) (harg11 : arg11.IsWhole) (arg12 : Memref sig .tc .vmem S14x1x1024 .f32) (harg12 : arg12.IsWhole) (hc0 : cond0 i) (hc1 : ¬ cond1 i)
    (x0 : Vec F S1024x3840 .i8) (x1 : Vec F S1024x256 .bf16) (x2 : Vec F S1024x128 .f32) (x3 : Vec F S1920x1024 .i8) (x4 : Vec F S256x1024 .bf16) (x5 : Vec F S1x1024 .f32) (x6 : Vec F S1x1024 .f32) (cs : Vec F S14x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare cs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (mixY (k1_pay2 x0) x1 x2 x3 x4 x5 x6 (View.ld cs (csRect i))) ∗ owns (c : Thread nD τ) arg10 fullShare (k1_pay2 x0) ∗ (∃ d, owns (c : Thread nD τ) arg11 fullShare d) ∗ owns (c : Thread nD τ) arg12 fullShare cs) -∗ K ⟨⟩))
      ⊢ wp frame (wpE (defs₀ (F := F)) Variants.none c none) E (cc1_mixmm i arg2 harg2 arg3 harg3 arg4 harg4 arg5 harg5 arg6 harg6 arg7 harg7 arg8 harg8 arg9 harg9 arg10 harg10 arg11 harg11 arg12 harg12) K := by
  simp only [cc1_mixmm_eq_skeleton]; unfold cc1_mixmm_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg12.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_store_whole _ _ z2 _ _).trans ?_
    unfold mixY
    congr 1
    · sl_unfold_words
      refine congr (congrArg _ ?_) ?_
      · refine (View.readCov_unit_zero _ z2 _ _).trans ?_; refine congrArg k1_pay2 ?_; exact readAt_whole _ harg2 z2 _ _
      · refine (View.readCov_unit_zero _ z2 _ _).trans ?_; refine congrArg k1_pay4 ?_; exact readAt_whole _ harg5 z2 _ _
    · sl_unfold_words
      refine congr (congrArg _ ?_) ?_
      · exact readAt_whole _ harg3 z2 _ _
      · exact readAt_whole _ harg6 z2 _ _
    · sl_unfold_words
      refine congrArg _ ?_
      exact readAt_unread _ harg4 _ _
    · exact readAt_unread _ harg4 _ _
    · exact readAt_unread _ harg4 _ _
    · exact readAt_whole _ harg7 z2 _ _
    · exact readAt_whole _ harg8 z2 _ _
    · exact readAt_unread _ harg12 _ _
  isplitl [HS0]
  · iexists _; isplitr; swap; · iexact HS0
    ipureintro
    sl_unfold_words
    refine (read_store_whole _ _ z2 _ _).trans ?_
    refine congrArg k1_pay2 ?_
    exact readAt_whole _ harg2 z2 _ _
  isplitl [HS1]
  · iexists _, _; isplitr; swap; · iexact HS1
    ipureintro; rfl
  iexists _; isplitr; swap; · iexact HS2
  ipureintro; exact harg12.read_unread _

set_option maxHeartbeats 1000000 in
theorem run_C (c : Dev nD) (i : grid1.Coords) (arg2 : Memref sig .tc .vmem S1024x3840 .i8) (harg2 : arg2.IsWhole) (arg3 : Memref sig .tc .vmem S1024x256 .bf16) (harg3 : arg3.IsWhole) (arg4 : Memref sig .tc .vmem S1024x128 .f32) (harg4 : arg4.IsWhole) (arg5 : Memref sig .tc .vmem S1920x1024 .i8) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x3840 .bf16) (harg10 : arg10.IsWhole) (arg11 : Memref sig .tc .vmem S3840x1024 .bf16) (harg11 : arg11.IsWhole) (arg12 : Memref sig .tc .vmem S14x1x1024 .f32) (harg12 : arg12.IsWhole) (hc0 : ¬ cond0 i) (hc1 : cond1 i)
    (x0 : Vec F S1024x3840 .i8) (x1 : Vec F S1024x256 .bf16) (x2 : Vec F S1024x128 .f32) (x3 : Vec F S1920x1024 .i8) (x4 : Vec F S256x1024 .bf16) (x5 : Vec F S1x1024 .f32) (x6 : Vec F S1x1024 .f32) (q : Vec F S1024x3840 .bf16) (cs : Vec F S14x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare q ∗ (∃ d, owns (c : Thread nD τ) arg11 fullShare d) ∗ owns (c : Thread nD τ) arg12 fullShare cs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (mixY q x1 x2 x3 x4 x5 x6 (k1_pay3 x3)) ∗ owns (c : Thread nD τ) arg10 fullShare q ∗ (∃ d, owns (c : Thread nD τ) arg11 fullShare d) ∗ (∃ cs', ⌜View.ld cs' (csRect i) = k1_pay3 x3 ∧ ∀ y, y ∉ (csRect i).set → cs' y = cs y⌝ ∗ owns (c : Thread nD τ) arg12 fullShare cs')) -∗ K ⟨⟩))
      ⊢ wp frame (wpE (defs₀ (F := F)) Variants.none c none) E (cc1_mixmm i arg2 harg2 arg3 harg3 arg4 harg4 arg5 harg5 arg6 harg6 arg7 harg7 arg8 harg8 arg9 harg9 arg10 harg10 arg11 harg11 arg12 harg12) K := by
  simp only [cc1_mixmm_eq_skeleton]; unfold cc1_mixmm_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hfs0; obtain rfl := harg12.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_store_whole _ _ z2 _ _).trans ?_
    unfold mixY
    congr 1
    · sl_unfold_words
      refine congr (congrArg _ ?_) ?_
      · exact readAt_whole _ harg10 z2 _ _
      · refine (View.readCov_unit_zero _ z2 _ _).trans ?_; refine congrArg k1_pay4 ?_; exact readAt_whole _ harg5 z2 _ _
    · sl_unfold_words
      refine congr (congrArg _ ?_) ?_
      · exact readAt_whole _ harg3 z2 _ _
      · exact readAt_whole _ harg6 z2 _ _
    · sl_unfold_words
      refine congrArg _ ?_
      exact readAt_unread _ harg4 _ _
    · exact readAt_unread _ harg4 _ _
    · exact readAt_unread _ harg4 _ _
    · exact readAt_whole _ harg7 z2 _ _
    · exact readAt_whole _ harg8 z2 _ _
    · sl_unfold_words
      refine (readAt_store _ _ (csRect i) _).trans ?_
      refine congrArg k1_pay3 ?_
      exact readAt_whole _ harg5 z2 _ _
  isplitl [HS0]
  · iexists _; isplitr; swap; · iexact HS0
    ipureintro; exact harg10.read_unread _
  isplitl [HS1]
  · iexists _, _; isplitr; swap; · iexact HS1
    ipureintro; rfl
  iexists _
  isplitr; swap
  · iexists _; isplitr; swap; · iexact HS2
    ipureintro; rfl
  ipureintro
  sl_unfold_words
  refine ⟨(ld_store _ _ (csRect i) _).trans ?_, fun y hy => (store_off _ _ (csRect i) _ y hy).trans ?_⟩
  · refine congrArg k1_pay3 ?_
    exact readAt_whole _ harg5 z2 _ _
  · exact congrFun (harg12.read_unread _) y

set_option maxHeartbeats 1000000 in
theorem run_D (c : Dev nD) (i : grid1.Coords) (arg2 : Memref sig .tc .vmem S1024x3840 .i8) (harg2 : arg2.IsWhole) (arg3 : Memref sig .tc .vmem S1024x256 .bf16) (harg3 : arg3.IsWhole) (arg4 : Memref sig .tc .vmem S1024x128 .f32) (harg4 : arg4.IsWhole) (arg5 : Memref sig .tc .vmem S1920x1024 .i8) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x3840 .bf16) (harg10 : arg10.IsWhole) (arg11 : Memref sig .tc .vmem S3840x1024 .bf16) (harg11 : arg11.IsWhole) (arg12 : Memref sig .tc .vmem S14x1x1024 .f32) (harg12 : arg12.IsWhole) (hc0 : ¬ cond0 i) (hc1 : ¬ cond1 i)
    (x0 : Vec F S1024x3840 .i8) (x1 : Vec F S1024x256 .bf16) (x2 : Vec F S1024x128 .f32) (x3 : Vec F S1920x1024 .i8) (x4 : Vec F S256x1024 .bf16) (x5 : Vec F S1x1024 .f32) (x6 : Vec F S1x1024 .f32) (q : Vec F S1024x3840 .bf16) (cs : Vec F S14x1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare q ∗ (∃ d, owns (c : Thread nD τ) arg11 fullShare d) ∗ owns (c : Thread nD τ) arg12 fullShare cs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (mixY q x1 x2 x3 x4 x5 x6 (View.ld cs (csRect i))) ∗ owns (c : Thread nD τ) arg10 fullShare q ∗ (∃ d, owns (c : Thread nD τ) arg11 fullShare d) ∗ owns (c : Thread nD τ) arg12 fullShare cs) -∗ K ⟨⟩))
      ⊢ wp frame (wpE (defs₀ (F := F)) Variants.none c none) E (cc1_mixmm i arg2 harg2 arg3 harg3 arg4 harg4 arg5 harg5 arg6 harg6 arg7 harg7 arg8 harg8 arg9 harg9 arg10 harg10 arg11 harg11 arg12 harg12) K := by
  simp only [cc1_mixmm_eq_skeleton]; unfold cc1_mixmm_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg10.eq_unread hfs0; obtain rfl := harg12.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (read_store_whole _ _ z2 _ _).trans ?_
    unfold mixY
    congr 1
    · sl_unfold_words
      refine congr (congrArg _ ?_) ?_
      · exact readAt_whole _ harg10 z2 _ _
      · refine (View.readCov_unit_zero _ z2 _ _).trans ?_; refine congrArg k1_pay4 ?_; exact readAt_whole _ harg5 z2 _ _
    · sl_unfold_words
      refine congr (congrArg _ ?_) ?_
      · exact readAt_whole _ harg3 z2 _ _
      · exact readAt_whole _ harg6 z2 _ _
    · sl_unfold_words
      refine congrArg _ ?_
      exact readAt_unread _ harg4 _ _
    · exact readAt_unread _ harg4 _ _
    · exact readAt_unread _ harg4 _ _
    · exact readAt_whole _ harg7 z2 _ _
    · exact readAt_whole _ harg8 z2 _ _
    · exact readAt_unread _ harg12 _ _
  isplitl [HS0]
  · iexists _; isplitr; swap; · iexact HS0
    ipureintro; exact harg10.read_unread _
  isplitl [HS1]
  · iexists _, _; isplitr; swap; · iexact HS1
    ipureintro; rfl
  iexists _; isplitr; swap; · iexact HS2
  ipureintro; exact harg12.read_unread _

end Cert.Proof.KMix

end
-- ==== Proof.KMixRegion.lean ====
/- The matrix-product call over its whole grid: what its result holds at the end, and its proof that the body keeps
   what the scratch buffers carry from point to point. -/
module

public import proofs.«01_k».proof.Proof.KMixRun
public import Idealize.ShloMosaic.Lib.Pipeline.RegionArraysS

@[expose] public section

set_option maxRecDepth 16384

noncomputable section

namespace Cert.Proof.KMix

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

theorem before_0_of {c : Dev nD} (dat : Dat τ (Elt F) Unit ℕ (UR sig nD τ) ℕ cfg1 c) (hA : dat.A 0 = W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = W c (Pipeline.arrRef spec1 3))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = W c (Pipeline.arrRef spec1 4))
    (hafter : ∀ t, dat.after 4 t = iblk W c 4 t) (t : Fin cfg1.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = W c (Pipeline.arrRef spec1 5))
    (hafter : ∀ t, dat.after 5 t = iblk W c 5 t) (t : Fin cfg1.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg1 c) (hA : dat.A 6 = W c (Pipeline.arrRef spec1 6))
    (hafter : ∀ t, dat.after 6 t = iblk W c 6 t) (t : Fin cfg1.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The scoped buffers of the core that this call uses neither for staging nor as scratch. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The scoped buffers no window stages: the scratch buffers and the others. -/
theorem scoped_split (c : Dev nD) :
    (Pipeline.scopedRest (Ix := Unit) (Name := ℕ) (U := UR sig nD τ) (Lvl := ℕ) (Val := Elt F) spec1 c : sProp 𝕄)
      = iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ rest c) := by
  simp only [owns_whole]
  exact Pipeline.scopedRest_eq_of_list spec1 c [cc1_scratch0, cc1_scratch1, cc1_scratch2, cc0_stg0_0, cc0_stg1_0, cc0_stg2_0, cc0_stg3_0, cc0_stg3_1, cc0_stg4_0, cc0_stg4_1, cc0_stg5_0, cc0_stg5_1, cc0_stg6_0, cc0_stg6_1, cc0_stg7_0, cc0_stg7_1, cc0_scratch0, cc0_scratch1, cc0_scratch2] (by decide) (by decide)

/-- What the codes' scratch holds before point `n`. -/
def qOk (c : Dev nD) (n : ℕ) (d : Vec F S1024x3840 .bf16) : Prop :=
  ∀ h : n < cfg1.N, n % 14 ≠ 0 → d = k1_pay2 (iblk W c 0 ⟨n, h⟩)
/-- What the column sums' scratch holds before point `n`. -/
def csOk (c : Dev nD) (n : ℕ) (d : Vec F S14x1x1024 .f32) : Prop :=
  ∀ (j : ℕ) (h : j < cfg1.N), j < 14 → j < n → View.ld d (csRect (grid1.coords ⟨j, h⟩)) = k1_pay3 (iblk W c 3 ⟨j, h⟩)

/-- The region's invariant before point `n`. -/
def PhiS (c : Dev nD) (n : ℕ) (_ : n ≤ cfg1.N) : sProp 𝕄 :=
  iprop((∃ d, ⌜qOk W c n d⌝ ∗ owns (c : Thread nD τ) (Memref.whole cc1_scratch0) fullShare d) ∗ (∃ d, owns (c : Thread nD τ) (Memref.whole cc1_scratch1) fullShare d)
    ∗ (∃ d, ⌜csOk W c n d⌝ ∗ owns (c : Thread nD τ) (Memref.whole cc1_scratch2) fullShare d) ∗ rest c)

theorem off2_val (t : Fin cfg1.N) (a : Fin 3) : k1_off2 (grid1.coords t) a = (![t.val % 14, 0, 0] : Fin 3 → ℕ) a := by
  have ht : t.val < 224 := Nat.lt_of_lt_of_eq t.isLt N_1
  have e1 : (grid1.coords t 1).val = t.val / 1 % 14 := Pipeline.Grid.coords_val t 1 (by decide) rfl
  have : k1_off2 (grid1.coords t) = ![t.val % 14, 0, 0] := by
    unfold k1_off2; dsimp only
    rw [e1, Nat.div_one]
    have : (Scalar.indexCast (BitVec.ofNat 32 (t.val % 14))).toNat = t.val % 14 := by
      unfold Scalar.indexCast
      rw [BitVec.toNat_ofNat]; omega
    rw [this]
  rw [this]

/-- Points of one column of the grid read the same rectangle of the column sums. -/
theorem ld_cs_col (d : Vec F S14x1x1024 .f32) (t t' : Fin cfg1.N) (h : t.val % 14 = t'.val % 14) :
    View.ld d (csRect (grid1.coords t)) = (View.ld d (csRect (grid1.coords t')) : Vec F S1x1x1024 .f32) := by
  have e : k1_off2 (grid1.coords t) = k1_off2 (grid1.coords t') := by
    funext a; rw [off2_val, off2_val, h]
  have gen : ∀ (o o' : Fin 3 → ℕ) (i : ∀ a, o a + S1x1x1024.size a ≤ S14x1x1024.size a) (i' : ∀ a, o' a + S1x1x1024.size a ≤ S14x1x1024.size a), o = o' →
      (View.ld d (Rect.unit (s := S14x1x1024) o S1x1x1024.size i) : Vec F S1x1x1024 .f32) = View.ld d (Rect.unit (s := S14x1x1024) o' S1x1x1024.size i') := by
    intro o o' i i' h; subst h; rfl
  exact gen _ _ _ _ e

/-- A store to one column's rectangle leaves the others. -/
theorem ld_cs_keep (d d' : Vec F S14x1x1024 .f32) (t t' : Fin cfg1.N) (h : t.val % 14 ≠ t'.val % 14)
    (hk : ∀ y, y ∉ (csRect (grid1.coords t)).set → d' y = d y) :
    View.ld d' (csRect (grid1.coords t')) = (View.ld d (csRect (grid1.coords t')) : Vec F S1x1x1024 .f32) := by
  funext y
  refine hk _ fun hm => ?_
  have h0 := (Rect.mem_set_unit (inb := k1_off2_inb _)).mp hm 0
  have ei : ((csRect (grid1.coords t')).idx y 0).val = (csRect (grid1.coords t')).off 0 + 1 * (y 0).val := rfl
  rw [ei] at h0
  have hy : (y 0).val = 0 := by have := (y 0).isLt; change (y 0).val < 1 at this; omega
  have h1 : (csRect (grid1.coords t')).off 0 = t'.val % 14 := off2_val t' 0
  rw [off2_val, h1, hy] at h0
  have e : S1x1x1024.size 0 = 1 := rfl
  have e0 : (![t.val % 14, 0, 0] : Fin 3 → ℕ) 0 = t.val % 14 := rfl
  rw [e, e0] at h0
  exact h (by omega)

/-- The result block that the body leaves at point `t`. -/
def outY (c : Dev nD) (t : Fin cfg1.N) : Vec F S1024x1024 .bf16 :=
  mixY (k1_pay2 (iblk W c 0 t)) (iblk W c 1 t) (iblk W c 2 t) (iblk W c 3 t) (iblk W c 4 t) (iblk W c 5 t) (iblk W c 6 t) (k1_pay3 (iblk W c 3 t))

/-- The proof data of the call on core `c`. -/
def dats (c : Dev nD) : Dat τ (Elt F) Unit ℕ (UR sig nD τ) ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => outY W c t
  Φ t := PhiS W c t.val (Nat.le_of_lt_succ t.isLt)
  q _ := fullShare
  owed _ := 0

theorem A_eq (c : Dev nD) (w : Fin cfg1.W) : (dats W c).A w = W c (Pipeline.arrRef spec1 w) := by
  dsimp only [dats]

theorem PhiS_castSucc (c : Dev nD) (t : Fin cfg1.N) :
    (dats W c).Φ t.castSucc = PhiS W c t.val (Nat.le_of_lt t.isLt) := by
  dsimp only [dats]; exact Pipeline.Dat.Φ_castSucc (PhiS W c) t

theorem after_0 (c : Dev nD) (t : Fin cfg1.N) : (dats W c).after 0 t = iblk W c 0 t := by dsimp only [dats]
theorem after_1 (c : Dev nD) (t : Fin cfg1.N) : (dats W c).after 1 t = iblk W c 1 t := by dsimp only [dats]
theorem after_2 (c : Dev nD) (t : Fin cfg1.N) : (dats W c).after 2 t = iblk W c 2 t := by dsimp only [dats]
theorem after_3 (c : Dev nD) (t : Fin cfg1.N) : (dats W c).after 3 t = iblk W c 3 t := by dsimp only [dats]
theorem after_4 (c : Dev nD) (t : Fin cfg1.N) : (dats W c).after 4 t = iblk W c 4 t := by dsimp only [dats]
theorem after_5 (c : Dev nD) (t : Fin cfg1.N) : (dats W c).after 5 t = iblk W c 5 t := by dsimp only [dats]
theorem after_6 (c : Dev nD) (t : Fin cfg1.N) : (dats W c).after 6 t = iblk W c 6 t := by dsimp only [dats]
theorem after_7 (c : Dev nD) (t : Fin cfg1.N) : (dats W c).after 7 t = outY W c t := by dsimp only [dats]
theorem before_0 (c : Dev nD) (t : Fin cfg1.N) (d) : (dats W c).before 0 t d = iblk W c 0 t :=
  before_0_of W (dats W c) (A_eq W c 0) (after_0 W c) t d
theorem before_1 (c : Dev nD) (t : Fin cfg1.N) (d) : (dats W c).before 1 t d = iblk W c 1 t :=
  before_1_of W (dats W c) (A_eq W c 1) (after_1 W c) t d
theorem before_2 (c : Dev nD) (t : Fin cfg1.N) (d) : (dats W c).before 2 t d = iblk W c 2 t :=
  before_2_of W (dats W c) (A_eq W c 2) (after_2 W c) t d
theorem before_3 (c : Dev nD) (t : Fin cfg1.N) (d) : (dats W c).before 3 t d = iblk W c 3 t :=
  before_3_of W (dats W c) (A_eq W c 3) (after_3 W c) t d
theorem before_4 (c : Dev nD) (t : Fin cfg1.N) (d) : (dats W c).before 4 t d = iblk W c 4 t :=
  before_4_of W (dats W c) (A_eq W c 4) (after_4 W c) t d
theorem before_5 (c : Dev nD) (t : Fin cfg1.N) (d) : (dats W c).before 5 t d = iblk W c 5 t :=
  before_5_of W (dats W c) (A_eq W c 5) (after_5 W c) t d
theorem before_6 (c : Dev nD) (t : Fin cfg1.N) (d) : (dats W c).before 6 t d = iblk W c 6 t :=
  before_6_of W (dats W c) (A_eq W c 6) (after_6 W c) t d

/-- What the body is called with at point `t`, the windows one by one. -/
def bodyPre (c : Dev nD) (t : Fin cfg1.N) : sProp 𝕄 :=
  iprop((dats W c).Φ t.castSucc ∗ (dats W c).owesAt () t.castSucc
    ∗ (∃ d, owns (c : Thread nD τ) (st1_0 t) fullShare ((dats W c).before 0 t d))
    ∗ (∃ d, owns (c : Thread nD τ) (st1_1 t) fullShare ((dats W c).before 1 t d))
    ∗ (∃ d, owns (c : Thread nD τ) (st1_2 t) fullShare ((dats W c).before 2 t d))
    ∗ (∃ d, owns (c : Thread nD τ) (st1_3 t) fullShare ((dats W c).before 3 t d))
    ∗ (∃ d, owns (c : Thread nD τ) (st1_4 t) fullShare ((dats W c).before 4 t d))
    ∗ (∃ d, owns (c : Thread nD τ) (st1_5 t) fullShare ((dats W c).before 5 t d))
    ∗ (∃ d, owns (c : Thread nD τ) (st1_6 t) fullShare ((dats W c).before 6 t d))
    ∗ (∃ d, owns (c : Thread nD τ) (st1_7 t) fullShare ((dats W c).before 7 t d)))

/-- What it returns. -/
def bodyPost (c : Dev nD) (t : Fin cfg1.N) : sProp 𝕄 :=
  iprop((dats W c).Φ t.succ ∗ (dats W c).owesAt () t.succ
    ∗ owns (c : Thread nD τ) (st1_0 t) fullShare ((dats W c).after 0 t)
    ∗ owns (c : Thread nD τ) (st1_1 t) fullShare ((dats W c).after 1 t)
    ∗ owns (c : Thread nD τ) (st1_2 t) fullShare ((dats W c).after 2 t)
    ∗ owns (c : Thread nD τ) (st1_3 t) fullShare ((dats W c).after 3 t)
    ∗ owns (c : Thread nD τ) (st1_4 t) fullShare ((dats W c).after 4 t)
    ∗ owns (c : Thread nD τ) (st1_5 t) fullShare ((dats W c).after 5 t)
    ∗ owns (c : Thread nD τ) (st1_6 t) fullShare ((dats W c).after 6 t)
    ∗ owns (c : Thread nD τ) (st1_7 t) fullShare ((dats W c).after 7 t))

theorem fetched_eq_0 (c : Dev nD) (t : Fin cfg1.N) (d) : (dats W c).fetched 0 t d = iblk W c 0 t := by
  unfold Dat.fetched Dat.blockOf iblk; rw [A_eq]; rfl
theorem fetched_eq_3 (c : Dev nD) (t : Fin cfg1.N) (d) : (dats W c).fetched 3 t d = iblk W c 3 t := by
  unfold Dat.fetched Dat.blockOf iblk; rw [A_eq]; rfl

/-- The block of window 0 is the same along a row of the grid. -/
theorem iblk0_prev (c : Dev nD) (n : ℕ) (h : n + 1 < cfg1.N) (hn : (n + 1) % 14 ≠ 0) :
    iblk W c 0 ⟨n + 1, h⟩ = iblk W c 0 ⟨n, Nat.lt_of_succ_lt h⟩ := by
  have hf : (cfg1.win 0).fetch ⟨n + 1, h⟩ = false := by
    have := (fetch1_0 ⟨n + 1, h⟩).not.mpr hn
    simpa using this
  obtain ⟨_, hix⟩ := (cfg1.win 0).index_eq_of_fetch rfl _ hf
  rw [← fetched_eq_0 W c ⟨n + 1, h⟩ (iblk W c 0 ⟨n, Nat.lt_of_succ_lt h⟩), ← fetched_eq_0 W c ⟨n, Nat.lt_of_succ_lt h⟩ (iblk W c 0 ⟨n, Nat.lt_of_succ_lt h⟩)]
  exact (dats W c).fetched_congr 0 hix rfl _

/-- The block of window 3 is the same down a column of the grid. -/
theorem iblk3_col (c : Dev nD) (t t' : Fin cfg1.N) (h : t.val % 14 = t'.val % 14) : iblk W c 3 t = iblk W c 3 t' := by
  have e : (grid1.coords t 1) = (grid1.coords t' 1) := by
    apply Fin.ext
    have e1 : (grid1.coords t 1).val = t.val / 1 % 14 := Pipeline.Grid.coords_val t 1 (by decide) rfl
    have e2 : (grid1.coords t' 1).val = t'.val / 1 % 14 := Pipeline.Grid.coords_val t' 1 (by decide) rfl
    rw [e1, e2, Nat.div_one, Nat.div_one, h]
  have hix : (cfg1.win 3).index t = (cfg1.win 3).index t' := by
    show cc1_transform_3 (grid1.coords t) = cc1_transform_3 (grid1.coords t')
    unfold cc1_transform_3; dsimp only; rw [e]
  rw [← fetched_eq_3 W c t (iblk W c 3 t'), ← fetched_eq_3 W c t' (iblk W c 3 t')]
  exact (dats W c).fetched_congr 3 hix rfl _

theorem qOk_succ (c : Dev nD) (t : Fin cfg1.N) : qOk W c (t.val + 1) (k1_pay2 (iblk W c 0 t)) := by
  intro h hn
  rw [iblk0_prev W c t.val h hn]

theorem csOk_store (c : Dev nD) (t : Fin cfg1.N) (ht : t.val < 14) (d d' : Vec F S14x1x1024 .f32) (h : csOk W c t.val d)
    (hs : View.ld d' (csRect (grid1.coords t)) = k1_pay3 (iblk W c 3 t))
    (hk : ∀ y, y ∉ (csRect (grid1.coords t)).set → d' y = d y) : csOk W c (t.val + 1) d' := by
  intro j hj hj14 hjt
  rcases Nat.lt_succ_iff_lt_or_eq.mp hjt with hlt | rfl
  · exact (ld_cs_keep d d' t ⟨j, hj⟩ (by show t.val % 14 ≠ j % 14; omega) hk).trans (h j hj hj14 hlt)
  · exact hs

theorem csOk_keep (c : Dev nD) (t : Fin cfg1.N) (ht : ¬ t.val < 14) (d : Vec F S14x1x1024 .f32) (h : csOk W c t.val d) : csOk W c (t.val + 1) d :=
  fun j hj hj14 hjt => h j hj hj14 (by omega)

theorem csOk_read (c : Dev nD) (t : Fin cfg1.N) (ht : ¬ t.val < 14) (d : Vec F S14x1x1024 .f32) (h : csOk W c t.val d) :
    (View.ld d (csRect (grid1.coords t)) : Vec F S1x1x1024 .f32) = k1_pay3 (iblk W c 3 t) := by
  have hl : t.val % 14 < cfg1.N := lt_of_le_of_lt (Nat.mod_le _ _) t.isLt
  have e : t.val % 14 = (⟨t.val % 14, hl⟩ : Fin cfg1.N).val % 14 := by show _ = t.val % 14 % 14; omega
  rw [ld_cs_col d t ⟨t.val % 14, hl⟩ e, iblk3_col W c t ⟨t.val % 14, hl⟩ e]
  exact h _ hl (by omega) (by omega)

set_option maxHeartbeats 12800000 in
/-- The body at any point takes the invariant before the point to the invariant after it. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6]
  rw [show (dats W c).owesAt () t.succ = (dats W c).owesAt () t.castSucc from rfl,
    after_0, after_1, after_2, after_3, after_4, after_5, after_6, after_7]
  rw [PhiS_castSucc W c t, show (dats W c).Φ t.succ = PhiS W c (t.val + 1) t.isLt from rfl]
  unfold PhiS outY
  iintro ⟨⟨⟨%q, %hq, HS0⟩, HS1, ⟨%cs, %hcs, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 14 = 0
  · by_cases h1 : t.val < 14
    · iapply (run_A c (grid1.coords t) _ _ _ _ _ _ _ _ _ _ _ _ _ _ _ _ _ _ _ _ _ _ ((hcond0 t).mpr h0) ((hcond1 t).mpr h1) (iblk W c 0 t) (iblk W c 1 t) (iblk W c 2 t) (iblk W c 3 t) (iblk W c 4 t) (iblk W c 5 t) (iblk W c 6 t) cs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      isplitl [HS2]; · iexact HS2
      iintro ⟨H0, H1, H2, H3, H4, H5, H6, H7, HS0, HS1, ⟨%cs', %hcs', HS2⟩⟩
      isplitl [HS0 HS1 HS2 HR]
      · isplitl [HS0]; · (iexists _; isplitr; (· ipureintro; exact qOk_succ W c t); iexact HS0)
        isplitl [HS1]; · iexact HS1
        isplitl [HS2]; · (iexists _; isplitr; (· ipureintro; exact csOk_store W c t h1 cs cs' hcs hcs'.1 hcs'.2); iexact HS2)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [← csOk_read W c t h1 cs hcs]
      iapply (run_B c (grid1.coords t) _ _ _ _ _ _ _ _ _ _ _ _ _ _ _ _ _ _ _ _ _ _ ((hcond0 t).mpr h0) (fun h => h1 ((hcond1 t).mp h)) (iblk W c 0 t) (iblk W c 1 t) (iblk W c 2 t) (iblk W c 3 t) (iblk W c 4 t) (iblk W c 5 t) (iblk W c 6 t) cs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      isplitl [HS2]; · iexact HS2
      iintro ⟨H0, H1, H2, H3, H4, H5, H6, H7, HS0, HS1, HS2⟩
      isplitl [HS0 HS1 HS2 HR]
      · isplitl [HS0]; · (iexists _; isplitr; (· ipureintro; exact qOk_succ W c t); iexact HS0)
        isplitl [HS1]; · iexact HS1
        isplitl [HS2]; · (iexists _; isplitr; (· ipureintro; exact csOk_keep W c t h1 cs hcs); iexact HS2)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h1 : t.val < 14
    · obtain rfl := hq t.isLt h0
      iapply (run_C c (grid1.coords t) _ _ _ _ _ _ _ _ _ _ _ _ _ _ _ _ _ _ _ _ _ _ (fun h => h0 ((hcond0 t).mp h)) ((hcond1 t).mpr h1) (iblk W c 0 t) (iblk W c 1 t) (iblk W c 2 t) (iblk W c 3 t) (iblk W c 4 t) (iblk W c 5 t) (iblk W c 6 t) (k1_pay2 (iblk W c 0 t)) cs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, ⟨%cs', %hcs', HS2⟩⟩
      isplitl [HS0 HS1 HS2 HR]
      · isplitl [HS0]; · (iexists _; isplitr; (· ipureintro; exact qOk_succ W c t); iexact HS0)
        isplitl [HS1]; · iexact HS1
        isplitl [HS2]; · (iexists _; isplitr; (· ipureintro; exact csOk_store W c t h1 cs cs' hcs hcs'.1 hcs'.2); iexact HS2)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · obtain rfl := hq t.isLt h0
      rw [← csOk_read W c t h1 cs hcs]
      iapply (run_D c (grid1.coords t) _ _ _ _ _ _ _ _ _ _ _ _ _ _ _ _ _ _ _ _ _ _ (fun h => h0 ((hcond0 t).mp h)) (fun h => h1 ((hcond1 t).mp h)) (iblk W c 0 t) (iblk W c 1 t) (iblk W c 2 t) (iblk W c 3 t) (iblk W c 4 t) (iblk W c 5 t) (iblk W c 6 t) (k1_pay2 (iblk W c 0 t)) cs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 HR]
      · isplitl [HS0]; · (iexists _; isplitr; (· ipureintro; exact qOk_succ W c t); iexact HS0)
        isplitl [HS1]; · iexact HS1
        isplitl [HS2]; · (iexists _; isplitr; (· ipureintro; exact csOk_keep W c t h1 cs hcs); iexact HS2)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dats W c) (defs₀ (F := F)) Variants.none () Set.univ := fun t => by
  rw [bigSep_W1, bigSep_W1, defs₀_row]
  exact triple_restated (sound_body W c t) rfl .rfl fun _ => .rfl

theorem hin (c : Dev nD) : iprop(Pipeline.scopedRest spec1 c ∗ emp) ⊢ (dats W c).Φ 0 := by
  rw [show (dats W c).Φ 0 = PhiS W c 0 (Nat.zero_le _) from rfl, scoped_split]
  unfold PhiS
  iintro ⟨⟨⟨%d0, H0⟩, H1, ⟨%d2, H2⟩, HR⟩, -⟩
  isplitl [H0]; · (iexists d0; isplitr; (· ipureintro; intro h hn; exact absurd (Nat.zero_mod _) hn); iexact H0)
  isplitl [H1]; · iexact H1
  isplitl [H2]; · (iexists d2; isplitr; (· ipureintro; intro j hj _ h; exact absurd h (Nat.not_lt_zero _)); iexact H2)
  iexact HR

theorem hout (c : Dev nD) : (dats W c).Φ (Fin.last cfg1.N) ⊢ iprop(Pipeline.scopedRest spec1 c ∗ emp) := by
  rw [show (dats W c).Φ (Fin.last cfg1.N) = PhiS W c cfg1.N (Nat.le_refl _) from rfl, scoped_split]
  unfold PhiS
  iintro ⟨⟨%d0, -, H0⟩, H1, ⟨%d2, -, H2⟩, HR⟩
  isplitl [H0 H1 H2 HR]
  · isplitl [H0]; · iexists _; iexact H0
    isplitl [H1]; · iexact H1
    isplitl [H2]; · iexists _; iexact H2
    iexact HR
  iempintro

end Cert.Proof.KMix

end
-- ==== Proof.KQuantRun.lean ====
/- The quantising kernel's body at one grid point: what it leaves in its four result blocks and its scratch buffers,
   as a function of the point's input blocks and of what the scratch held. -/
module

public import proofs.«01_k».proof.Proof.KMixRun

@[expose] public section

set_option maxRecDepth 16384

noncomputable section

namespace Cert.Proof.KQuant

open Cert.Kernel Cert.Kernel.Gen Cert.Proof.KMix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: the point is the first of the grid. -/
abbrev cond0 (i : grid0.Coords) : Prop := (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    simp only [cond0, e0]
    word_cmp
   : ∀ t : Fin grid0.N, cond0 (grid0.coords t) ↔ t.val = 0)

/-- The row numbers of a column block. -/
def colIota : IVec S4096x128 32 := iota .tc S4096x128 32 [0] iota_S4096x128_d0_w32

/-- The row of the mask's scratch that the body writes and reads. -/
abbrev padRect : Rect S8x4096 := Rect.unit (s := S8x4096) ![0, 0] S1x4096.size inb_S8x4096_S1x4096_0_0

/-- Column block 0 of the gather matrix, from the loads of the index rows. -/
def pc0 (p : (r : Rect S6x640) → Vec F r.shape .i32) : Vec F S4096x128 .bf16 :=
  k0_pay6 (k0_pay5 (p (Rect.unit (s := S6x640) ![0, 0] S1x128.size inb_S6x640_S1x128_0_0)) (p (Rect.unit (s := S6x640) ![1, 0] S1x128.size inb_S6x640_S1x128_1_0)) (p (Rect.unit (s := S6x640) ![2, 0] S1x128.size inb_S6x640_S1x128_2_0)) (p (Rect.unit (s := S6x640) ![3, 0] S1x128.size inb_S6x640_S1x128_3_0)) (p (Rect.unit (s := S6x640) ![4, 0] S1x128.size inb_S6x640_S1x128_4_0)) (p (Rect.unit (s := S6x640) ![5, 0] S1x128.size inb_S6x640_S1x128_5_0)))

/-- Column block 1 of the gather matrix, from the loads of the index rows. -/
def pc1 (p : (r : Rect S6x640) → Vec F r.shape .i32) : Vec F S4096x128 .bf16 :=
  k0_pay8 (k0_pay7 colIota (p (Rect.unit (s := S6x640) ![0, 128] S1x128.size inb_S6x640_S1x128_0_128)) (p (Rect.unit (s := S6x640) ![1, 128] S1x128.size inb_S6x640_S1x128_1_128)) (p (Rect.unit (s := S6x640) ![2, 128] S1x128.size inb_S6x640_S1x128_2_128)) (p (Rect.unit (s := S6x640) ![3, 128] S1x128.size inb_S6x640_S1x128_3_128)) (p (Rect.unit (s := S6x640) ![4, 128] S1x128.size inb_S6x640_S1x128_4_128)) (p (Rect.unit (s := S6x640) ![5, 128] S1x128.size inb_S6x640_S1x128_5_128)))

/-- Column block 2 of the gather matrix, from the loads of the index rows. -/
def pc2 (p : (r : Rect S6x640) → Vec F r.shape .i32) : Vec F S4096x128 .bf16 :=
  k0_pay11 (k0_pay9 colIota (p (Rect.unit (s := S6x640) ![0, 256] S1x128.size inb_S6x640_S1x128_0_256)) (p (Rect.unit (s := S6x640) ![1, 256] S1x128.size inb_S6x640_S1x128_1_256)) (p (Rect.unit (s := S6x640) ![2, 256] S1x128.size inb_S6x640_S1x128_2_256)) (p (Rect.unit (s := S6x640) ![3, 256] S1x128.size inb_S6x640_S1x128_3_256)) (p (Rect.unit (s := S6x640) ![4, 256] S1x128.size inb_S6x640_S1x128_4_256))) (k0_pay10 colIota (p (Rect.unit (s := S6x640) ![5, 256] S1x128.size inb_S6x640_S1x128_5_256)))

/-- Column block 3 of the gather matrix, from the loads of the index rows. -/
def pc3 (p : (r : Rect S6x640) → Vec F r.shape .i32) : Vec F S4096x128 .bf16 :=
  k0_pay13 colIota (k0_pay12 colIota (p (Rect.unit (s := S6x640) ![0, 384] S1x128.size inb_S6x640_S1x128_0_384)) (p (Rect.unit (s := S6x640) ![1, 384] S1x128.size inb_S6x640_S1x128_1_384)) (p (Rect.unit (s := S6x640) ![2, 384] S1x128.size inb_S6x640_S1x128_2_384)) (p (Rect.unit (s := S6x640) ![3, 384] S1x128.size inb_S6x640_S1x128_3_384)) (p (Rect.unit (s := S6x640) ![4, 384] S1x128.size inb_S6x640_S1x128_4_384))) (p (Rect.unit (s := S6x640) ![5, 384] S1x128.size inb_S6x640_S1x128_5_384))

/-- Column block 4 of the gather matrix, from the loads of the index rows. -/
def pc4 (p : (r : Rect S6x640) → Vec F r.shape .i32) : Vec F S4096x128 .bf16 :=
  k0_pay15 colIota (k0_pay14 colIota (p (Rect.unit (s := S6x640) ![0, 512] S1x128.size inb_S6x640_S1x128_0_512)) (p (Rect.unit (s := S6x640) ![1, 512] S1x128.size inb_S6x640_S1x128_1_512)) (p (Rect.unit (s := S6x640) ![2, 512] S1x128.size inb_S6x640_S1x128_2_512)) (p (Rect.unit (s := S6x640) ![3, 512] S1x128.size inb_S6x640_S1x128_3_512)) (p (Rect.unit (s := S6x640) ![4, 512] S1x128.size inb_S6x640_S1x128_4_512))) (p (Rect.unit (s := S6x640) ![5, 512] S1x128.size inb_S6x640_S1x128_5_512))

/-- Column block 5 of the gather matrix, from the loads of the index rows. -/
def pc5 (o : (r : Rect S1x256) → Vec F r.shape .i32) : Vec F S4096x128 .bf16 :=
  k0_pay20 colIota k0_pay18 (k0_pay19 colIota (o (Rect.unit (s := S1x256) ![0, 0] S1x128.size inb_S1x256_S1x128_0_0))) (o (Rect.unit (s := S1x256) ![0, 128] S1x128.size inb_S1x256_S1x128_0_128))

/-- The gather matrix: its six column blocks, as stored. -/
def pcL (p : (r : Rect S6x640) → Vec F r.shape .i32) (o : (r : Rect S1x256) → Vec F r.shape .i32) : List (View.Piece (Elt F) S4096x768 .bf16) :=
  [⟨Rect.unit (s := S4096x768) ![0, 640] S4096x128.size inb_S4096x768_S4096x128_0_640, pc5 (F := F) o⟩,
    ⟨Rect.unit (s := S4096x768) ![0, 512] S4096x128.size inb_S4096x768_S4096x128_0_512, pc4 (F := F) p⟩,
    ⟨Rect.unit (s := S4096x768) ![0, 384] S4096x128.size inb_S4096x768_S4096x128_0_384, pc3 (F := F) p⟩,
    ⟨Rect.unit (s := S4096x768) ![0, 256] S4096x128.size inb_S4096x768_S4096x128_0_256, pc2 (F := F) p⟩,
    ⟨Rect.unit (s := S4096x768) ![0, 128] S4096x128.size inb_S4096x768_S4096x128_0_128, pc1 (F := F) p⟩,
    ⟨Rect.unit (s := S4096x768) ![0, 0] S4096x128.size inb_S4096x768_S4096x128_0_0, pc0 (F := F) p⟩]
def pcV (p : Vec F S6x640 .i32) (o : Vec F S1x256 .i32) : Vec F S4096x768 .bf16 := View.canon (pcL (View.ld p) (View.ld o))

/-- The selection matrix of the outlier columns: its two column blocks, as stored. -/
def poL (o : (r : Rect S1x256) → Vec F r.shape .i32) : List (View.Piece (Elt F) S4096x256 .bf16) :=
  [⟨Rect.unit (s := S4096x256) ![0, 128] S4096x128.size inb_S4096x256_S4096x128_0_128, k0_pay17 colIota (o (Rect.unit (s := S1x256) ![0, 128] S1x128.size inb_S1x256_S1x128_0_128))⟩,
    ⟨Rect.unit (s := S4096x256) ![0, 0] S4096x128.size inb_S4096x256_S4096x128_0_0, k0_pay16 colIota (o (Rect.unit (s := S1x256) ![0, 0] S1x128.size inb_S1x256_S1x128_0_0))⟩]
def poV (o : Vec F S1x256 .i32) : Vec F S4096x256 .bf16 := View.canon (poL (View.ld o))

/-- The mask row. -/
def padV (x2 : Vec F S256x1 .i32) : Vec F S1x4096 .f32 := k0_pay23 (k0_pay21 x2) k0_pay22

/-- The codes' block from the packed sums: its six column blocks, as stored. -/
def qL (v39 : Vec F S256x768 .f32) : List (View.Piece (Elt F) S256x3840 .i8) :=
  [⟨Rect.unit (s := S256x3840) ![0, 3200] S256x640.size inb_S256x3840_S256x640_0_3200, k0_pay2 (k0_pay30 v39)⟩,
    ⟨Rect.unit (s := S256x3840) ![0, 2560] S256x640.size inb_S256x3840_S256x640_0_2560, k0_pay1 (k0_pay35 v39) k0_pay36⟩,
    ⟨Rect.unit (s := S256x3840) ![0, 1920] S256x640.size inb_S256x3840_S256x640_0_1920, k0_pay34 v39⟩,
    ⟨Rect.unit (s := S256x3840) ![0, 1280] S256x640.size inb_S256x3840_S256x640_0_1280, k0_pay33 v39⟩,
    ⟨Rect.unit (s := S256x3840) ![0, 640] S256x640.size inb_S256x3840_S256x640_0_640, k0_pay32 v39⟩,
    ⟨Rect.unit (s := S256x3840) ![0, 0] S256x640.size inb_S256x3840_S256x640_0_0, k0_pay31 v39⟩]
def qV (v39 : Vec F S256x768 .f32) : Vec F S256x3840 .i8 := View.canon (qL v39)

/-- The four result blocks, from the activation block, the mask row and the two matrices. -/
def outQ (x : Vec F S256x4096 .bf16) (pad : Vec F S1x4096 .f32) (pc : Vec F S4096x768 .bf16) : Vec F S256x3840 .i8 := qV (k0_pay28 x pad pc)
def outX (x : Vec F S256x4096 .bf16) (po : Vec F S4096x256 .bf16) : Vec F S256x256 .bf16 := k0_pay29 (k0_pay24 x) po
def outS (x : Vec F S256x4096 .bf16) (pad : Vec F S1x4096 .f32) (pc : Vec F S4096x768 .bf16) : Vec F S256x128 .f32 :=
  k0_pay3 (k0_pay26 x pad) (k0_pay27 x pad) (k0_pay28 x pad pc)
def outT (x : Vec F S256x4096 .bf16) (pad : Vec F S1x4096 .f32) (pc : Vec F S4096x768 .bf16) : Vec F S8x256 .f32 :=
  k0_pay4 (k0_pay26 x pad) (k0_pay27 x pad) (k0_pay28 x pad pc)

theorem pc_covers (p : (r : Rect S6x640) → Vec F r.shape .i32) (o : (r : Rect S1x256) → Vec F r.shape .i32) (y : S4096x768.Idx) : ∃ q ∈ pcL p o, y ∈ q.1.set := by
  have h0 : (y 0).val < 4096 := (y 0).isLt
  have h1 : (y 1).val < 768 := (y 1).isLt
  have key : ∀ (off : ℕ) (inb : _) (w : S4096x128.Idx → Elt F .bf16), (⟨Rect.unit (s := S4096x768) ![0, off] S4096x128.size inb, w⟩ : View.Piece (Elt F) S4096x768 .bf16) ∈ pcL p o →
      off ≤ (y 1).val → (y 1).val < off + 128 → ∃ q ∈ pcL p o, y ∈ q.1.set := fun off inb w hm h2 h3 =>
    ⟨⟨_, w⟩, hm, (Rect.mem_set_unit (inb := inb)).mpr (Fin.forall_fin_two.mpr ⟨⟨Nat.zero_le _, by show (y 0).val < 0 + 4096; omega⟩, h2, h3⟩)⟩
  have : (y 1).val < 128 ∨ (128 ≤ (y 1).val ∧ (y 1).val < 256) ∨ (256 ≤ (y 1).val ∧ (y 1).val < 384) ∨ (384 ≤ (y 1).val ∧ (y 1).val < 512) ∨ (512 ≤ (y 1).val ∧ (y 1).val < 640) ∨ 640 ≤ (y 1).val := by omega
  rcases this with h | h | h | h | h | h
  · exact key 0 inb_S4096x768_S4096x128_0_0 _ (by unfold pcL; exact List.Mem.tail _ (List.Mem.tail _ (List.Mem.tail _ (List.Mem.tail _ (List.Mem.tail _ (List.Mem.head _)))))) (by omega) (by omega)
  · exact key 128 inb_S4096x768_S4096x128_0_128 _ (by unfold pcL; exact List.Mem.tail _ (List.Mem.tail _ (List.Mem.tail _ (List.Mem.tail _ (List.Mem.head _))))) (by omega) (by omega)
  · exact key 256 inb_S4096x768_S4096x128_0_256 _ (by unfold pcL; exact List.Mem.tail _ (List.Mem.tail _ (List.Mem.tail _ (List.Mem.head _)))) (by omega) (by omega)
  · exact key 384 inb_S4096x768_S4096x128_0_384 _ (by unfold pcL; exact List.Mem.tail _ (List.Mem.tail _ (List.Mem.head _))) (by omega) (by omega)
  · exact key 512 inb_S4096x768_S4096x128_0_512 _ (by unfold pcL; exact List.Mem.tail _ (List.Mem.head _)) (by omega) (by omega)
  · exact key 640 inb_S4096x768_S4096x128_0_640 _ (by unfold pcL; exact List.Mem.head _) (by omega) (by omega)

theorem po_covers (o : (r : Rect S1x256) → Vec F r.shape .i32) (y : S4096x256.Idx) : ∃ q ∈ poL o, y ∈ q.1.set := by
  have h0 : (y 0).val < 4096 := (y 0).isLt
  have h1 : (y 1).val < 256 := (y 1).isLt
  have key : ∀ (off : ℕ) (inb : _) (w : S4096x128.Idx → Elt F .bf16), (⟨Rect.unit (s := S4096x256) ![0, off] S4096x128.size inb, w⟩ : View.Piece (Elt F) S4096x256 .bf16) ∈ poL o →
      off ≤ (y 1).val → (y 1).val < off + 128 → ∃ q ∈ poL o, y ∈ q.1.set := fun off inb w hm h2 h3 =>
    ⟨⟨_, w⟩, hm, (Rect.mem_set_unit (inb := inb)).mpr (Fin.forall_fin_two.mpr ⟨⟨Nat.zero_le _, by show (y 0).val < 0 + 4096; omega⟩, h2, h3⟩)⟩
  have : (y 1).val < 128 ∨ 128 ≤ (y 1).val := by omega
  rcases this with h | h
  · exact key 0 inb_S4096x256_S4096x128_0_0 _ (by unfold poL; exact List.Mem.tail _ (List.Mem.head _)) (by omega) (by omega)
  · exact key 128 inb_S4096x256_S4096x128_0_128 _ (by unfold poL; exact List.Mem.head _) (by omega) (by omega)

theorem q_covers (v : Vec F S256x768 .f32) (y : S256x3840.Idx) : ∃ q ∈ qL v, y ∈ q.1.set := by
  have h0 : (y 0).val < 256 := (y 0).isLt
  have h1 : (y 1).val < 3840 := (y 1).isLt
  have key : ∀ (off : ℕ) (inb : _) (w : S256x640.Idx → Elt F .i8), (⟨Rect.unit (s := S256x3840) ![0, off] S256x640.size inb, w⟩ : View.Piece (Elt F) S256x3840 .i8) ∈ qL v →
      off ≤ (y 1).val → (y 1).val < off + 640 → ∃ q ∈ qL v, y ∈ q.1.set := fun off inb w hm h2 h3 =>
    ⟨⟨_, w⟩, hm, (Rect.mem_set_unit (inb := inb)).mpr (Fin.forall_fin_two.mpr ⟨⟨Nat.zero_le _, by show (y 0).val < 0 + 256; omega⟩, h2, h3⟩)⟩
  have : (y 1).val < 640 ∨ (640 ≤ (y 1).val ∧ (y 1).val < 1280) ∨ (1280 ≤ (y 1).val ∧ (y 1).val < 1920) ∨ (1920 ≤ (y 1).val ∧ (y 1).val < 2560) ∨ (2560 ≤ (y 1).val ∧ (y 1).val < 3200) ∨ 3200 ≤ (y 1).val := by omega
  rcases this with h | h | h | h | h | h
  · exact key 0 inb_S256x3840_S256x640_0_0 _ (by unfold qL; exact List.Mem.tail _ (List.Mem.tail _ (List.Mem.tail _ (List.Mem.tail _ (List.Mem.tail _ (List.Mem.head _)))))) (by omega) (by omega)
  · exact key 640 inb_S256x3840_S256x640_0_640 _ (by unfold qL; exact List.Mem.tail _ (List.Mem.tail _ (List.Mem.tail _ (List.Mem.tail _ (List.Mem.head _))))) (by omega) (by omega)
  · exact key 1280 inb_S256x3840_S256x640_0_1280 _ (by unfold qL; exact List.Mem.tail _ (List.Mem.tail _ (List.Mem.tail _ (List.Mem.head _)))) (by omega) (by omega)
  · exact key 1920 inb_S256x3840_S256x640_0_1920 _ (by unfold qL; exact List.Mem.tail _ (List.Mem.tail _ (List.Mem.head _))) (by omega) (by omega)
  · exact key 2560 inb_S256x3840_S256x640_0_2560 _ (by unfold qL; exact List.Mem.tail _ (List.Mem.head _)) (by omega) (by omega)
  · exact key 3200 inb_S256x3840_S256x640_0_3200 _ (by unfold qL; exact List.Mem.head _) (by omega) (by omega)

theorem outQ_of {x x' : Vec F S256x4096 .bf16} {pad pad' : Vec F S1x4096 .f32} {pc pc' : Vec F S4096x768 .bf16} (h0 : x = x') (h1 : pad = pad') (h2 : pc = pc') :
    View.canon (qL (k0_pay28 x pad pc)) = outQ x' pad' pc' := by subst h0 h1 h2; rfl
theorem outX_of {x x' : Vec F S256x4096 .bf16} {po po' : Vec F S4096x256 .bf16} (h0 : x = x') (h2 : po = po') :
    k0_pay29 (k0_pay24 x) po = outX x' po' := by subst h0 h2; rfl
theorem outS_of {x x' : Vec F S256x4096 .bf16} {pad pad' : Vec F S1x4096 .f32} {pc pc' : Vec F S4096x768 .bf16} (h0 : x = x') (h1 : pad = pad') (h2 : pc = pc') :
    k0_pay3 (k0_pay26 x pad) (k0_pay27 x pad) (k0_pay28 x pad pc) = outS x' pad' pc' := by subst h0 h1 h2; rfl
theorem outT_of {x x' : Vec F S256x4096 .bf16} {pad pad' : Vec F S1x4096 .f32} {pc pc' : Vec F S4096x768 .bf16} (h0 : x = x') (h1 : pad = pad') (h2 : pc = pc') :
    k0_pay4 (k0_pay26 x pad) (k0_pay27 x pad) (k0_pay28 x pad pc) = outT x' pad' pc' := by subst h0 h1 h2; rfl

section
variable {κ : Kind} {sp : Space} {S : Shape} {e : EltTy}
/-- The loads of a whole buffer that reads `x`, as loads of `x`. -/
theorem loads_unread {sg : RefSig} (M : Memref sg κ sp S e) (hM : M.IsWhole) (x : Vec F S e) :
    (fun r : Rect S => M.view.readAt (Elt F) r.toLoadRect (hM.unread x)) = fun r => View.ld x r :=
  funext fun r => readAt_unread M hM r x
end

theorem pc_of {p p' : (r : Rect S6x640) → Vec F r.shape .i32} {o o' : (r : Rect S1x256) → Vec F r.shape .i32} (hp : p = p') (ho : o = o') :
    View.canon (pcL p o) = View.canon (pcL p' o') := by subst hp ho; rfl
theorem po_of {o o' : (r : Rect S1x256) → Vec F r.shape .i32} (ho : o = o') : View.canon (poL o) = View.canon (poL o') := by subst ho; rfl

set_option maxHeartbeats 1000000 in
theorem run_A (c : Dev nD) (i : grid0.Coords) (arg1 : Memref sig .tc .vmem S6x640 .i32) (harg1 : arg1.IsWhole) (arg2 : Memref sig .tc .vmem S1x256 .i32) (harg2 : arg2.IsWhole) (arg3 : Memref sig .tc .vmem S256x1 .i32) (harg3 : arg3.IsWhole) (arg4 : Memref sig .tc .vmem S256x4096 .bf16) (harg4 : arg4.IsWhole) (arg5 : Memref sig .tc .vmem S256x3840 .i8) (harg5 : arg5.IsWhole) (arg6 : Memref sig .tc .vmem S256x256 .bf16) (harg6 : arg6.IsWhole) (arg7 : Memref sig .tc .vmem S256x128 .f32) (harg7 : arg7.IsWhole) (arg8 : Memref sig .tc .vmem S8x256 .f32) (harg8 : arg8.IsWhole) (arg9 : Memref sig .tc .vmem S4096x768 .bf16) (harg9 : arg9.IsWhole) (arg10 : Memref sig .tc .vmem S4096x256 .bf16) (harg10 : arg10.IsWhole) (arg11 : Memref sig .tc .vmem S8x4096 .f32) (harg11 : arg11.IsWhole) (hc0 : cond0 i)
    (x0 : Vec F S6x640 .i32) (x1 : Vec F S1x256 .i32) (x2 : Vec F S256x1 .i32) (x3 : Vec F S256x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outQ x3 (padV x2) (pcV x0 x1)) ∗ owns (c : Thread nD τ) arg6 fullShare (outX x3 (poV x1)) ∗ owns (c : Thread nD τ) arg7 fullShare (outS x3 (padV x2) (pcV x0 x1)) ∗ owns (c : Thread nD τ) arg8 fullShare (outT x3 (padV x2) (pcV x0 x1)) ∗ owns (c : Thread nD τ) arg9 fullShare (pcV x0 x1) ∗ owns (c : Thread nD τ) arg10 fullShare (poV x1) ∗ (∃ pad', ⌜View.ld pad' padRect = padV x2⌝ ∗ owns (c : Thread nD τ) arg11 fullShare pad')) -∗ K ⟨⟩))
      ⊢ wp frame (wpE (defs₀ (F := F)) Variants.none c none) E (cc0_quant i arg1 harg1 arg2 harg2 arg3 harg3 arg4 harg4 arg5 harg5 arg6 harg6 arg7 harg7 arg8 harg8 arg9 harg9 arg10 harg10 arg11 harg11) K := by
  simp only [cc0_quant_eq_skeleton]; unfold cc0_quant_skel
  simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    refine (View.read_writes_eq_canon _ _ (qL _) (q_covers _)).trans ?_
    exact outQ_of (readAt_whole _ harg4 z2 _ _) ((readAt_store _ _ padRect _).trans (congrArg (fun z => k0_pay23 (k0_pay21 z) k0_pay22) (readAt_whole _ harg3 z2 _ _))) ((View.readCov_eq_canon_ld _ (pcL (fun r => arg1.view.readAt (Elt F) r.toLoadRect (harg1.unread x0)) (fun r => arg2.view.readAt (Elt F) r.toLoadRect (harg2.unread x1))) _ (pc_covers _ _)).trans ((View.ld_unit_zero z2 _ _).trans (pc_of (loads_unread _ harg1 _) (loads_unread _ harg2 _))))
  isplitl [H5]
  · iexists _; isplitr; swap; · iexact H5
    ipureintro
    sl_unfold_words
    refine (read_store_whole _ _ z2 _ _).trans ?_
    exact outX_of (readAt_whole _ harg4 z2 _ _) ((View.readCov_eq_canon_ld _ (poL (fun r => arg2.view.readAt (Elt F) r.toLoadRect (harg2.unread x1))) _ (po_covers _)).trans ((View.ld_unit_zero z2 _ _).trans (po_of (loads_unread _ harg2 _))))
  isplitl [H6]
  · iexists _; isplitr; swap; · iexact H6
    ipureintro
    sl_unfold_words
    refine (read_store_whole _ _ z2 _ _).trans ?_
    exact outS_of (readAt_whole _ harg4 z2 _ _) ((readAt_store _ _ padRect _).trans (congrArg (fun z => k0_pay23 (k0_pay21 z) k0_pay22) (readAt_whole _ harg3 z2 _ _))) ((View.readCov_eq_canon_ld _ (pcL (fun r => arg1.view.readAt (Elt F) r.toLoadRect (harg1.unread x0)) (fun r => arg2.view.readAt (Elt F) r.toLoadRect (harg2.unread x1))) _ (pc_covers _ _)).trans ((View.ld_unit_zero z2 _ _).trans (pc_of (loads_unread _ harg1 _) (loads_unread _ harg2 _))))
  isplitl [H7]
  · iexists _; isplitr; swap; · iexact H7
    ipureintro
    sl_unfold_words
    refine (read_store_whole _ _ z2 _ _).trans ?_
    exact outT_of (readAt_whole _ harg4 z2 _ _) ((readAt_store _ _ padRect _).trans (congrArg (fun z => k0_pay23 (k0_pay21 z) k0_pay22) (readAt_whole _ harg3 z2 _ _))) ((View.readCov_eq_canon_ld _ (pcL (fun r => arg1.view.readAt (Elt F) r.toLoadRect (harg1.unread x0)) (fun r => arg2.view.readAt (Elt F) r.toLoadRect (harg2.unread x1))) _ (pc_covers _ _)).trans ((View.ld_unit_zero z2 _ _).trans (pc_of (loads_unread _ harg1 _) (loads_unread _ harg2 _))))
  isplitl [HS0]
  · iexists _; isplitr; swap; · iexact HS0
    ipureintro
    sl_unfold_words
    refine (View.read_writes_eq_canon _ _ (pcL (fun r => arg1.view.readAt (Elt F) r.toLoadRect (harg1.unread x0)) (fun r => arg2.view.readAt (Elt F) r.toLoadRect (harg2.unread x1))) (pc_covers _ _)).trans ?_
    exact pc_of (loads_unread _ harg1 _) (loads_unread _ harg2 _)
  isplitl [HS1]
  · iexists _; isplitr; swap; · iexact HS1
    ipureintro
    sl_unfold_words
    refine (View.read_writes_eq_canon _ _ (poL (fun r => arg2.view.readAt (Elt F) r.toLoadRect (harg2.unread x1))) (po_covers _)).trans ?_
    exact po_of (loads_unread _ harg2 _)
  iexists _
  isplitr; swap
  · iexists _; isplitr; swap; · iexact HS2
    ipureintro; rfl
  ipureintro
  sl_unfold_words
  exact (ld_store _ _ padRect _).trans (congrArg (fun z => k0_pay23 (k0_pay21 z) k0_pay22) (readAt_whole _ harg3 z2 _ _))

set_option maxHeartbeats 1000000 in
theorem run_B (c : Dev nD) (i : grid0.Coords) (arg1 : Memref sig .tc .vmem S6x640 .i32) (harg1 : arg1.IsWhole) (arg2 : Memref sig .tc .vmem S1x256 .i32) (harg2 : arg2.IsWhole) (arg3 : Memref sig .tc .vmem S256x1 .i32) (harg3 : arg3.IsWhole) (arg4 : Memref sig .tc .vmem S256x4096 .bf16) (harg4 : arg4.IsWhole) (arg5 : Memref sig .tc .vmem S256x3840 .i8) (harg5 : arg5.IsWhole) (arg6 : Memref sig .tc .vmem S256x256 .bf16) (harg6 : arg6.IsWhole) (arg7 : Memref sig .tc .vmem S256x128 .f32) (harg7 : arg7.IsWhole) (arg8 : Memref sig .tc .vmem S8x256 .f32) (harg8 : arg8.IsWhole) (arg9 : Memref sig .tc .vmem S4096x768 .bf16) (harg9 : arg9.IsWhole) (arg10 : Memref sig .tc .vmem S4096x256 .bf16) (harg10 : arg10.IsWhole) (arg11 : Memref sig .tc .vmem S8x4096 .f32) (harg11 : arg11.IsWhole) (hc0 : ¬ cond0 i)
    (x0 : Vec F S6x640 .i32) (x1 : Vec F S1x256 .i32) (x2 : Vec F S256x1 .i32) (x3 : Vec F S256x4096 .bf16) (pc : Vec F S4096x768 .bf16) (po : Vec F S4096x256 .bf16) (pad : Vec F S8x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare pc ∗ owns (c : Thread nD τ) arg10 fullShare po ∗ owns (c : Thread nD τ) arg11 fullShare pad ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outQ x3 (View.ld pad padRect) pc) ∗ owns (c : Thread nD τ) arg6 fullShare (outX x3 po) ∗ owns (c : Thread nD τ) arg7 fullShare (outS x3 (View.ld pad padRect) pc) ∗ owns (c : Thread nD τ) arg8 fullShare (outT x3 (View.ld pad padRect) pc) ∗ owns (c : Thread nD τ) arg9 fullShare pc ∗ owns (c : Thread nD τ) arg10 fullShare po ∗ owns (c : Thread nD τ) arg11 fullShare pad) -∗ K ⟨⟩))
      ⊢ wp frame (wpE (defs₀ (F := F)) Variants.none c none) E (cc0_quant i arg1 harg1 arg2 harg2 arg3 harg3 arg4 harg4 arg5 harg5 arg6 harg6 arg7 harg7 arg8 harg8 arg9 harg9 arg10 harg10 arg11 harg11) K := by
  simp only [cc0_quant_eq_skeleton]; unfold cc0_quant_skel
  simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3
  obtain rfl := harg9.eq_unread hfs0; obtain rfl := harg10.eq_unread hfs1; obtain rfl := harg11.eq_unread hfs2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    refine (View.read_writes_eq_canon _ _ (qL _) (q_covers _)).trans ?_
    exact outQ_of (readAt_whole _ harg4 z2 _ _) (readAt_unread _ harg11 _ _) (readAt_whole _ harg9 z2 _ _)
  isplitl [H5]
  · iexists _; isplitr; swap; · iexact H5
    ipureintro
    sl_unfold_words
    refine (read_store_whole _ _ z2 _ _).trans ?_
    exact outX_of (readAt_whole _ harg4 z2 _ _) (readAt_whole _ harg10 z2 _ _)
  isplitl [H6]
  · iexists _; isplitr; swap; · iexact H6
    ipureintro
    sl_unfold_words
    refine (read_store_whole _ _ z2 _ _).trans ?_
    exact outS_of (readAt_whole _ harg4 z2 _ _) (readAt_unread _ harg11 _ _) (readAt_whole _ harg9 z2 _ _)
  isplitl [H7]
  · iexists _; isplitr; swap; · iexact H7
    ipureintro
    sl_unfold_words
    refine (read_store_whole _ _ z2 _ _).trans ?_
    exact outT_of (readAt_whole _ harg4 z2 _ _) (readAt_unread _ harg11 _ _) (readAt_whole _ harg9 z2 _ _)
  isplitl [HS0]
  · iexists _; isplitr; swap; · iexact HS0
    ipureintro; exact harg9.read_unread _
  isplitl [HS1]
  · iexists _; isplitr; swap; · iexact HS1
    ipureintro; exact harg10.read_unread _
  iexists _; isplitr; swap; · iexact HS2
  ipureintro; exact harg11.read_unread _

end Cert.Proof.KQuant

end
-- ==== Proof.KQuantRegion.lean ====
/- The quantising call over its whole grid: what its results hold at the end, and its proof that the body keeps
   the selection matrices and the padding row in scratch. -/
module

public import proofs.«01_k».proof.Proof.KQuantRun
public import Idealize.ShloMosaic.Lib.Pipeline.RegionArraysS

@[expose] public section

set_option maxRecDepth 16384

noncomputable section

namespace Cert.Proof.KQuant

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

theorem before_0_of {c : Dev nD} (dat : Dat τ (Elt F) Unit ℕ (UR sig nD τ) ℕ cfg0 c) (hA : dat.A 0 = W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = W c (Pipeline.arrRef spec0 3))
    (hafter : ∀ t, dat.after 3 t = iblk W c 3 t) (t : Fin cfg0.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The scoped buffers of the core that this call uses neither for staging nor as scratch. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The scoped buffers no window stages: the scratch buffers and the others. -/
theorem scoped_split (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ rest c) := by
  simp only [owns_whole]
  exact Pipeline.scopedRest_eq_of_list spec0 c [cc0_scratch0, cc0_scratch1, cc0_scratch2, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_scratch0, cc1_scratch1, cc1_scratch2] (by decide) (by decide)

/-- The first point of the grid. -/
abbrev p0 : Fin cfg0.N := ⟨0, by rw [show cfg0.N = 64 from N_0]; decide⟩

/-- The packed selection matrix in scratch. -/
def pcS (c : Dev nD) : Vec F S4096x768 .bf16 := pcV (iblk W c 0 p0) (iblk W c 1 p0)
/-- The outlier selection matrix in scratch. -/
def poS (c : Dev nD) : Vec F S4096x256 .bf16 := poV (iblk W c 1 p0)
/-- The padding row. -/
def padS (c : Dev nD) : Vec F S1x4096 .f32 := padV (iblk W c 2 p0)

/-- The region's invariant before point `n`. -/
def PhiS (c : Dev nD) (n : ℕ) (_ : n ≤ cfg0.N) : sProp 𝕄 :=
  iprop((∃ d, ⌜n ≠ 0 → d = pcS W c⌝ ∗ owns (c : Thread nD τ) (Memref.whole cc0_scratch0) fullShare d)
    ∗ (∃ d, ⌜n ≠ 0 → d = poS W c⌝ ∗ owns (c : Thread nD τ) (Memref.whole cc0_scratch1) fullShare d)
    ∗ (∃ d, ⌜n ≠ 0 → View.ld d padRect = padS W c⌝ ∗ owns (c : Thread nD τ) (Memref.whole cc0_scratch2) fullShare d) ∗ rest c)

/-- The proof data of the call on core `c`. -/
def dats (c : Dev nD) : Dat τ (Elt F) Unit ℕ (UR sig nD τ) ℕ cfg0 c where
  A w := W c (Pipeline.arrRef spec0 w)
  after w t := match w with
    | ⟨0, _⟩ => iblk W c 0 t
    | ⟨1, _⟩ => iblk W c 1 t
    | ⟨2, _⟩ => iblk W c 2 t
    | ⟨3, _⟩ => iblk W c 3 t
    | ⟨4, _⟩ => outQ (iblk W c 3 t) (padS W c) (pcS W c)
    | ⟨5, _⟩ => outX (iblk W c 3 t) (poS W c)
    | ⟨6, _⟩ => outS (iblk W c 3 t) (padS W c) (pcS W c)
    | ⟨7, _⟩ => outT (iblk W c 3 t) (padS W c) (pcS W c)
  Φ t := PhiS W c t.val (Nat.le_of_lt_succ t.isLt)
  q _ := fullShare
  owed _ := 0

theorem A_eq (c : Dev nD) (w : Fin cfg0.W) : (dats W c).A w = W c (Pipeline.arrRef spec0 w) := by
  dsimp only [dats]

theorem PhiS_castSucc (c : Dev nD) (t : Fin cfg0.N) :
    (dats W c).Φ t.castSucc = PhiS W c t.val (Nat.le_of_lt t.isLt) := by
  dsimp only [dats]; exact Pipeline.Dat.Φ_castSucc (PhiS W c) t

theorem after_0 (c : Dev nD) (t : Fin cfg0.N) : (dats W c).after 0 t = iblk W c 0 t := by dsimp only [dats]
theorem after_1 (c : Dev nD) (t : Fin cfg0.N) : (dats W c).after 1 t = iblk W c 1 t := by dsimp only [dats]
theorem after_2 (c : Dev nD) (t : Fin cfg0.N) : (dats W c).after 2 t = iblk W c 2 t := by dsimp only [dats]
theorem after_3 (c : Dev nD) (t : Fin cfg0.N) : (dats W c).after 3 t = iblk W c 3 t := by dsimp only [dats]
theorem after_4 (c : Dev nD) (t : Fin cfg0.N) : (dats W c).after 4 t = outQ (iblk W c 3 t) (padS W c) (pcS W c) := by dsimp only [dats]
theorem after_5 (c : Dev nD) (t : Fin cfg0.N) : (dats W c).after 5 t = outX (iblk W c 3 t) (poS W c) := by dsimp only [dats]
theorem after_6 (c : Dev nD) (t : Fin cfg0.N) : (dats W c).after 6 t = outS (iblk W c 3 t) (padS W c) (pcS W c) := by dsimp only [dats]
theorem after_7 (c : Dev nD) (t : Fin cfg0.N) : (dats W c).after 7 t = outT (iblk W c 3 t) (padS W c) (pcS W c) := by dsimp only [dats]
theorem before_0 (c : Dev nD) (t : Fin cfg0.N) (d) : (dats W c).before 0 t d = iblk W c 0 t :=
  before_0_of W (dats W c) (A_eq W c 0) (after_0 W c) t d
theorem before_1 (c : Dev nD) (t : Fin cfg0.N) (d) : (dats W c).before 1 t d = iblk W c 1 t :=
  before_1_of W (dats W c) (A_eq W c 1) (after_1 W c) t d
theorem before_2 (c : Dev nD) (t : Fin cfg0.N) (d) : (dats W c).before 2 t d = iblk W c 2 t :=
  before_2_of W (dats W c) (A_eq W c 2) (after_2 W c) t d
theorem before_3 (c : Dev nD) (t : Fin cfg0.N) (d) : (dats W c).before 3 t d = iblk W c 3 t :=
  before_3_of W (dats W c) (A_eq W c 3) (after_3 W c) t d

/-- What the body is called with at point `t`, the windows one by one. -/
def bodyPre (c : Dev nD) (t : Fin cfg0.N) : sProp 𝕄 :=
  iprop((dats W c).Φ t.castSucc ∗ (dats W c).owesAt () t.castSucc
    ∗ (∃ d, owns (c : Thread nD τ) (st0_0 t) fullShare ((dats W c).before 0 t d))
    ∗ (∃ d, owns (c : Thread nD τ) (st0_1 t) fullShare ((dats W c).before 1 t d))
    ∗ (∃ d, owns (c : Thread nD τ) (st0_2 t) fullShare ((dats W c).before 2 t d))
    ∗ (∃ d, owns (c : Thread nD τ) (st0_3 t) fullShare ((dats W c).before 3 t d))
    ∗ (∃ d, owns (c : Thread nD τ) (st0_4 t) fullShare ((dats W c).before 4 t d))
    ∗ (∃ d, owns (c : Thread nD τ) (st0_5 t) fullShare ((dats W c).before 5 t d))
    ∗ (∃ d, owns (c : Thread nD τ) (st0_6 t) fullShare ((dats W c).before 6 t d))
    ∗ (∃ d, owns (c : Thread nD τ) (st0_7 t) fullShare ((dats W c).before 7 t d)))

/-- What it returns. -/
def bodyPost (c : Dev nD) (t : Fin cfg0.N) : sProp 𝕄 :=
  iprop((dats W c).Φ t.succ ∗ (dats W c).owesAt () t.succ
    ∗ owns (c : Thread nD τ) (st0_0 t) fullShare ((dats W c).after 0 t)
    ∗ owns (c : Thread nD τ) (st0_1 t) fullShare ((dats W c).after 1 t)
    ∗ owns (c : Thread nD τ) (st0_2 t) fullShare ((dats W c).after 2 t)
    ∗ owns (c : Thread nD τ) (st0_3 t) fullShare ((dats W c).after 3 t)
    ∗ owns (c : Thread nD τ) (st0_4 t) fullShare ((dats W c).after 4 t)
    ∗ owns (c : Thread nD τ) (st0_5 t) fullShare ((dats W c).after 5 t)
    ∗ owns (c : Thread nD τ) (st0_6 t) fullShare ((dats W c).after 6 t)
    ∗ owns (c : Thread nD τ) (st0_7 t) fullShare ((dats W c).after 7 t))

theorem fetched_eq_0 (c : Dev nD) (t : Fin cfg0.N) (d) : (dats W c).fetched 0 t d = iblk W c 0 t := by
  unfold Dat.fetched Dat.blockOf iblk; rw [A_eq]; rfl
/-- The block of window 0 is the same at every point. -/
theorem iblk0_const (c : Dev nD) (t : Fin cfg0.N) : iblk W c 0 t = iblk W c 0 p0 := by
  rw [← fetched_eq_0 W c t (iblk W c 0 p0), ← fetched_eq_0 W c p0 (iblk W c 0 p0)]
  exact (dats W c).fetched_congr 0 rfl rfl _

theorem fetched_eq_1 (c : Dev nD) (t : Fin cfg0.N) (d) : (dats W c).fetched 1 t d = iblk W c 1 t := by
  unfold Dat.fetched Dat.blockOf iblk; rw [A_eq]; rfl
/-- The block of window 1 is the same at every point. -/
theorem iblk1_const (c : Dev nD) (t : Fin cfg0.N) : iblk W c 1 t = iblk W c 1 p0 := by
  rw [← fetched_eq_1 W c t (iblk W c 1 p0), ← fetched_eq_1 W c p0 (iblk W c 1 p0)]
  exact (dats W c).fetched_congr 1 rfl rfl _

theorem fetched_eq_2 (c : Dev nD) (t : Fin cfg0.N) (d) : (dats W c).fetched 2 t d = iblk W c 2 t := by
  unfold Dat.fetched Dat.blockOf iblk; rw [A_eq]; rfl
/-- The block of window 2 is the same at every point. -/
theorem iblk2_const (c : Dev nD) (t : Fin cfg0.N) : iblk W c 2 t = iblk W c 2 p0 := by
  rw [← fetched_eq_2 W c t (iblk W c 2 p0), ← fetched_eq_2 W c p0 (iblk W c 2 p0)]
  exact (dats W c).fetched_congr 2 rfl rfl _

set_option maxHeartbeats 12800000 in
/-- The body at any point takes the invariant before the point to the invariant after it. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1, before_2, before_3]
  rw [show (dats W c).owesAt () t.succ = (dats W c).owesAt () t.castSucc from rfl,
    after_0, after_1, after_2, after_3, after_4, after_5, after_6, after_7]
  rw [PhiS_castSucc W c t, show (dats W c).Φ t.succ = PhiS W c (t.val + 1) t.isLt from rfl]
  unfold PhiS
  iintro ⟨⟨⟨%pc, %hpc, HS0⟩, ⟨%po, %hpo, HS1⟩, ⟨%pad, %hpad, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val = 0
  · unfold pcS poS padS
    rw [← iblk0_const W c t, ← iblk1_const W c t, ← iblk2_const W c t]
    iapply (run_A c (grid0.coords t) _ _ _ _ _ _ _ _ _ _ _ _ _ _ _ _ _ _ _ _ _ _ ((hcond0 t).mpr h0) (iblk W c 0 t) (iblk W c 1 t) (iblk W c 2 t) (iblk W c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    iintro ⟨H0, H1, H2, H3, H4, H5, H6, H7, HS0, HS1, ⟨%pad', %hpad', HS2⟩⟩
    isplitl [HS0 HS1 HS2 HR]
    · isplitl [HS0]; · (iexists _; isplitr; (· ipureintro; intro _; rfl); iexact HS0)
      isplitl [HS1]; · (iexists _; isplitr; (· ipureintro; intro _; rfl); iexact HS1)
      isplitl [HS2]; · (iexists _; isplitr; (· ipureintro; intro _; exact hpad'); iexact HS2)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain rfl := hpc h0; obtain rfl := hpo h0; rw [← hpad h0]
    iapply (run_B c (grid0.coords t) _ _ _ _ _ _ _ _ _ _ _ _ _ _ _ _ _ _ _ _ _ _ (fun h => h0 ((hcond0 t).mp h)) (iblk W c 0 t) (iblk W c 1 t) (iblk W c 2 t) (iblk W c 3 t) _ _ pad Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 HR]
    · isplitl [HS0]; · (iexists _; isplitr; (· ipureintro; intro _; rfl); iexact HS0)
      isplitl [HS1]; · (iexists _; isplitr; (· ipureintro; intro _; rfl); iexact HS1)
      isplitl [HS2]; · (iexists _; isplitr; (· ipureintro; intro _; rfl); iexact HS2)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats W c) (defs₀ (F := F)) Variants.none () Set.univ := fun t => by
  rw [bigSep_W0, bigSep_W0, defs₀_row]
  exact triple_restated (sound_body W c t) rfl .rfl fun _ => .rfl

theorem hin (c : Dev nD) : iprop(Pipeline.scopedRest spec0 c ∗ emp) ⊢ (dats W c).Φ 0 := by
  rw [show (dats W c).Φ 0 = PhiS W c 0 (Nat.zero_le _) from rfl, scoped_split]
  unfold PhiS
  iintro ⟨⟨⟨%d0, H0⟩, ⟨%d1, H1⟩, ⟨%d2, H2⟩, HR⟩, -⟩
  isplitl [H0]; · (iexists d0; isplitr; (· ipureintro; intro h; exact absurd rfl h); iexact H0)
  isplitl [H1]; · (iexists d1; isplitr; (· ipureintro; intro h; exact absurd rfl h); iexact H1)
  isplitl [H2]; · (iexists d2; isplitr; (· ipureintro; intro h; exact absurd rfl h); iexact H2)
  iexact HR

theorem hout (c : Dev nD) : (dats W c).Φ (Fin.last cfg0.N) ⊢ iprop(Pipeline.scopedRest spec0 c ∗ emp) := by
  rw [show (dats W c).Φ (Fin.last cfg0.N) = PhiS W c cfg0.N (Nat.le_refl _) from rfl, scoped_split]
  unfold PhiS
  iintro ⟨⟨%d0, -, H0⟩, ⟨%d1, -, H1⟩, ⟨%d2, -, H2⟩, HR⟩
  isplitl [H0 H1 H2 HR]
  · isplitl [H0]; · iexists _; iexact H0
    isplitl [H1]; · iexists _; iexact H1
    isplitl [H2]; · iexists _; iexact H2
    iexact HR
  iempintro

end Cert.Proof.KQuant

end
-- ==== Proof.KRun.lean ====
/- The whole program: the two calls between the host's reshapes, run from any memory; every unscoped buffer's contents
   at the end. -/
module

public import proofs.«01_k».proof.Proof.KMixRegion
public import proofs.«01_k».proof.Proof.KQuantRegion
public import proofs.«01_k».proof.Proof.Gen.Kernel.Regions

@[expose] public section

set_option maxRecDepth 16384

noncomputable section

namespace Cert.Proof.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- What the quantising call's results hold at its end, and everything else as the call found it. -/
def outs0 : Outs (F := F) := fun _ r c =>
  Pipeline.afterRegion (KQuant.dats (V1 m) c) (V1 m c) (Proc.devRef .tc r)

/-- What the two calls leave. -/
def outs : Outs (F := F) := fun J r c =>
  if J = 4 then Pipeline.afterRegion (KMix.dats (V3 m (outs0 m)) c) (V3 m (outs0 m) c) (Proc.devRef .tc r) else outs0 m J r c

theorem V2_outs (c : Dev nD) : V2 m (outs m) c = V2 m (outs0 m) c := rfl
theorem V3_outs (c : Dev nD) : V3 m (outs m) c = V3 m (outs0 m) c := rfl

/-- The proof data of the two calls, from what each finds. -/
def pdats (A B : Dev nD → Valuation τ sig (Elt F)) : (p : Fin 2) → (c : Dev nD) → Dat τ (Elt F) Unit ℕ (UR sig nD τ) ℕ (cfgs p) c
  | ⟨0, _⟩ => KQuant.dats A
  | ⟨1, _⟩ => KMix.dats B

/-- The waits' levels: the one index on every cell of a TensorCore. -/
def lvL : GSem nD τ sig → Finset Unit := fun g => if g.1.2 = .tc then {()} else ∅
def lvv : GSem nD τ sig → Unit → ℕ := fun _ _ => 0

theorem cut (p : Fin 2) : Pipeline.LevelCut (pcfgs (F := F)) adm () lvL lvv p (fun _ : Dev nD => (0 : CellTallies nD τ sig Unit)) (fun _ => 0) :=
  ⟨fun c w s => by unfold lvL; exact Finset.mem_singleton.mpr rfl, fun _ _ _ => le_refl _, fun _ _ _ h => absurd h (Nat.lt_irrefl 0)⟩

/-- What rides along beside the buffers. -/
def E (_ : Fin 3) (c : Dev nD) : sProp 𝕄 := iprop((∃ Wd, owes (c : Thread nD τ) (0 : CellTallies nD τ sig Unit) Wd) ∗ emp ∗ emp)

set_option backward.isDefEq.respectTransparency.types false in
/-- The quantising call's region. -/
def R0 (A B : Dev nD → Valuation τ sig (Elt F)) : RegionSeg (pcfgs (F := F)) adm (pdats A B) () defs₀ Variants.none lvL lvv 0 :=
  RegionSeg.ofHeldIn (pcfgs (F := F)) adm (pdats A B) () defs₀ Variants.none lvL lvv 0 (fun _ => 0) (Pipeline.ucRefs τ sig) (fun _ => iprop(emp)) (fun _ => iprop(emp))
    launch0.toP rfl (fun c => (KQuant.body_obligation A c).loose) (fun _ _ => rfl) (fun _ => rfl)
    (fun c => (KQuant.dats A c).share_full fun _ => rfl) (fun c => KQuant.hin A c) (fun c => KQuant.hout A c)
    (fun _ => 0) (cut 0) (fun _ => iprop(emp)) A (fun c w => KQuant.A_eq A c w)

set_option backward.isDefEq.respectTransparency.types false in
/-- The matrix-product call's region. -/
def R1 (A B : Dev nD → Valuation τ sig (Elt F)) : RegionSeg (pcfgs (F := F)) adm (pdats A B) () defs₀ Variants.none lvL lvv 1 :=
  RegionSeg.ofHeldIn (pcfgs (F := F)) adm (pdats A B) () defs₀ Variants.none lvL lvv 1 (fun _ => 0) (Pipeline.ucRefs τ sig) (fun _ => iprop(emp)) (fun _ => iprop(emp))
    launch1.toP rfl (fun c => (KMix.body_obligation B c).loose) (fun _ _ => rfl) (fun _ => rfl)
    (fun c => (KMix.dats B c).share_full fun _ => rfl) (fun c => KMix.hin B c) (fun c => KMix.hout B c)
    (fun _ => 0) (cut 1) (fun _ => iprop(emp)) B (fun c w => KMix.A_eq B c w)

set_option backward.isDefEq.respectTransparency.types false in
theorem R0_pre (A B : Dev nD → Valuation τ sig (Elt F)) (c : Dev nD) :
    iprop(StableHlo.held (c : Thread nD τ) (Pipeline.ucRefs τ sig) (A c) ∗ E 0 c) ⊢ (R0 A B).pre c := by
  unfold R0 E
  have hS : Pipeline.arrRefs (pcfgs (F := F) 0).spec ⊆ Pipeline.ucRefs τ sig := Pipeline.arrRefs_sub_ucRefs spec0 (by decide)
  exact RegionSeg.ofHeldIn_pre (pcs := pcfgs (F := F)) (a := adm) (p := 0) (S := Pipeline.ucRefs τ sig) (pdats := pdats A B) (ι := ()) (D := fun _ => 0) (X := fun _ => iprop(emp)) (Y := fun _ => iprop(emp)) (R := fun _ => iprop(emp)) (W := A) (b := fun _ => 0) hS c

set_option backward.isDefEq.respectTransparency.types false in
theorem R0_post (A B : Dev nD → Valuation τ sig (Elt F)) (c : Dev nD) :
    (R0 A B).post c ⊢ iprop(StableHlo.held (c : Thread nD τ) (Pipeline.ucRefs τ sig) (Pipeline.afterRegion (KQuant.dats A c) (A c)) ∗ E 0 c) := by
  unfold R0 E
  have hS : Pipeline.arrRefs (pcfgs (F := F) 0).spec ⊆ Pipeline.ucRefs τ sig := Pipeline.arrRefs_sub_ucRefs spec0 (by decide)
  exact RegionSeg.ofHeldIn_post (pcs := pcfgs (F := F)) (a := adm) (p := 0) (S := Pipeline.ucRefs τ sig) hS c

set_option backward.isDefEq.respectTransparency.types false in
theorem R1_pre (A B : Dev nD → Valuation τ sig (Elt F)) (c : Dev nD) :
    iprop(StableHlo.held (c : Thread nD τ) (Pipeline.ucRefs τ sig) (B c) ∗ E 0 c) ⊢ (R1 A B).pre c := by
  unfold R1 E
  have hS : Pipeline.arrRefs (pcfgs (F := F) 1).spec ⊆ Pipeline.ucRefs τ sig := Pipeline.arrRefs_sub_ucRefs spec1 (by decide)
  exact RegionSeg.ofHeldIn_pre (pcs := pcfgs (F := F)) (a := adm) (p := 1) (S := Pipeline.ucRefs τ sig) (pdats := pdats A B) (ι := ()) (D := fun _ => 0) (X := fun _ => iprop(emp)) (Y := fun _ => iprop(emp)) (R := fun _ => iprop(emp)) (W := B) (b := fun _ => 0) hS c

set_option backward.isDefEq.respectTransparency.types false in
theorem R1_post (A B : Dev nD → Valuation τ sig (Elt F)) (c : Dev nD) :
    (R1 A B).post c ⊢ iprop(StableHlo.held (c : Thread nD τ) (Pipeline.ucRefs τ sig) (Pipeline.afterRegion (KMix.dats B c) (B c)) ∗ E 0 c) := by
  unfold R1 E
  have hS : Pipeline.arrRefs (pcfgs (F := F) 1).spec ⊆ Pipeline.ucRefs τ sig := Pipeline.arrRefs_sub_ucRefs spec1 (by decide)
  exact RegionSeg.ofHeldIn_post (pcs := pcfgs (F := F)) (a := adm) (p := 1) (S := Pipeline.ucRefs τ sig) hS c

theorem uc_tc (b : DevRef τ sig) (hb : b ∈ Pipeline.ucRefs τ sig) : ∃ r : Ref sig .tc, b = Proc.devRef .tc r := by
  have h := (Finset.mem_filter.mp hb).1
  obtain ⟨r, -, e⟩ := Finset.mem_map.mp h
  exact ⟨r, e.symm⟩

theorem after0_eq (c : Dev nD) (b : DevRef τ sig) (hb : b ∈ Pipeline.ucRefs τ sig) :
    Pipeline.afterRegion (KQuant.dats (V1 m) c) (V1 m c) b = V2 m (outs m) c b := by
  obtain ⟨r, rfl⟩ := uc_tc b hb
  by_cases h3 : r = main_v7_3
  · subst h3; simp only [V2]; rw [Function.update_self]; rfl
  by_cases h2 : r = main_v7_2
  · subst h2
    rw [show V2 m (outs m) c (Proc.devRef .tc main_v7_2) = _ from Function.update_of_ne (StableHlo.devRef_ne_of_ne h3) _ _]
    rw [Function.update_self]; rfl
  by_cases h1 : r = main_v7_1
  · subst h1
    rw [show V2 m (outs m) c (Proc.devRef .tc main_v7_1) = _ from Function.update_of_ne (StableHlo.devRef_ne_of_ne h3) _ _,
      Function.update_of_ne (StableHlo.devRef_ne_of_ne h2)]
    rw [Function.update_self]; rfl
  by_cases h0 : r = main_v7_0
  · subst h0
    rw [show V2 m (outs m) c (Proc.devRef .tc main_v7_0) = _ from Function.update_of_ne (StableHlo.devRef_ne_of_ne h3) _ _,
      Function.update_of_ne (StableHlo.devRef_ne_of_ne h2), Function.update_of_ne (StableHlo.devRef_ne_of_ne h1)]
    rw [Function.update_self]; rfl
  rw [show V2 m (outs m) c (Proc.devRef .tc r) = _ from V2_of m (outs m) c r (by simp [h0, h1, h2, h3])]
  refine Pipeline.afterRegion_keeps _ _ winFacts0.arr_inj (KQuant.A_eq (V1 m) c) r fun w e => ?_
  fin_cases w
  · rfl
  · rfl
  · rfl
  · rfl
  · exact absurd e.symm h0
  · exact absurd e.symm h1
  · exact absurd e.symm h2
  · exact absurd e.symm h3

theorem after1_eq (c : Dev nD) (b : DevRef τ sig) (hb : b ∈ Pipeline.ucRefs τ sig) :
    Pipeline.afterRegion (KMix.dats (V3 m (outs0 m)) c) (V3 m (outs0 m) c) b = V4 m (outs m) c b := by
  obtain ⟨r, rfl⟩ := uc_tc b hb
  by_cases h7 : r = main_v10
  · subst h7; simp only [V4]; rw [Function.update_self]; rfl
  rw [show V4 m (outs m) c (Proc.devRef .tc r) = _ from V4_of m (outs m) c r (by simp [h7])]
  refine Pipeline.afterRegion_keeps _ _ winFacts1.arr_inj (KMix.A_eq (V3 m (outs0 m)) c) r fun w e => ?_
  fin_cases w
  · rfl
  · rfl
  · rfl
  · rfl
  · rfl
  · rfl
  · rfl
  · exact absurd e.symm h7

theorem hpre0 (c : Dev nD) : iprop(StableHlo.held (c : Thread nD τ) (Pipeline.ucRefs τ sig) (V1 m c) ∗ E 0 c) ⊢ (R0 (V1 m) (V3 m (outs0 m))).pre c :=
  R0_pre (V1 m) (V3 m (outs0 m)) c

theorem hpre1 (c : Dev nD) : iprop(StableHlo.held (c : Thread nD τ) (Pipeline.ucRefs τ sig) (V3 m (outs m) c) ∗ E 1 c) ⊢ (R1 (V1 m) (V3 m (outs0 m))).pre c :=
  R1_pre (V1 m) (V3 m (outs0 m)) c

theorem hpost0 (c : Dev nD) : (R0 (V1 m) (V3 m (outs0 m))).post c ⊢ iprop(StableHlo.held (c : Thread nD τ) (Pipeline.ucRefs τ sig) (V2 m (outs m) c) ∗ E 1 c) := by
  rw [← StableHlo.held_congr (c.tc : Thread nD τ) (S := Pipeline.ucRefs τ sig) (after0_eq m c)]
  exact R0_post (V1 m) (V3 m (outs0 m)) c

theorem hpost1 (c : Dev nD) : (R1 (V1 m) (V3 m (outs0 m))).post c ⊢ iprop(StableHlo.held (c : Thread nD τ) (Pipeline.ucRefs τ sig) (V4 m (outs m) c) ∗ E 2 c) := by
  rw [← StableHlo.held_congr (c.tc : Thread nD τ) (S := Pipeline.ucRefs τ sig) (after1_eq m c)]
  exact R1_post (V1 m) (V3 m (outs0 m)) c

theorem E_in (c : Dev nD) (x : PrngReg) :
    (iprop(unscopedSems0 c ∗ owes (c : Thread nD τ) (0 : CellTallies nD τ sig Unit) ∅ ∗ Pipeline.launchCred (fun _ => 0) c ∗ prngReg c x ∗ emp) : sProp 𝕄) ⊢ E 0 c := by
  unfold E
  iintro ⟨-, HO, -⟩
  isplitl [HO]
  · iexists _; iexact HO
  isplitl []
  · iempintro
  iempintro

theorem E_out (c : Dev nD) : (E 2 c : sProp 𝕄) ⊢ iprop(∃ Wd, owes (c : Thread nD τ) (0 : CellTallies nD τ sig Unit) Wd) := by
  unfold E
  iintro ⟨H, -⟩
  iexact H

theorem hE0 (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ emp)) ∗ levAts lvL lvv)
      ⊢ (|={Set.univ}=> bigSep Finset.univ (E 0) : sProp 𝕄) := by
  iintro ⟨H, -⟩
  imodintro
  have h : (bigSep Finset.univ fun c : Dev nD => iprop(unscopedSems0 c ∗ owes (c : Thread nD τ) (0 : CellTallies nD τ sig Unit) ∅ ∗ Pipeline.launchCred (fun _ => 0) c ∗ prngReg c (ρ c) ∗ emp))
      ⊢ (bigSep Finset.univ (E 0) : sProp 𝕄) :=
    bigSep_mono fun c _ => E_in c (ρ c)
  iapply h; iexact H

set_option backward.isDefEq.respectTransparency.types false in
/-- Every weakly fair execution from memory `m` with zero counters terminates, with every unscoped buffer at the last
    valuation and every counter at zero. -/
theorem run_main (ρ : Dev nD → PrngReg) :
    θ_run defs (onTc (τ := τ) (main (F := F))) ⟨m, fun _ => 0, ρ⟩ (fun r => (∀ c : Dev nD, ∀ b ∈ Pipeline.ucRefs τ sig, r.2.mem (c, b) = V5 m (outs m) c b) ∧ r.2.sem = fun _ => 0) := by
  refine Pipeline.θ_run_regions_kit_dev_sems (pcfgs (F := F)) adm (pdats (V1 m) (V3 m (outs0 m))) () cellOf_inj emb₁ defs₀ Variants.none lvL lvv m ρ main
    (segs m (outs m) Variants.none lvL lvv E () (pdats (V1 m) (V3 m (outs0 m))) (R0 (V1 m) (V3 m (outs0 m))) (R1 (V1 m) (V3 m (outs0 m))))
    (fun c Q => by
      rewrite [main_chain c, Seg.run_eq_chain,
        show (segs m (outs m) Variants.none lvL lvv E () (pdats (V1 m) (V3 m (outs0 m))) (R0 (V1 m) (V3 m (outs0 m))) (R1 (V1 m) (V3 m (outs0 m))) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun g h => if_neg h) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, hpre0 m c, hpost0 m c, hpre1 m c, hpost1 m c, BI.sep_mono (BI.Entails.refl _) (E_out c)⟩)
    (hinit := ?_) (QY := fun c s => ∀ b ∈ Pipeline.ucRefs τ sig, s.mem (c, b) = V5 m (outs m) c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact h
    · iexact HSI

end Cert.Proof.KRun

end
-- ==== Proof.Frames.lean ====
/- The frame claims of the whole program: it terminates, its arguments end unchanged and every semaphore counter is zero. -/
module

public import proofs.«01_k».proof.Proof.Run
public import proofs.«01_k».proof.Proof.KRun

@[expose] public section

noncomputable section

namespace Cert.Proof.Run

open Cert.KernelIdeal Cert.KernelIdeal.Gen
open Idealize.ShloMosaic Idealize.ShloMosaic.TcCoe
open Idealize.SL.Sem

variable {F : FTy → Type} [FloatOps F]

/-- The program as printed with idealised formats, at any float semantics. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (Pipeline.devRef_mem_ucRefs (b := main_arg0) (by decide))).trans (V5_main_arg0 m (outs m) c),
      (h.1 c _ (Pipeline.devRef_mem_ucRefs (b := main_arg1) (by decide))).trans (V5_main_arg1 m (outs m) c),
      (h.1 c _ (Pipeline.devRef_mem_ucRefs (b := main_arg2) (by decide))).trans (V5_main_arg2 m (outs m) c),
      (h.1 c _ (Pipeline.devRef_mem_ucRefs (b := main_arg3) (by decide))).trans (V5_main_arg3 m (outs m) c),
      (h.1 c _ (Pipeline.devRef_mem_ucRefs (b := main_arg4) (by decide))).trans (V5_main_arg4 m (outs m) c),
      (h.1 c _ (Pipeline.devRef_mem_ucRefs (b := main_arg5) (by decide))).trans (V5_main_arg5 m (outs m) c)⟩, h.2⟩) (run_main m ρ)

end Cert.Proof.Run

namespace Cert.Proof.KRun

open Cert.Kernel Cert.Kernel.Gen
open Idealize.ShloMosaic Idealize.ShloMosaic.TcCoe
open Idealize.SL.Sem

variable {F : FTy → Type} [FloatOps F]

/-- The program as printed, at any float semantics. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (Pipeline.devRef_mem_ucRefs (b := main_arg0) (by decide))).trans (V5_main_arg0 m (outs m) c),
      (h.1 c _ (Pipeline.devRef_mem_ucRefs (b := main_arg1) (by decide))).trans (V5_main_arg1 m (outs m) c),
      (h.1 c _ (Pipeline.devRef_mem_ucRefs (b := main_arg2) (by decide))).trans (V5_main_arg2 m (outs m) c),
      (h.1 c _ (Pipeline.devRef_mem_ucRefs (b := main_arg3) (by decide))).trans (V5_main_arg3 m (outs m) c),
      (h.1 c _ (Pipeline.devRef_mem_ucRefs (b := main_arg4) (by decide))).trans (V5_main_arg4 m (outs m) c),
      (h.1 c _ (Pipeline.devRef_mem_ucRefs (b := main_arg5) (by decide))).trans (V5_main_arg5 m (outs m) c)⟩, h.2⟩) (run_main m ρ)

end Cert.Proof.KRun

end
-- ==== Proof.Model.lean ====
/- The mathematics both programs compute, with no program in it: the minimum, the maximum, the scale and the codes of
   one row over its base columns, and the sums over one-hot columns that pick them out. -/
module

public import Idealize.ShloMosaic.Lib.Pointwise

@[expose] public section

set_option maxRecDepth 16384

noncomputable section

namespace Cert.Proof.Model

open Idealize.ShloMosaic
open scoped BigOperators

/-! ## Words and constants -/

theorem sel_eq {α : Type} {w : ℕ} (a b : BitVec w) (x y : α) : Scalar.select (IntOp.cmpi .eq a b) x y = if a = b then x else y := by
  unfold Scalar.select
  by_cases h : a = b
  · simp [IntOp.cmpi, h]
  · have hb : (a == b) = false := by simp [h]
    simp [IntOp.cmpi, h, hb]

theorem ofNat_inj {a b : ℕ} (ha : a < 4096) (hb : b < 4096) : BitVec.ofNat 32 a = BitVec.ofNat 32 b ↔ a = b := by
  constructor
  · intro h
    have := congrArg BitVec.toNat h
    simp only [BitVec.toNat_ofNat] at this
    omega
  · rintro rfl; rfl

theorem top_bf16 : Ideal.ofBits .bf16 32640#16 = ⊤ := by simp [Ideal.ofBits, Ideal.ieee]
theorem bot_bf16 : Ideal.ofBits .bf16 65408#16 = ⊥ := by simp [Ideal.ofBits, Ideal.ieee]
theorem top_f32 : Ideal.ofBits .f32 2139095040#32 = ⊤ := by simp [Ideal.ofBits, Ideal.ieee]
theorem bot_f32 : Ideal.ofBits .f32 4286578688#32 = ⊥ := by simp [Ideal.ofBits, Ideal.ieee]
theorem c16_1 : Ideal.ofBits .f32 1098907648#32 = (((16 ^ 1 : ℕ) : ℝ) : EReal) := by
  simp [Ideal.ofBits, Ideal.ieee, ← EReal.coe_mul]; norm_num
theorem c16_2 : Ideal.ofBits .f32 1132462080#32 = (((16 ^ 2 : ℕ) : ℝ) : EReal) := by
  simp [Ideal.ofBits, Ideal.ieee, ← EReal.coe_mul]; norm_num
theorem c16_3 : Ideal.ofBits .f32 1166016512#32 = (((16 ^ 3 : ℕ) : ℝ) : EReal) := by
  simp [Ideal.ofBits, Ideal.ieee, ← EReal.coe_mul]; norm_num
theorem c16_4 : Ideal.ofBits .f32 1199570944#32 = (((16 ^ 4 : ℕ) : ℝ) : EReal) := by
  simp [Ideal.ofBits, Ideal.ieee, ← EReal.coe_mul]; norm_num
theorem c16_5 : Ideal.ofBits .f32 1233125376#32 = (((16 ^ 5 : ℕ) : ℝ) : EReal) := by
  simp [Ideal.ofBits, Ideal.ieee, ← EReal.coe_mul]; norm_num
theorem c8 : Ideal.ofBits .f32 1090519040#32 = ((8 : ℝ) : EReal) := by
  simp [Ideal.ofBits, Ideal.ieee, ← EReal.coe_mul]; norm_num
theorem c136 : Ideal.ofBits .bf16 17160#16 = ((136 : ℝ) : EReal) := by
  simp [Ideal.ofBits, Ideal.ieee, ← EReal.coe_mul]

/-- A finite sum of naturals, read in the extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem coe_sum_nat {ι : Type} (s : Finset ι) (f : ι → ℕ) : (∑ k ∈ s, (((f k : ℕ) : ℝ) : EReal)) = (((∑ k ∈ s, f k : ℕ) : ℝ) : EReal) := by
  rw [coe_sum]; push_cast; rfl

/-! ## The columns -/

/-- Place `p` of the permutation, among the base columns. -/
def bcol (p : Fin 3840) : Fin 4096 := ⟨p.val, by omega⟩
/-- Place `3840 + o` of the permutation, among the outlier columns. -/
def ocol (o : Fin 256) : Fin 4096 := ⟨3840 + o.val, by omega⟩

theorem col_cases (j : Fin 4096) : (∃ p, j = bcol p) ∨ ∃ o, j = ocol o := by
  by_cases h : j.val < 3840
  · exact Or.inl ⟨⟨j.val, h⟩, rfl⟩
  · exact Or.inr ⟨⟨j.val - 3840, by omega⟩, Fin.ext (by show j.val = 3840 + (j.val - 3840); omega)⟩

theorem bcol_ne_ocol (p : Fin 3840) (o : Fin 256) : bcol p ≠ ocol o := fun h => by
  have := congrArg Fin.val h
  have h2 : p.val = 3840 + o.val := this
  omega

theorem bcol_inj {p q : Fin 3840} (h : bcol p = bcol q) : p = q := Fin.ext (by
  have h2 : (bcol p).val = (bcol q).val := congrArg Fin.val h
  exact h2)
theorem ocol_inj {p q : Fin 256} (h : ocol p = ocol q) : p = q := Fin.ext (by
  have h2 : 3840 + p.val = 3840 + q.val := congrArg Fin.val h
  omega)

theorem sum_cols {M : Type} [AddCommMonoid M] (f : Fin 4096 → M) : ∑ j, f j = ∑ p, f (bcol p) + ∑ o, f (ocol o) :=
  Fin.sum_univ_add (a := 3840) (b := 256) f

variable (σ : Equiv.Perm (Fin 4096)) (X : Fin 4096 → EReal)

/-! ## One row's quantisation -/

/-- The row's minimum over the base columns. -/
def mnOf : EReal := Finset.univ.fold min ⊤ fun p : Fin 3840 => X (σ (bcol p))
/-- The row's maximum over the base columns. -/
def mxOf : EReal := Finset.univ.fold max ⊥ fun p : Fin 3840 => X (σ (bcol p))
/-- The scale. -/
def scOf (mn mx : EReal) : EReal := if mx = mn then 1 else Ideal.div (mx - mn) (Ideal.ofBits .f32 1097859072#32)
/-- The row's scale. -/
def rowSc : EReal := scOf (mnOf σ X) (mxOf σ X)
/-- A value's code, as an extended real. -/
def codeE (mn sc v : EReal) : EReal :=
  min ((((15#32 : BitVec 32).toInt : ℝ)) : EReal) (max ((((0#32 : BitVec 32).toInt : ℝ)) : EReal) (Ideal.liftRound Ideal.roundHalfEven (Ideal.div (v - mn) sc)))
/-- A value's code. -/
def code (mn sc v : EReal) : ℕ := ⌊(codeE mn sc v).toReal⌋₊
/-- The code of column `k` of the row. -/
def rowCode (k : Fin 4096) : ℕ := code (mnOf σ X) (rowSc σ X) (X k)

theorem clip_nat (z : EReal) (hz : z = ⊥ ∨ z = ⊤ ∨ ∃ n : ℤ, z = ((n : ℝ) : EReal)) :
    ∃ n : ℕ, n ≤ 15 ∧ min ((((15#32 : BitVec 32).toInt : ℝ)) : EReal) (max ((((0#32 : BitVec 32).toInt : ℝ)) : EReal) z) = ((n : ℝ) : EReal) := by
  have e15 : (15#32 : BitVec 32).toInt = 15 := by decide
  have e0 : (0#32 : BitVec 32).toInt = 0 := by decide
  rw [e15, e0]
  rcases hz with rfl | rfl | ⟨n, rfl⟩
  · exact ⟨0, by omega, by simp⟩
  · exact ⟨15, le_refl _, by simp⟩
  · refine ⟨(min 15 (max 0 n)).toNat, by omega, ?_⟩
    have h : (((min 15 (max 0 n)).toNat : ℕ) : ℝ) = ((min 15 (max 0 n) : ℤ) : ℝ) := by
      have : (((min 15 (max 0 n)).toNat : ℕ) : ℤ) = min 15 (max 0 n) := Int.toNat_of_nonneg (by omega)
      exact_mod_cast this
    rw [h]
    push_cast
    rw [EReal.coe_strictMono.monotone.map_min, EReal.coe_strictMono.monotone.map_max]
    norm_num

theorem codeE_nat (mn sc v : EReal) : ∃ n : ℕ, n ≤ 15 ∧ codeE mn sc v = ((n : ℝ) : EReal) := by
  refine clip_nat _ ?_
  induction Ideal.div (v - mn) sc using EReal.rec with
  | bot => exact Or.inl rfl
  | top => exact Or.inr (Or.inl rfl)
  | coe r => exact Or.inr (Or.inr ⟨_, rfl⟩)

theorem codeE_eq (mn sc v : EReal) : codeE mn sc v = ((code mn sc v : ℝ) : EReal) := by
  obtain ⟨n, -, h⟩ := codeE_nat mn sc v
  have : code mn sc v = n := by
    unfold code; rw [h, EReal.toReal_coe, Nat.floor_natCast]
  rw [this, h]

theorem code_le (mn sc v : EReal) : code mn sc v ≤ 15 := by
  obtain ⟨n, hn, h⟩ := codeE_nat mn sc v
  have : code mn sc v = n := by
    unfold code; rw [h, EReal.toReal_coe, Nat.floor_natCast]
  omega

/-! ## The mask -/

theorem fold_min_mask (M : Fin 4096 → EReal) (h1 : ∀ o, M (σ (ocol o)) = ⊤) (h0 : ∀ p, M (σ (bcol p)) = ⊥) :
    Finset.univ.fold min ⊤ (fun k => max (X k) (M k)) = mnOf σ X := by
  refine eq_of_forall_le_iff fun c => ?_
  unfold mnOf
  rw [Finset.le_fold_min, Finset.le_fold_min]
  refine and_congr_right fun _ => ⟨fun h p _ => ?_, fun h k _ => ?_⟩
  · have := h (σ (bcol p)) (Finset.mem_univ _)
    rwa [h0, max_bot_right] at this
  · obtain ⟨j, rfl⟩ := σ.surjective k
    rcases col_cases j with ⟨p, rfl⟩ | ⟨o, rfl⟩
    · rw [h0, max_bot_right]; exact h p (Finset.mem_univ _)
    · rw [h1, max_top_right]; exact le_top

theorem fold_max_mask (M : Fin 4096 → EReal) (h1 : ∀ o, M (σ (ocol o)) = ⊤) (h0 : ∀ p, M (σ (bcol p)) = ⊥) :
    Finset.univ.fold max ⊥ (fun k => min (X k) (0 - M k)) = mxOf σ X := by
  have e1 : (0 : EReal) - ⊤ = ⊥ := by simp
  have e0 : (0 : EReal) - ⊥ = ⊤ := by simp
  refine eq_of_forall_ge_iff fun c => ?_
  unfold mxOf
  rw [Finset.fold_max_le, Finset.fold_max_le]
  refine and_congr_right fun _ => ⟨fun h p _ => ?_, fun h k _ => ?_⟩
  · have := h (σ (bcol p)) (Finset.mem_univ _)
    rwa [h0, e0, min_top_right] at this
  · obtain ⟨j, rfl⟩ := σ.surjective k
    rcases col_cases j with ⟨p, rfl⟩ | ⟨o, rfl⟩
    · rw [h0, e0, min_top_right]; exact h p (Finset.mem_univ _)
    · rw [h1, e1, min_bot_right]; exact bot_le

/-- The same over any listing of the base columns. -/
theorem fold_min_reindex (e : Fin 3840 → Fin 3840) (he : Function.Surjective e) :
    Finset.univ.fold min ⊤ (fun p => X (σ (bcol (e p)))) = mnOf σ X := by
  refine eq_of_forall_le_iff fun c => ?_
  unfold mnOf
  rw [Finset.le_fold_min, Finset.le_fold_min]
  refine and_congr_right fun _ => ⟨fun h p _ => ?_, fun h k _ => h (e k) (Finset.mem_univ _)⟩
  obtain ⟨q, rfl⟩ := he p
  exact h q (Finset.mem_univ _)

theorem fold_max_reindex (e : Fin 3840 → Fin 3840) (he : Function.Surjective e) :
    Finset.univ.fold max ⊥ (fun p => X (σ (bcol (e p)))) = mxOf σ X := by
  refine eq_of_forall_ge_iff fun c => ?_
  unfold mxOf
  rw [Finset.fold_max_le, Finset.fold_max_le]
  refine and_congr_right fun _ => ⟨fun h p _ => ?_, fun h k _ => h (e k) (Finset.mem_univ _)⟩
  obtain ⟨q, rfl⟩ := he p
  exact h q (Finset.mem_univ _)

/-! ## One-hot sums -/

/-- How many of the outlier columns are column `k`: a sum of ones and zeros. -/
theorem hits_ocol (o : Fin 256) : (∑ x : Fin 256, (if σ (ocol o) = σ (ocol x) then (1 : ℕ) else 0)) = 1 := by
  rw [Finset.sum_eq_single o]
  · simp
  · intro b _ hb
    rw [if_neg]
    exact fun h => hb (ocol_inj (σ.injective h)).symm
  · exact fun h => absurd (Finset.mem_univ _) h

theorem hits_bcol (p : Fin 3840) : (∑ x : Fin 256, (if σ (bcol p) = σ (ocol x) then (1 : ℕ) else 0)) = 0 :=
  Finset.sum_eq_zero fun x _ => if_neg fun h => bcol_ne_ocol p x (σ.injective h)

/-- An outlier column picked by its one-hot column. -/
theorem pick_ocol (j : Fin 4096) : (∑ k, X k * (if k = j then (1 : EReal) else 0)) = X j := by
  rw [Finset.sum_eq_single j]
  · simp
  · intro b _ hb; rw [if_neg hb, mul_zero]
  · exact fun h => absurd (Finset.mem_univ _) h

/-- The sum of the codes over the columns that are not outliers. -/
theorem rowsum_mask (f : Fin 4096 → ℕ) :
    (∑ k, ((f k : ℝ) : EReal) * (1 - (((∑ x : Fin 256, if k = σ (ocol x) then (1 : ℕ) else 0 : ℕ) : ℝ) : EReal))) = (((∑ p, f (σ (bcol p)) : ℕ) : ℝ) : EReal) := by
  have e : ∀ k, ((f k : ℝ) : EReal) * (1 - (((∑ x : Fin 256, if k = σ (ocol x) then (1 : ℕ) else 0 : ℕ) : ℝ) : EReal))
      = ((((f k : ℝ) * (1 - ((∑ x : Fin 256, if k = σ (ocol x) then (1 : ℕ) else 0 : ℕ) : ℝ)) : ℝ)) : EReal) := fun k => by
    rw [EReal.coe_mul, EReal.coe_sub, EReal.coe_one]
  rw [Finset.sum_congr rfl fun k _ => e k, coe_sum, ← Equiv.sum_comp σ, sum_cols]
  simp only [hits_ocol, hits_bcol]
  push_cast
  simp

/-- Field `s` of place `j`. -/
def fcol (s : Fin 6) (j : Fin 640) : Fin 3840 := ⟨s.val * 640 + j.val, by omega⟩

theorem fcol_ne {s s' : Fin 6} (j : Fin 640) (h : s ≠ s') : σ (bcol (fcol s j)) ≠ σ (bcol (fcol s' j)) := fun e => h (by
  have h1 := congrArg Fin.val (bcol_inj (σ.injective e))
  have h2 : s.val * 640 + j.val = s'.val * 640 + j.val := h1
  exact Fin.ext (by omega))

/-- The gather matrix's entry: the power of sixteen of the field the column is in. -/
theorem packed_sum (f : Fin 4096 → ℕ) (j : Fin 640) :
    (∑ k, ((f k : ℝ) : EReal) *
      (if k = σ (bcol (fcol 5 j)) then (((16 ^ 5 : ℕ) : ℝ) : EReal) else if k = σ (bcol (fcol 4 j)) then (((16 ^ 4 : ℕ) : ℝ) : EReal)
        else if k = σ (bcol (fcol 3 j)) then (((16 ^ 3 : ℕ) : ℝ) : EReal) else if k = σ (bcol (fcol 2 j)) then (((16 ^ 2 : ℕ) : ℝ) : EReal)
        else if k = σ (bcol (fcol 1 j)) then (((16 ^ 1 : ℕ) : ℝ) : EReal) else if k = σ (bcol (fcol 0 j)) then 1 else 0))
      = (((∑ s : Fin 6, f (σ (bcol (fcol s j))) * 16 ^ s.val : ℕ) : ℝ) : EReal) := by
  have e : ∀ k, ((f k : ℝ) : EReal) *
      (if k = σ (bcol (fcol 5 j)) then (((16 ^ 5 : ℕ) : ℝ) : EReal) else if k = σ (bcol (fcol 4 j)) then (((16 ^ 4 : ℕ) : ℝ) : EReal)
        else if k = σ (bcol (fcol 3 j)) then (((16 ^ 3 : ℕ) : ℝ) : EReal) else if k = σ (bcol (fcol 2 j)) then (((16 ^ 2 : ℕ) : ℝ) : EReal)
        else if k = σ (bcol (fcol 1 j)) then (((16 ^ 1 : ℕ) : ℝ) : EReal) else if k = σ (bcol (fcol 0 j)) then 1 else 0)
      = (((∑ s : Fin 6, (if k = σ (bcol (fcol s j)) then f k * 16 ^ s.val else 0) : ℕ) : ℝ) : EReal) := fun k => by
    have n10 := fcol_ne σ j (show (1 : Fin 6) ≠ 0 by decide)
    have n20 := fcol_ne σ j (show (2 : Fin 6) ≠ 0 by decide)
    have n30 := fcol_ne σ j (show (3 : Fin 6) ≠ 0 by decide)
    have n40 := fcol_ne σ j (show (4 : Fin 6) ≠ 0 by decide)
    have n50 := fcol_ne σ j (show (5 : Fin 6) ≠ 0 by decide)
    have n21 := fcol_ne σ j (show (2 : Fin 6) ≠ 1 by decide)
    have n31 := fcol_ne σ j (show (3 : Fin 6) ≠ 1 by decide)
    have n41 := fcol_ne σ j (show (4 : Fin 6) ≠ 1 by decide)
    have n51 := fcol_ne σ j (show (5 : Fin 6) ≠ 1 by decide)
    have n32 := fcol_ne σ j (show (3 : Fin 6) ≠ 2 by decide)
    have n42 := fcol_ne σ j (show (4 : Fin 6) ≠ 2 by decide)
    have n52 := fcol_ne σ j (show (5 : Fin 6) ≠ 2 by decide)
    have n43 := fcol_ne σ j (show (4 : Fin 6) ≠ 3 by decide)
    have n53 := fcol_ne σ j (show (5 : Fin 6) ≠ 3 by decide)
    have n54 := fcol_ne σ j (show (5 : Fin 6) ≠ 4 by decide)
    rw [Fin.sum_univ_six]
    generalize σ (bcol (fcol 0 j)) = a0 at *
    generalize σ (bcol (fcol 1 j)) = a1 at *
    generalize σ (bcol (fcol 2 j)) = a2 at *
    generalize σ (bcol (fcol 3 j)) = a3 at *
    generalize σ (bcol (fcol 4 j)) = a4 at *
    generalize σ (bcol (fcol 5 j)) = a5 at *
    have fin : ∀ n : ℕ, ((f k : ℝ) : EReal) * ((n : ℝ) : EReal) = (((f k * n : ℕ) : ℝ) : EReal) := fun n => by
      rw [← EReal.coe_mul]; push_cast; rfl
    by_cases h5 : k = a5
    · subst h5; rw [if_pos rfl, fin]; congr 2; simp [n50, n51, n52, n53, n54]
    by_cases h4 : k = a4
    · subst h4; rw [if_neg h5, if_pos rfl, fin]; congr 2; simp [n40, n41, n42, n43, h5]
    by_cases h3 : k = a3
    · subst h3; rw [if_neg h5, if_neg h4, if_pos rfl, fin]; congr 2; simp [n30, n31, n32, h4, h5]
    by_cases h2 : k = a2
    · subst h2; rw [if_neg h5, if_neg h4, if_neg h3, if_pos rfl, fin]; congr 2; simp [n20, n21, h3, h4, h5]
    by_cases h1 : k = a1
    · subst h1; rw [if_neg h5, if_neg h4, if_neg h3, if_neg h2, if_pos rfl, fin]; congr 2; simp [n10, h2, h3, h4, h5]
    by_cases h0 : k = a0
    · subst h0; rw [if_neg h5, if_neg h4, if_neg h3, if_neg h2, if_neg h1, if_pos rfl, mul_one]; congr 2; simp [h1, h2, h3, h4, h5]
    · rw [if_neg h5, if_neg h4, if_neg h3, if_neg h2, if_neg h1, if_neg h0, mul_zero]; simp [h0, h1, h2, h3, h4, h5]
  rw [Finset.sum_congr rfl fun k _ => e k, coe_sum_nat]
  have hs : (∑ k, ∑ s : Fin 6, (if k = σ (bcol (fcol s j)) then f k * 16 ^ s.val else 0)) = ∑ s : Fin 6, f (σ (bcol (fcol s j))) * 16 ^ s.val := by
    rw [Finset.sum_comm]
    refine Finset.sum_congr rfl fun s _ => ?_
    rw [Finset.sum_ite_eq' Finset.univ (σ (bcol (fcol s j))) (fun k => f k * 16 ^ s.val), if_pos (Finset.mem_univ _)]
  rw [hs]

/-! ## The packed integer -/

theorem packed_lt (d : Fin 6 → ℕ) (hd : ∀ s, d s ≤ 15) : (∑ s : Fin 6, d s * 16 ^ s.val) < 2 ^ 24 := by
  rw [Fin.sum_univ_six]
  have h0 := hd 0; have h1 := hd 1; have h2 := hd 2; have h3 := hd 3; have h4 := hd 4; have h5 := hd 5
  show d 0 * 16 ^ 0 + d 1 * 16 ^ 1 + d 2 * 16 ^ 2 + d 3 * 16 ^ 3 + d 4 * 16 ^ 4 + d 5 * 16 ^ 5 < 2 ^ 24
  norm_num
  omega

theorem six_digit (d0 d1 d2 d3 d4 d5 : ℕ) (h0 : d0 ≤ 15) (h1 : d1 ≤ 15) (h2 : d2 ≤ 15) (h3 : d3 ≤ 15) (h4 : d4 ≤ 15) (h5 : d5 ≤ 15) :
    (d0 + d1 * 16 + d2 * 256 + d3 * 4096 + d4 * 65536 + d5 * 1048576) / 1 % 16 = d0
    ∧ (d0 + d1 * 16 + d2 * 256 + d3 * 4096 + d4 * 65536 + d5 * 1048576) / 16 % 16 = d1
    ∧ (d0 + d1 * 16 + d2 * 256 + d3 * 4096 + d4 * 65536 + d5 * 1048576) / 256 % 16 = d2
    ∧ (d0 + d1 * 16 + d2 * 256 + d3 * 4096 + d4 * 65536 + d5 * 1048576) / 4096 % 16 = d3
    ∧ (d0 + d1 * 16 + d2 * 256 + d3 * 4096 + d4 * 65536 + d5 * 1048576) / 65536 % 16 = d4
    ∧ (d0 + d1 * 16 + d2 * 256 + d3 * 4096 + d4 * 65536 + d5 * 1048576) / 1048576 % 16 = d5 := by
  refine ⟨?_, ?_, ?_, ?_, ?_, ?_⟩ <;> omega

theorem packed_digit (d : Fin 6 → ℕ) (hd : ∀ s, d s ≤ 15) (s : Fin 6) : (∑ s : Fin 6, d s * 16 ^ s.val) / 2 ^ (4 * s.val) % 16 = d s := by
  obtain ⟨e0, e1, e2, e3, e4, e5⟩ := six_digit (d 0) (d 1) (d 2) (d 3) (d 4) (d 5) (hd 0) (hd 1) (hd 2) (hd 3) (hd 4) (hd 5)
  have e : (∑ s : Fin 6, d s * 16 ^ s.val) = d 0 + d 1 * 16 + d 2 * 256 + d 3 * 4096 + d 4 * 65536 + d 5 * 1048576 := by
    rw [Fin.sum_univ_six]
    simp
  rw [e]
  generalize d 0 + d 1 * 16 + d 2 * 256 + d 3 * 4096 + d 4 * 65536 + d 5 * 1048576 = n at *
  fin_cases s
  · simpa using e0
  · simpa using e1
  · simpa using e2
  · simpa using e3
  · simpa using e4
  · simpa using e5

/-- A natural read as a word: the conversion of its rounding. -/
theorem fptosi_nat (n : ℕ) (h : n < 2 ^ 31) : Ideal.fptosi 32 ((n : ℝ) : EReal) = BitVec.ofNat 32 n := by
  unfold Ideal.fptosi Ideal.toIntClamped
  have : (if (0 : ℝ) ≤ (n : ℝ) then ⌊(n : ℝ)⌋ else ⌈(n : ℝ)⌉) = (n : ℤ) := by
    rw [if_pos (Nat.cast_nonneg n)]; exact Int.floor_natCast n
  show BitVec.ofInt 32 (max _ (min _ (if (0 : ℝ) ≤ (n : ℝ) then ⌊(n : ℝ)⌋ else ⌈(n : ℝ)⌉))) = _
  rw [this, show max (-((2 ^ (32 - 1) : ℕ) : ℤ)) (min (((2 ^ (32 - 1) : ℕ) : ℤ) - 1) (n : ℤ)) = (n : ℤ) by omega, BitVec.ofInt_natCast]

theorem round_nat (n : ℕ) : Ideal.liftRound Ideal.roundHalfEven ((n : ℝ) : EReal) = ((n : ℝ) : EReal) := by
  have : Ideal.roundHalfEven (n : ℝ) = (n : ℤ) := by
    unfold Ideal.roundHalfEven
    simp
  rw [Ideal.liftRound_coe, this]; simp

/-- A field of the packed word. -/
theorem shr_and (u : ArithUnit) (n k : ℕ) (hn : n < 2 ^ 31) (hk : k < 32) :
    IntOp.andi (IntOp.shrsi u (BitVec.ofNat 32 n) (BitVec.ofNat 32 k)) 15#32 = BitVec.ofNat 32 (n / 2 ^ k % 16) := by
  have hk' : (BitVec.ofNat 32 k).toNat = k := by simp only [BitVec.toNat_ofNat]; omega
  have hm : (BitVec.ofNat 32 n).msb = false := by
    rw [BitVec.msb_eq_decide]; simp only [BitVec.toNat_ofNat]; simp; omega
  apply BitVec.eq_of_toNat_eq
  unfold IntOp.andi IntOp.shrsi
  rw [if_pos (by omega), BitVec.sshiftRight', hk', BitVec.sshiftRight_eq_of_msb_false hm, BitVec.toNat_and, BitVec.toNat_ushiftRight]
  simp only [BitVec.toNat_ofNat]
  rw [Nat.shiftRight_eq_div_pow, Nat.mod_eq_of_lt (show n < 2 ^ 32 by omega), show 15 % 2 ^ 32 = 2 ^ 4 - 1 by norm_num, Nat.and_two_pow_sub_one_eq_mod]
  omega

end Cert.Proof.Model

end
-- ==== Proof.HostVal.lean ====
/- What the host's lines hold: the operands of the two calls and the four results, at an index. -/
module

public import proofs.«01_k».proof.Proof.Run
public import proofs.«01_k».proof.Proof.Model
public import Idealize.ShloMosaic.Lib.Pointwise

@[expose] public section

set_option maxRecDepth 16384

noncomputable section

namespace Cert.Proof.Host

open Cert.KernelIdeal Cert.KernelIdeal.Gen Cert.Proof.Model Cert.Proof.Run
open Idealize.ShloMosaic Idealize.ShloMosaic.TcCoe Idealize.ShloMosaic.Tactic
open scoped BigOperators

variable (m : (ℓ : Loc nD τ sig) → Buf (Elt Ideal) ℓ) (c : Dev nD)

/-- Row `r` of the batch: its two coordinates. -/
def rb (r : Fin 16384) : Fin 8 := ⟨r.val / 2048, by omega⟩
def rs (r : Fin 16384) : Fin 2048 := ⟨r.val % 2048, by omega⟩
/-- The row at two coordinates. -/
def row (b : Fin 8) (s : Fin 2048) : Fin 16384 := ⟨b.val * 2048 + s.val, by omega⟩
theorem rb_row (b s) : rb (row b s) = b := Fin.ext (by show (b.val * 2048 + s.val) / 2048 = b.val; omega)
theorem rs_row (b s) : rs (row b s) = s := Fin.ext (by show (b.val * 2048 + s.val) % 2048 = s.val; omega)

/-- The arguments. -/
abbrev a0 : Vec Ideal S8x2048x4096 .bf16 := m ((c : Thread nD τ).loc main_arg0)
abbrev a1 : Vec Ideal S4096 .i32 := m ((c : Thread nD τ).loc main_arg1)
abbrev a2 : Vec Ideal S1920x14336 .i8 := m ((c : Thread nD τ).loc main_arg2)
abbrev a3 : Vec Ideal S14336 .f32 := m ((c : Thread nD τ).loc main_arg3)
abbrev a4 : Vec Ideal S14336 .f32 := m ((c : Thread nD τ).loc main_arg4)
abbrev a5 : Vec Ideal S256x14336 .bf16 := m ((c : Thread nD τ).loc main_arg5)

/-! ## The casts at an index -/

section Casts
variable {α : Type}

theorem cast_in (x : S8x2048x4096.Idx → α) (r : Fin 16384) (k : Fin 4096) :
    shapeCast S16384x4096 x shapeCasts_S8x2048x4096_S16384x4096 (ix2 r k) = x (ix3 (rb r) (rs r) k) :=
  shapeCast_apply x _ _ _ (by
    rw [Shape.rowMajor_val_three, Shape.rowMajor_val_two]
    show (r.val / 2048 * 2048 + r.val % 2048) * 4096 + k.val = r.val * 4096 + k.val
    omega)
theorem cast_pf (x : S3840.Idx → α) (s : Fin 6) (j : Fin 640) :
    shapeCast S6x640 x shapeCasts_S3840_S6x640 (ix2 s j) = x (ix1 (fcol s j)) :=
  shapeCast_apply x _ _ _ (by
    rw [Shape.rowMajor_val_one, Shape.rowMajor_val_two]
    rfl)
theorem cast_po (x : S256.Idx → α) (o : Fin 256) : shapeCast S1x256 x shapeCasts_S256_S1x256 (ix2 0 o) = x (ix1 o) :=
  shapeCast_apply x _ _ _ (by
    rw [Shape.rowMajor_val_one, Shape.rowMajor_val_two]
    show o.val = 0 * 256 + o.val
    omega)
theorem cast_pc (x : S256.Idx → α) (o : Fin 256) : shapeCast S256x1 x shapeCasts_S256_S256x1 (ix2 o 0) = x (ix1 o) :=
  shapeCast_apply x _ _ _ (by
    rw [Shape.rowMajor_val_one, Shape.rowMajor_val_two]
    show o.val = o.val * 1 + 0
    omega)
theorem cast_w (x : S14336.Idx → α) (j : Fin 14336) : shapeCast S1x14336 x shapeCasts_S14336_S1x14336 (ix2 0 j) = x (ix1 j) :=
  shapeCast_apply x _ _ _ (by
    rw [Shape.rowMajor_val_one, Shape.rowMajor_val_two]
    show j.val = 0 * 14336 + j.val
    omega)
theorem cast_st (x : S1x16384.Idx → α) (b : Fin 8) (s : Fin 2048) :
    shapeCast S8x2048 (shapeCast S16384 x shapeCasts_S1x16384_S16384) shapeCasts_S16384_S8x2048 (ix2 b s) = x (ix2 0 (row b s)) :=
  (shapeCast_apply _ _ _ (ix1 (row b s)) (by rw [Shape.rowMajor_val_one, Shape.rowMajor_val_two]; rfl)).trans
    (shapeCast_apply x _ _ _ (by
      rw [Shape.rowMajor_val_one, Shape.rowMajor_val_two]
      show 0 * 16384 + (row b s).val = (row b s).val
      omega))
theorem cast_y (x : S16384x14336.Idx → α) (b : Fin 8) (s : Fin 2048) (j : Fin 14336) :
    shapeCast S8x2048x14336 x shapeCasts_S16384x14336_S8x2048x14336 (ix3 b s j) = x (ix2 (row b s) j) :=
  shapeCast_apply x _ _ _ (by
    rw [Shape.rowMajor_val_three, Shape.rowMajor_val_two]
    rfl)
theorem cast_q (x : S16384x3840.Idx → α) (b : Fin 8) (s : Fin 2048) (j : Fin 3840) :
    shapeCast S8x2048x3840 x shapeCasts_S16384x3840_S8x2048x3840 (ix3 b s j) = x (ix2 (row b s) j) :=
  shapeCast_apply x _ _ _ (by
    rw [Shape.rowMajor_val_three, Shape.rowMajor_val_two]
    rfl)
theorem slice_b (x : S4096.Idx → α) (p : Fin 3840) : extractStridedSlice S3840 ![0] x slices_S4096_S3840_0 (ix1 p) = x (ix1 (bcol p)) :=
  congrArg x (by
    funext a
    match a with
    | 0 => exact Fin.ext (by show 0 + p.val = p.val; omega))
theorem slice_o (x : S4096.Idx → α) (o : Fin 256) : extractStridedSlice S256 ![3840] x slices_S4096_S256_3840 (ix1 o) = x (ix1 (ocol o)) :=
  congrArg x (by
    funext a
    match a with
    | 0 => rfl)
theorem slice_t0 (x : S8x16384.Idx → α) (r : Fin 16384) : extractStridedSlice S1x16384 ![0, 0] x slices_S8x16384_S1x16384_0_0 (ix2 0 r) = x (ix2 0 r) :=
  congrArg x (by
    funext a
    match a with
    | 0 => rfl
    | 1 => exact Fin.ext (by show 0 + r.val = r.val; omega))
theorem slice_t1 (x : S8x16384.Idx → α) (r : Fin 16384) : extractStridedSlice S1x16384 ![1, 0] x slices_S8x16384_S1x16384_1_0 (ix2 0 r) = x (ix2 1 r) :=
  congrArg x (by
    funext a
    match a with
    | 0 => rfl
    | 1 => exact Fin.ext (by show 0 + r.val = r.val; omega))
end Casts

/-! ## The first call's operands -/

theorem v0 (r : Fin 16384) (k : Fin 4096) : (V1 m c main_v0 : Vec Ideal S16384x4096 .bf16) (ix2 r k) = a0 m c (ix3 (rb r) (rs r) k) := by
  have t : (V1 m c main_v0 : Vec Ideal S16384x4096 .bf16) = shapeCast S16384x4096 (a0 m c) shapeCasts_S8x2048x4096_S16384x4096 := by
    show StableHlo.after hostOps0 _ _ = _
    after_results
    rfl
  rw [t]; exact cast_in _ r k
theorem v2 (s : Fin 6) (j : Fin 640) : (V1 m c main_v2 : Vec Ideal S6x640 .i32) (ix2 s j) = a1 m c (ix1 (bcol (fcol s j))) := by
  have t : (V1 m c main_v2 : Vec Ideal S6x640 .i32) = shapeCast S6x640 (extractStridedSlice S3840 ![0] (a1 m c) slices_S4096_S3840_0) shapeCasts_S3840_S6x640 := by
    show StableHlo.after hostOps0 _ _ = _
    after_results
    rfl
  rw [t]; exact (cast_pf _ s j).trans (slice_b _ _)
theorem v4 (o : Fin 256) : (V1 m c main_v4 : Vec Ideal S1x256 .i32) (ix2 0 o) = a1 m c (ix1 (ocol o)) := by
  have t : (V1 m c main_v4 : Vec Ideal S1x256 .i32) = shapeCast S1x256 (extractStridedSlice S256 ![3840] (a1 m c) slices_S4096_S256_3840) shapeCasts_S256_S1x256 := by
    show StableHlo.after hostOps0 _ _ = _
    after_results
    rfl
  rw [t]; exact (cast_po _ o).trans (slice_o _ _)
theorem v6 (o : Fin 256) : (V1 m c main_v6 : Vec Ideal S256x1 .i32) (ix2 o 0) = a1 m c (ix1 (ocol o)) := by
  have t : (V1 m c main_v6 : Vec Ideal S256x1 .i32) = shapeCast S256x1 (extractStridedSlice S256 ![3840] (a1 m c) slices_S4096_S256_3840) shapeCasts_S256_S256x1 := by
    show StableHlo.after hostOps0 _ _ = _
    after_results
    rfl
  rw [t]; exact (cast_pc _ o).trans (slice_o _ _)

/-! ## The second call's operands -/

theorem w8 (j : Fin 14336) : (V3 m (outs0 m) c main_v8 : Vec Ideal S1x14336 .f32) (ix2 0 j) = a3 m c (ix1 j) := by
  have t : (V3 m (outs0 m) c main_v8 : Vec Ideal S1x14336 .f32) = shapeCast S1x14336 (V2 m (outs0 m) c main_arg3 : Vec Ideal S14336 .f32) shapeCasts_S14336_S1x14336 := by
    show StableHlo.after hostOps1 _ _ = _
    generalize V2 m (outs0 m) c = V
    after_results
    rfl
  rw [t, cast_w, V2_of m (outs0 m) c main_arg3 (by decide), V1_of m c main_arg3 (by decide)]
theorem w9 (j : Fin 14336) : (V3 m (outs0 m) c main_v9 : Vec Ideal S1x14336 .f32) (ix2 0 j) = a4 m c (ix1 j) := by
  have t : (V3 m (outs0 m) c main_v9 : Vec Ideal S1x14336 .f32) = shapeCast S1x14336 (V2 m (outs0 m) c main_arg4 : Vec Ideal S14336 .f32) shapeCasts_S14336_S1x14336 := by
    show StableHlo.after hostOps1 _ _ = _
    generalize V2 m (outs0 m) c = V
    after_results
    rfl
  rw [t, cast_w, V2_of m (outs0 m) c main_arg4 (by decide), V1_of m c main_arg4 (by decide)]
theorem warg2 : (V3 m (outs0 m) c main_arg2 : Vec Ideal S1920x14336 .i8) = a2 m c :=
  (V3_of m (outs0 m) c main_arg2 (by decide)).trans ((V2_of m (outs0 m) c main_arg2 (by decide)).trans (V1_of m c main_arg2 (by decide)))
theorem warg5 : (V3 m (outs0 m) c main_arg5 : Vec Ideal S256x14336 .bf16) = a5 m c :=
  (V3_of m (outs0 m) c main_arg5 (by decide)).trans ((V2_of m (outs0 m) c main_arg5 (by decide)).trans (V1_of m c main_arg5 (by decide)))

theorem w70 : (V3 m (outs0 m) c main_v7_0 : Vec Ideal S16384x3840 .i8) = (Quant.dats (V1 m) c).arrAt 4 cfg0.N :=
  (V3_of m (outs0 m) c main_v7_0 (by decide)).trans ((after0_eq m c (Proc.devRef .tc main_v7_0) (Pipeline.devRef_mem_ucRefs (b := main_v7_0) (by decide))).symm.trans
    (Pipeline.afterRegion_arr (Quant.dats (V1 m) c) _ winFacts0.arr_inj 4))
theorem w71 : (V3 m (outs0 m) c main_v7_1 : Vec Ideal S16384x256 .bf16) = (Quant.dats (V1 m) c).arrAt 5 cfg0.N :=
  (V3_of m (outs0 m) c main_v7_1 (by decide)).trans ((after0_eq m c (Proc.devRef .tc main_v7_1) (Pipeline.devRef_mem_ucRefs (b := main_v7_1) (by decide))).symm.trans
    (Pipeline.afterRegion_arr (Quant.dats (V1 m) c) _ winFacts0.arr_inj 5))
theorem w72 : (V3 m (outs0 m) c main_v7_2 : Vec Ideal S16384x128 .f32) = (Quant.dats (V1 m) c).arrAt 6 cfg0.N :=
  (V3_of m (outs0 m) c main_v7_2 (by decide)).trans ((after0_eq m c (Proc.devRef .tc main_v7_2) (Pipeline.devRef_mem_ucRefs (b := main_v7_2) (by decide))).symm.trans
    (Pipeline.afterRegion_arr (Quant.dats (V1 m) c) _ winFacts0.arr_inj 6))

/-! ## The results -/

theorem u10 : (V4 m (outs m) c main_v10 : Vec Ideal S16384x14336 .bf16) = (Mix.dats (V3 m (outs0 m)) c).arrAt 7 cfg1.N :=
  (after1_eq m c (Proc.devRef .tc main_v10) (Pipeline.devRef_mem_ucRefs (b := main_v10) (by decide))).symm.trans
    (Pipeline.afterRegion_arr (Mix.dats (V3 m (outs0 m)) c) _ winFacts1.arr_inj 7)
theorem u70 : (V4 m (outs m) c main_v7_0 : Vec Ideal S16384x3840 .i8) = (Quant.dats (V1 m) c).arrAt 4 cfg0.N :=
  (V4_of m (outs m) c main_v7_0 (by decide)).trans (w70 m c)
theorem u73 : (V4 m (outs m) c main_v7_3 : Vec Ideal S8x16384 .f32) = (Quant.dats (V1 m) c).arrAt 7 cfg0.N :=
  (V4_of m (outs m) c main_v7_3 (by decide)).trans ((V3_of m (outs0 m) c main_v7_3 (by decide)).trans
    ((after0_eq m c (Proc.devRef .tc main_v7_3) (Pipeline.devRef_mem_ucRefs (b := main_v7_3) (by decide))).symm.trans
    (Pipeline.afterRegion_arr (Quant.dats (V1 m) c) _ winFacts0.arr_inj 7)))

theorem r17 (b : Fin 8) (s : Fin 2048) (j : Fin 14336) : (V5 m (outs m) c main_v17 : Vec Ideal S8x2048x14336 .bf16) (ix3 b s j)
    = ((Mix.dats (V3 m (outs0 m)) c).arrAt 7 cfg1.N : Vec Ideal S16384x14336 .bf16) (ix2 (row b s) j) := by
  rw [← u10]
  have t : (V5 m (outs m) c main_v17 : Vec Ideal S8x2048x14336 .bf16) = shapeCast S8x2048x14336 (V4 m (outs m) c main_v10 : Vec Ideal S16384x14336 .bf16) shapeCasts_S16384x14336_S8x2048x14336 := by
    show StableHlo.after hostOps2 _ _ = _
    generalize V4 m (outs m) c = V
    after_results
    rfl
  rw [t]; exact cast_y _ b s j
theorem r18 (b : Fin 8) (s : Fin 2048) (j : Fin 3840) : (V5 m (outs m) c main_v18 : Vec Ideal S8x2048x3840 .i8) (ix3 b s j)
    = ((Quant.dats (V1 m) c).arrAt 4 cfg0.N : Vec Ideal S16384x3840 .i8) (ix2 (row b s) j) := by
  rw [← u70]
  have t : (V5 m (outs m) c main_v18 : Vec Ideal S8x2048x3840 .i8) = shapeCast S8x2048x3840 (V4 m (outs m) c main_v7_0 : Vec Ideal S16384x3840 .i8) shapeCasts_S16384x3840_S8x2048x3840 := by
    show StableHlo.after hostOps2 _ _ = _
    generalize V4 m (outs m) c = V
    after_results
    rfl
  rw [t]; exact cast_q _ b s j
theorem r13 (b : Fin 8) (s : Fin 2048) : (V5 m (outs m) c main_v13 : Vec Ideal S8x2048 .f32) (ix2 b s)
    = ((Quant.dats (V1 m) c).arrAt 7 cfg0.N : Vec Ideal S8x16384 .f32) (ix2 0 (row b s)) := by
  rw [← u73]
  have t : (V5 m (outs m) c main_v13 : Vec Ideal S8x2048 .f32) = shapeCast S8x2048 (shapeCast S16384 (extractStridedSlice S1x16384 ![0, 0] (V4 m (outs m) c main_v7_3 : Vec Ideal S8x16384 .f32) slices_S8x16384_S1x16384_0_0) shapeCasts_S1x16384_S16384) shapeCasts_S16384_S8x2048 := by
    show StableHlo.after hostOps2 _ _ = _
    generalize V4 m (outs m) c = V
    after_results
    rfl
  rw [t]; exact (cast_st _ b s).trans (slice_t0 _ _)
theorem r16 (b : Fin 8) (s : Fin 2048) : (V5 m (outs m) c main_v16 : Vec Ideal S8x2048 .f32) (ix2 b s)
    = ((Quant.dats (V1 m) c).arrAt 7 cfg0.N : Vec Ideal S8x16384 .f32) (ix2 1 (row b s)) := by
  rw [← u73]
  have t : (V5 m (outs m) c main_v16 : Vec Ideal S8x2048 .f32) = shapeCast S8x2048 (shapeCast S16384 (extractStridedSlice S1x16384 ![1, 0] (V4 m (outs m) c main_v7_3 : Vec Ideal S8x16384 .f32) slices_S8x16384_S1x16384_1_0) shapeCasts_S1x16384_S16384) shapeCasts_S16384_S8x2048 := by
    show StableHlo.after hostOps2 _ _ = _
    generalize V4 m (outs m) c = V
    after_results
    rfl
  rw [t]; exact (cast_st _ b s).trans (slice_t1 _ _)

end Cert.Proof.Host
-- ==== Proof.QuantVal.lean ====
/- The quantising kernel's blocks at an index, in the terms of the model: the gather matrix, the mask and the four
   results of one row tile, given that the index blocks hold a permutation. -/
module

public import proofs.«01_k».proof.Proof.QuantRun
public import proofs.«01_k».proof.Proof.Model

@[expose] public section

set_option maxRecDepth 16384

noncomputable section

namespace Cert.Proof.QVal

open Cert.KernelIdeal Cert.KernelIdeal.Gen Cert.Proof.Quant Cert.Proof.Model
open Idealize.ShloMosaic
open scoped BigOperators

variable (σ : Equiv.Perm (Fin 4096))

/-- The gather matrix's entry at column `k`, place `j`. -/
def ent (j : Fin 640) (k : Fin 4096) : EReal :=
  if k = σ (bcol (fcol 5 j)) then (((16 ^ 5 : ℕ) : ℝ) : EReal) else if k = σ (bcol (fcol 4 j)) then (((16 ^ 4 : ℕ) : ℝ) : EReal)
    else if k = σ (bcol (fcol 3 j)) then (((16 ^ 3 : ℕ) : ℝ) : EReal) else if k = σ (bcol (fcol 2 j)) then (((16 ^ 2 : ℕ) : ℝ) : EReal)
    else if k = σ (bcol (fcol 1 j)) then (((16 ^ 1 : ℕ) : ℝ) : EReal) else if k = σ (bcol (fcol 0 j)) then 1 else 0

theorem word_eq (k a : Fin 4096) : (BitVec.ofNat 32 k.val = BitVec.ofNat 32 a.val) = (k = a) :=
  propext ((ofNat_inj k.isLt a.isLt).trans Fin.ext_iff.symm)

/-- How many outlier columns are column `k`. -/
def hits (k : Fin 4096) : ℕ := ∑ x : Fin 256, if k = σ (ocol x) then (1 : ℕ) else 0

theorem ite_coe (c : Prop) [Decidable c] : (if c then (1 : EReal) else 0) = (((if c then (1 : ℕ) else 0 : ℕ) : ℝ) : EReal) := by
  by_cases h : c
  · rw [if_pos h, if_pos h]; simp
  · rw [if_neg h, if_neg h]; simp

theorem hits_coe (k : Fin 4096) : (∑ x : Fin 256, if k = σ (ocol x) then (1 : EReal) else 0) = ((hits σ k : ℝ) : EReal) := by
  unfold hits
  rw [← coe_sum_nat]
  exact Finset.sum_congr rfl fun x _ => ite_coe _

section Matrices

variable {σ} (pf : Vec Ideal S6x640 .i32) (hpf : ∀ (s : Fin 6) (j : Fin 640), pf (ix2 s j) = BitVec.ofNat 32 (σ (bcol (fcol s j))).val)
variable (po : Vec Ideal S1x256 .i32) (hpo : ∀ o : Fin 256, po (ix2 0 o) = BitVec.ofNat 32 (σ (ocol o)).val)
variable (pc : Vec Ideal S256x1 .i32) (hpc : ∀ o : Fin 256, pc (ix2 o 0) = BitVec.ofNat 32 (σ (ocol o)).val)

include hpf

theorem pc0_apply (k : Fin 4096) (j : Fin 128) : pc0 (View.ld pf) (ix2 k j) = ent σ ⟨0 + j.val, by omega⟩ k := by
  pointwise [pc0, k0_pay5, k0_pay6]
  simp only [sel_eq, hpf, word_eq, c16_1, c16_2, c16_3, c16_4, c16_5]
  simp only [ent, Nat.zero_add]

theorem pc1_apply (k : Fin 4096) (j : Fin 128) : pc1 (View.ld pf) (ix2 k j) = ent σ ⟨128 + j.val, by omega⟩ k := by
  pointwise [pc1, k0_pay7, k0_pay8, colIota]
  simp only [sel_eq, hpf, word_eq, c16_1, c16_2, c16_3, c16_4, c16_5]
  simp only [ent, Nat.zero_add]

theorem pc2_apply (k : Fin 4096) (j : Fin 128) : pc2 (View.ld pf) (ix2 k j) = ent σ ⟨256 + j.val, by omega⟩ k := by
  pointwise [pc2, k0_pay9, k0_pay10, k0_pay11, colIota]
  simp only [sel_eq, hpf, word_eq, c16_1, c16_2, c16_3, c16_4, c16_5]
  simp only [ent, Nat.zero_add]

theorem pc3_apply (k : Fin 4096) (j : Fin 128) : pc3 (View.ld pf) (ix2 k j) = ent σ ⟨384 + j.val, by omega⟩ k := by
  pointwise [pc3, k0_pay12, k0_pay13, colIota]
  simp only [sel_eq, hpf, word_eq, c16_1, c16_2, c16_3, c16_4, c16_5]
  simp only [ent, Nat.zero_add]

theorem pc4_apply (k : Fin 4096) (j : Fin 128) : pc4 (View.ld pf) (ix2 k j) = ent σ ⟨512 + j.val, by omega⟩ k := by
  pointwise [pc4, k0_pay14, k0_pay15, colIota]
  simp only [sel_eq, hpf, word_eq, c16_1, c16_2, c16_3, c16_4, c16_5]
  simp only [ent, Nat.zero_add]

omit hpf
include hpo
theorem pc5_apply (k : Fin 4096) (j : Fin 128) : pc5 (View.ld po) (ix2 k j) = if j.val = 0 then 1 - ((hits σ k : ℝ) : EReal) else 0 := by
  pointwise [pc5, k0_pay18, k0_pay19, k0_pay20, colIota]
  simp only [sel_eq, hpo, word_eq]
  have hj : (BitVec.ofNat 32 j.val = 0#32) = (j.val = 0) :=
    propext ((ofNat_inj (b := 0) (by omega) (by omega)))
  have hs : (∑ x : Fin 256, if k = σ (ocol x) then (1 : EReal) else 0) = _ := Fin.sum_univ_add (a := 128) (b := 128) _
  rw [← hits_coe, hs]
  simp only [hj]
  rfl

theorem po17 (a : Fin 4096) (b : Fin 128) : k0_pay17 colIota (View.ld po (Rect.unit (s := S1x256) ![0, 128] S1x128.size inb_S1x256_S1x128_0_128)) (ix2 a b) = if a = σ (ocol ⟨128 + b.val, by omega⟩) then 1 else 0 := by
  pointwise [k0_pay17, colIota]
  simp only [sel_eq, hpo, word_eq]
theorem po16 (a : Fin 4096) (b : Fin 128) : k0_pay16 colIota (View.ld po (Rect.unit (s := S1x256) ![0, 0] S1x128.size inb_S1x256_S1x128_0_0)) (ix2 a b) = if a = σ (ocol ⟨b.val, by omega⟩) then 1 else 0 := by
  pointwise [k0_pay16, colIota]
  simp only [sel_eq, hpo, word_eq]
omit hpo
theorem po_emb (off : ℕ) (inb : ∀ a : Fin 2, (![0, off] : Fin 2 → ℕ) a + S4096x128.size a ≤ S4096x256.size a) (a : Fin 4096) (b : Fin 128) :
    (Rect.unit (s := S4096x256) ![0, off] S4096x128.size inb).emb (ix2 a b) = ix2 a ⟨off + b.val, by have := inb 1; simp at this; omega⟩ := by
  funext d
  match d with
  | 0 => exact Fin.ext (by show 0 + 1 * a.val = a.val; omega)
  | 1 => exact Fin.ext (by show off + 1 * b.val = off + b.val; omega)

/-- The selection matrix, as a function of its index. -/
def poE (σ : Equiv.Perm (Fin 4096)) (k : Fin 4096) (o : Fin 256) : EReal := if k = σ (ocol o) then (1 : EReal) else 0
def poG (σ : Equiv.Perm (Fin 4096)) (y : S4096x256.Idx) : EReal := poE σ (y 0) (y 1)

include hpo
theorem po_apply (k : Fin 4096) (o : Fin 256) : poV po (ix2 k o) = if k = σ (ocol o) then 1 else 0 := by
  show View.canon (poL (View.ld po)) (ix2 k o) = poG σ (ix2 k o)
  refine View.canon_apply_of_pieces (Val := Elt Ideal) (poG σ) _ ?_ (ix2 k o) (po_covers _ _)
  intro q hq
  unfold poL at hq
  rcases List.mem_cons.mp hq with rfl | hq
  · intro x
    obtain ⟨a, b, rfl⟩ : ∃ (a : Fin 4096) (b : Fin 128), x = ix2 a b := ⟨x 0, x 1, eq_ix2 _⟩
    refine (po17 po hpo a b).trans ?_
    show _ = poG σ ((Rect.unit (s := S4096x256) ![0, 128] S4096x128.size inb_S4096x256_S4096x128_0_128).emb (ix2 a b))
    rw [po_emb 128 _ a b]
    rfl
  rcases List.mem_cons.mp hq with rfl | hq
  · intro x
    obtain ⟨a, b, rfl⟩ : ∃ (a : Fin 4096) (b : Fin 128), x = ix2 a b := ⟨x 0, x 1, eq_ix2 _⟩
    refine (po16 po hpo a b).trans ?_
    show _ = poG σ ((Rect.unit (s := S4096x256) ![0, 0] S4096x128.size inb_S4096x256_S4096x128_0_0).emb (ix2 a b))
    rw [po_emb 0 _ a b, show (⟨0 + b.val, by omega⟩ : Fin 256) = ⟨b.val, by omega⟩ from Fin.ext (Nat.zero_add _)]
    rfl
  · simp at hq

omit hpo
include hpc
theorem pad_apply (k : Fin 4096) : padV pc (ix2 0 k) = if 0 < hits σ k then ⊤ else ⊥ := by
  pointwise [padV, k0_pay21, k0_pay22, k0_pay23]
  simp only [sel_eq, hpc, word_eq, top_f32, bot_f32, hits_coe]
  by_cases h : 0 < hits σ k
  · rw [if_pos h, if_pos]; exact_mod_cast h
  · rw [if_neg h, if_neg]; intro h'; exact h (by exact_mod_cast h')

theorem pad_ocol (o : Fin 256) : padV pc (ix2 0 (σ (ocol o))) = ⊤ := by
  rw [pad_apply pc hpc, if_pos]; unfold hits; rw [hits_ocol]; exact Nat.one_pos
theorem pad_bcol (p : Fin 3840) : padV pc (ix2 0 (σ (bcol p))) = ⊥ := by
  rw [pad_apply pc hpc, if_neg]; unfold hits; rw [hits_bcol]; exact Nat.lt_irrefl 0
omit hpc

theorem pc_emb (off : ℕ) (inb : ∀ a : Fin 2, (![0, off] : Fin 2 → ℕ) a + S4096x128.size a ≤ S4096x768.size a) (a : Fin 4096) (b : Fin 128) :
    (Rect.unit (s := S4096x768) ![0, off] S4096x128.size inb).emb (ix2 a b) = ix2 a ⟨off + b.val, by have := inb 1; simp at this; omega⟩ := by
  funext d
  match d with
  | 0 => exact Fin.ext (by show 0 + 1 * a.val = a.val; omega)
  | 1 => exact Fin.ext (by show off + 1 * b.val = off + b.val; omega)

/-- The gather matrix, as a function of its index. -/
def pcG (σ : Equiv.Perm (Fin 4096)) (y : S4096x768.Idx) : EReal :=
  if h : (y 1).val < 640 then ent σ ⟨(y 1).val, h⟩ (y 0) else if (y 1).val = 640 then 1 - ((hits σ (y 0) : ℝ) : EReal) else 0

include hpf hpo
theorem pcV_apply (y : S4096x768.Idx) : pcV pf po y = pcG σ y := by
  refine View.canon_apply_of_pieces (Val := Elt Ideal) (pcG σ) _ ?_ y (pc_covers _ _ _)
  intro q hq
  unfold pcL at hq
  rcases List.mem_cons.mp hq with rfl | hq
  · intro x
    obtain ⟨a, b, rfl⟩ : ∃ (a : Fin 4096) (b : Fin 128), x = ix2 a b := ⟨x 0, x 1, eq_ix2 _⟩
    show pc5 (View.ld po) (ix2 a b) = _
    rw [pc5_apply po hpo, pc_emb 640 _ a b]
    unfold pcG
    rw [dif_neg (by show ¬ 640 + b.val < 640; omega)]
    by_cases hb : b.val = 0
    · rw [if_pos hb, if_pos (by show 640 + b.val = 640; omega)]; rfl
    · rw [if_neg hb, if_neg (by show ¬ 640 + b.val = 640; omega)]
  rcases List.mem_cons.mp hq with rfl | hq
  · intro x
    obtain ⟨a, b, rfl⟩ : ∃ (a : Fin 4096) (b : Fin 128), x = ix2 a b := ⟨x 0, x 1, eq_ix2 _⟩
    show pc4 (View.ld pf) (ix2 a b) = _
    rw [pc4_apply pf hpf, pc_emb 512 _ a b]
    unfold pcG
    rw [dif_pos (by show 512 + b.val < 640; omega)]
    rfl
  rcases List.mem_cons.mp hq with rfl | hq
  · intro x
    obtain ⟨a, b, rfl⟩ : ∃ (a : Fin 4096) (b : Fin 128), x = ix2 a b := ⟨x 0, x 1, eq_ix2 _⟩
    show pc3 (View.ld pf) (ix2 a b) = _
    rw [pc3_apply pf hpf, pc_emb 384 _ a b]
    unfold pcG
    rw [dif_pos (by show 384 + b.val < 640; omega)]
    rfl
  rcases List.mem_cons.mp hq with rfl | hq
  · intro x
    obtain ⟨a, b, rfl⟩ : ∃ (a : Fin 4096) (b : Fin 128), x = ix2 a b := ⟨x 0, x 1, eq_ix2 _⟩
    show pc2 (View.ld pf) (ix2 a b) = _
    rw [pc2_apply pf hpf, pc_emb 256 _ a b]
    unfold pcG
    rw [dif_pos (by show 256 + b.val < 640; omega)]
    rfl
  rcases List.mem_cons.mp hq with rfl | hq
  · intro x
    obtain ⟨a, b, rfl⟩ : ∃ (a : Fin 4096) (b : Fin 128), x = ix2 a b := ⟨x 0, x 1, eq_ix2 _⟩
    show pc1 (View.ld pf) (ix2 a b) = _
    rw [pc1_apply pf hpf, pc_emb 128 _ a b]
    unfold pcG
    rw [dif_pos (by show 128 + b.val < 640; omega)]
    rfl
  rcases List.mem_cons.mp hq with rfl | hq
  · intro x
    obtain ⟨a, b, rfl⟩ : ∃ (a : Fin 4096) (b : Fin 128), x = ix2 a b := ⟨x 0, x 1, eq_ix2 _⟩
    show pc0 (View.ld pf) (ix2 a b) = _
    rw [pc0_apply pf hpf, pc_emb 0 _ a b]
    unfold pcG
    rw [dif_pos (by show 0 + b.val < 640; omega)]
    rfl
  · simp at hq
end Matrices

end Cert.Proof.QVal

end
-- ==== Proof.QuantRows.lean ====
/- The four results of one row tile at an index, in the terms of the model. -/
module

public import proofs.«01_k».proof.Proof.QuantVal

@[expose] public section

set_option maxRecDepth 16384

noncomputable section

namespace Cert.Proof.QVal

open Cert.KernelIdeal Cert.KernelIdeal.Gen Cert.Proof.Quant Cert.Proof.Model
open Idealize.ShloMosaic
open scoped BigOperators

theorem pcG_lt (σ : Equiv.Perm (Fin 4096)) (k : Fin 4096) (j : Fin 640) : pcG σ (ix2 k ⟨j.val, by omega⟩) = ent σ j k :=
  dif_pos j.isLt
theorem pcG_640 (σ : Equiv.Perm (Fin 4096)) (k : Fin 4096) : pcG σ (ix2 k ⟨640, by omega⟩) = 1 - ((hits σ k : ℝ) : EReal) :=
  (dif_neg (Nat.lt_irrefl 640)).trans (if_pos rfl)

section Rows

variable {σ : Equiv.Perm (Fin 4096)} (x : Vec Ideal S256x4096 .bf16) (pad : FVec Ideal S1x4096 .f32) (pc : Vec Ideal S4096x768 .bf16) (po : Vec Ideal S4096x256 .bf16)
variable (hp1 : ∀ o, pad (ix2 0 (σ (ocol o))) = (⊤ : EReal)) (hp0 : ∀ p, pad (ix2 0 (σ (bcol p))) = (⊥ : EReal))
variable (hpc : ∀ y, pc y = pcG σ y) (hpo : ∀ (k : Fin 4096) (o : Fin 256), po (ix2 k o) = if k = σ (ocol o) then (1 : EReal) else 0)

include hp1 hp0
theorem mn_apply (r : Fin 256) : k0_pay26 x pad (ix2 r 0) = mnOf σ (fun k => x (ix2 r k)) := by
  pointwise [k0_pay26, k0_pay25, k0_pay24]
  rw [top_bf16]
  exact fold_min_mask σ (fun k => x (ix2 r k)) (fun k => pad (ix2 0 k)) hp1 hp0

theorem sc_apply (r : Fin 256) : k0_pay27 x pad (ix2 r 0) = rowSc σ (fun k => x (ix2 r k)) := by
  pointwise [k0_pay27, k0_pay25, k0_pay24]
  rw [bot_bf16, mn_apply x pad hp1 hp0]
  have := fold_max_mask σ (fun k => x (ix2 r k)) (fun k => pad (ix2 0 k)) hp1 hp0
  rw [this]
  rfl

/-- The packed sums: the codes against the gather matrix. -/
theorem v_apply (r : Fin 256) (j : Fin 768) : k0_pay28 x pad pc (ix2 r j) = ∑ k, ((rowCode σ (fun k => x (ix2 r k)) k : ℝ) : EReal) * pc (ix2 k j) := by
  pointwise [k0_pay28, k0_pay24]
  rw [mn_apply x pad hp1 hp0, sc_apply x pad hp1 hp0]
  refine Finset.sum_congr rfl fun k _ => ?_
  rw [rowCode, ← codeE_eq]
  rfl

include hpc
theorem v_packed (r : Fin 256) (j : Fin 640) : k0_pay28 x pad pc (ix2 r ⟨j.val, by omega⟩)
    = (((∑ s : Fin 6, rowCode σ (fun k => x (ix2 r k)) (σ (bcol (fcol s j))) * 16 ^ s.val : ℕ) : ℝ) : EReal) := by
  rw [v_apply x pad pc hp1 hp0, ← packed_sum σ]
  refine Finset.sum_congr rfl fun k _ => ?_
  rw [hpc, pcG_lt]
  rfl

theorem v_rowsum (r : Fin 256) : k0_pay28 x pad pc (ix2 r ⟨640, by omega⟩)
    = (((∑ p, rowCode σ (fun k => x (ix2 r k)) (σ (bcol p)) : ℕ) : ℝ) : EReal) := by
  rw [v_apply x pad pc hp1 hp0, ← rowsum_mask σ]
  refine Finset.sum_congr rfl fun k _ => ?_
  rw [hpc, pcG_640]
  rfl
omit hp1 hp0 hpc

/-! ### The codes' block -/

theorem q_emb (off : ℕ) (inb : ∀ a : Fin 2, (![0, off] : Fin 2 → ℕ) a + S256x640.size a ≤ S256x3840.size a) (a : Fin 256) (b : Fin 640) :
    (Rect.unit (s := S256x3840) ![0, off] S256x640.size inb).emb (ix2 a b) = ix2 a ⟨off + b.val, by have := inb 1; simp at this; omega⟩ := by
  funext d
  match d with
  | 0 => exact Fin.ext (by show 0 + 1 * a.val = a.val; omega)
  | 1 => exact Fin.ext (by show off + 1 * b.val = off + b.val; omega)

/-- One field of one packed sum. -/
theorem field_apply (d : Fin 6 → ℕ) (hd : ∀ s, d s ≤ 15) (z : EReal) (hz : z = (((∑ s : Fin 6, d s * 16 ^ s.val : ℕ) : ℝ) : EReal)) (s : Fin 6) :
    (IntOp.andi (IntOp.shrsi ArithUnit.vector (Ideal.fptosi 32 (Ideal.liftRound Ideal.roundHalfEven z)) (BitVec.ofNat 32 (4 * s.val))) 15#32).setWidth 8 = BitVec.ofNat 8 (d s) := by
  have hl := packed_lt d hd
  rw [hz, round_nat, fptosi_nat _ (by omega), shr_and _ _ _ (by omega) (by omega), packed_digit d hd]
  have := hd s
  apply BitVec.eq_of_toNat_eq
  simp only [BitVec.toNat_setWidth, BitVec.toNat_ofNat]
  omega

theorem field0 (v : FVec Ideal S256x768 .f32) (a : Fin 256) (b : Fin 640) : k0_pay31 v (ix2 a b)
    = (IntOp.andi (IntOp.shrsi ArithUnit.vector (Ideal.fptosi 32 (Ideal.liftRound Ideal.roundHalfEven (v (ix2 a ⟨b.val, by omega⟩)))) (BitVec.ofNat 32 0)) 15#32).setWidth 8 := by
  pointwise [k0_pay31, k0_pay30]
  rfl
theorem field1 (v : FVec Ideal S256x768 .f32) (a : Fin 256) (b : Fin 640) : k0_pay32 v (ix2 a b)
    = (IntOp.andi (IntOp.shrsi ArithUnit.vector (Ideal.fptosi 32 (Ideal.liftRound Ideal.roundHalfEven (v (ix2 a ⟨b.val, by omega⟩)))) (BitVec.ofNat 32 4)) 15#32).setWidth 8 := by
  pointwise [k0_pay32, k0_pay30]
  rfl
theorem field2 (v : FVec Ideal S256x768 .f32) (a : Fin 256) (b : Fin 640) : k0_pay33 v (ix2 a b)
    = (IntOp.andi (IntOp.shrsi ArithUnit.vector (Ideal.fptosi 32 (Ideal.liftRound Ideal.roundHalfEven (v (ix2 a ⟨b.val, by omega⟩)))) (BitVec.ofNat 32 8)) 15#32).setWidth 8 := by
  pointwise [k0_pay33, k0_pay30]
  rfl
theorem field3 (v : FVec Ideal S256x768 .f32) (a : Fin 256) (b : Fin 640) : k0_pay34 v (ix2 a b)
    = (IntOp.andi (IntOp.shrsi ArithUnit.vector (Ideal.fptosi 32 (Ideal.liftRound Ideal.roundHalfEven (v (ix2 a ⟨b.val, by omega⟩)))) (BitVec.ofNat 32 12)) 15#32).setWidth 8 := by
  pointwise [k0_pay34, k0_pay30]
  rfl
theorem field4 (v : FVec Ideal S256x768 .f32) (a : Fin 256) (b : Fin 640) : k0_pay1 (k0_pay35 v) k0_pay36 (ix2 a b)
    = (IntOp.andi (IntOp.shrsi ArithUnit.vector (Ideal.fptosi 32 (Ideal.liftRound Ideal.roundHalfEven (v (ix2 a ⟨b.val, by omega⟩)))) (BitVec.ofNat 32 16)) 15#32).setWidth 8 := by
  pointwise [k0_pay1, k0_pay35, k0_pay36, k0_pay30]
  rfl
theorem field5 (v : FVec Ideal S256x768 .f32) (a : Fin 256) (b : Fin 640) : k0_pay2 (k0_pay30 v) (ix2 a b)
    = (IntOp.andi (IntOp.shrsi ArithUnit.vector (Ideal.fptosi 32 (Ideal.liftRound Ideal.roundHalfEven (v (ix2 a ⟨b.val, by omega⟩)))) (BitVec.ofNat 32 20)) 15#32).setWidth 8 := by
  pointwise [k0_pay2, k0_pay30]
  rfl

include hp1 hp0 hpc
theorem outQ_apply (r : Fin 256) (p : Fin 3840) : outQ x pad pc (ix2 r p) = BitVec.ofNat 8 (rowCode σ (fun k => x (ix2 r k)) (σ (bcol p))) := by
  refine View.canon_apply_of_pieces (Val := Elt Ideal) (fun y : S256x3840.Idx => BitVec.ofNat 8 (rowCode σ (fun k => x (ix2 (y 0) k)) (σ (bcol (y 1))))) _ ?_ (ix2 r p) (q_covers _ _)
  have key : ∀ (s : Fin 6) (inb : ∀ a : Fin 2, (![0, 640 * s.val] : Fin 2 → ℕ) a + S256x640.size a ≤ S256x3840.size a) (a : Fin 256) (b : Fin 640),
      (IntOp.andi (IntOp.shrsi ArithUnit.vector (Ideal.fptosi 32 (Ideal.liftRound Ideal.roundHalfEven (k0_pay28 x pad pc (ix2 a ⟨b.val, by omega⟩)))) (BitVec.ofNat 32 (4 * s.val))) 15#32).setWidth 8
      = BitVec.ofNat 8 (rowCode σ (fun k => x (ix2 ((Rect.unit (s := S256x3840) ![0, 640 * s.val] S256x640.size inb).emb (ix2 a b) 0) k)) (σ (bcol ((Rect.unit (s := S256x3840) ![0, 640 * s.val] S256x640.size inb).emb (ix2 a b) 1)))) := fun s inb a b => by
    rw [q_emb _ inb a b]
    have hfc : (⟨640 * s.val + b.val, by omega⟩ : Fin 3840) = fcol s b := Fin.ext (by show 640 * s.val + b.val = s.val * 640 + b.val; omega)
    show _ = BitVec.ofNat 8 (rowCode σ (fun k => x (ix2 a k)) (σ (bcol ⟨640 * s.val + b.val, by omega⟩)))
    rw [hfc]
    exact field_apply (fun s => rowCode σ (fun k => x (ix2 a k)) (σ (bcol (fcol s b)))) (fun s => code_le _ _ _) _ (v_packed x pad pc hp1 hp0 hpc a b) s
  intro q hq
  unfold qL at hq
  rcases List.mem_cons.mp hq with rfl | hq
  · intro y
    obtain ⟨a, b, rfl⟩ : ∃ (a : Fin 256) (b : Fin 640), y = ix2 a b := ⟨y 0, y 1, eq_ix2 _⟩
    exact (field5 (k0_pay28 x pad pc) a b).trans (key 5 inb_S256x3840_S256x640_0_3200 a b)
  rcases List.mem_cons.mp hq with rfl | hq
  · intro y
    obtain ⟨a, b, rfl⟩ : ∃ (a : Fin 256) (b : Fin 640), y = ix2 a b := ⟨y 0, y 1, eq_ix2 _⟩
    exact (field4 (k0_pay28 x pad pc) a b).trans (key 4 inb_S256x3840_S256x640_0_2560 a b)
  rcases List.mem_cons.mp hq with rfl | hq
  · intro y
    obtain ⟨a, b, rfl⟩ : ∃ (a : Fin 256) (b : Fin 640), y = ix2 a b := ⟨y 0, y 1, eq_ix2 _⟩
    exact (field3 (k0_pay28 x pad pc) a b).trans (key 3 inb_S256x3840_S256x640_0_1920 a b)
  rcases List.mem_cons.mp hq with rfl | hq
  · intro y
    obtain ⟨a, b, rfl⟩ : ∃ (a : Fin 256) (b : Fin 640), y = ix2 a b := ⟨y 0, y 1, eq_ix2 _⟩
    exact (field2 (k0_pay28 x pad pc) a b).trans (key 2 inb_S256x3840_S256x640_0_1280 a b)
  rcases List.mem_cons.mp hq with rfl | hq
  · intro y
    obtain ⟨a, b, rfl⟩ : ∃ (a : Fin 256) (b : Fin 640), y = ix2 a b := ⟨y 0, y 1, eq_ix2 _⟩
    exact (field1 (k0_pay28 x pad pc) a b).trans (key 1 inb_S256x3840_S256x640_0_640 a b)
  rcases List.mem_cons.mp hq with rfl | hq
  · intro y
    obtain ⟨a, b, rfl⟩ : ∃ (a : Fin 256) (b : Fin 640), y = ix2 a b := ⟨y 0, y 1, eq_ix2 _⟩
    exact (field0 (k0_pay28 x pad pc) a b).trans (key 0 inb_S256x3840_S256x640_0_0 a b)
  · simp at hq
omit hp1 hp0 hpc

/-! ### The two statistics' blocks -/

theorem stat0 (a b : FVec Ideal S256x1 .f32) (v : FVec Ideal S256x768 .f32) (r : Fin 256) : k0_pay3 a b v (ix2 r 0) = b (ix2 r 0) := by
  pointwise [k0_pay3]
  try rw [sel_eq, if_pos rfl]
theorem stat1 (a b : FVec Ideal S256x1 .f32) (v : FVec Ideal S256x768 .f32) (r : Fin 256) : k0_pay3 a b v (ix2 r 1) = a (ix2 r 0) := by
  pointwise [k0_pay3]
  rw [sel_eq, if_neg (by decide)]
theorem stat2 (a b : FVec Ideal S256x1 .f32) (v : FVec Ideal S256x768 .f32) (r : Fin 256) : k0_pay3 a b v (ix2 r 2) = v (ix2 r ⟨640, by omega⟩) := by
  pointwise [k0_pay3]
  rw [sel_eq, if_neg (by decide), sel_eq, if_neg (by decide)]
theorem statT (a b : FVec Ideal S256x1 .f32) (v : FVec Ideal S256x768 .f32) (r : Fin 256) (i : Fin 8) : k0_pay4 a b v (ix2 i r) = k0_pay3 a b v (ix2 r ⟨i.val, by omega⟩) := by
  unfold k0_pay4
  generalize k0_pay3 a b v = y
  pointwise []

include hp1 hp0
theorem outS_sc (r : Fin 256) : outS x pad pc (ix2 r 0) = rowSc σ (fun k => x (ix2 r k)) :=
  (stat0 _ _ _ r).trans (sc_apply x pad hp1 hp0 r)
theorem outS_mn (r : Fin 256) : outS x pad pc (ix2 r 1) = mnOf σ (fun k => x (ix2 r k)) :=
  (stat1 _ _ _ r).trans (mn_apply x pad hp1 hp0 r)
theorem outT_sc (r : Fin 256) : outT x pad pc (ix2 0 r) = rowSc σ (fun k => x (ix2 r k)) :=
  (statT _ _ _ r 0).trans ((stat0 _ _ _ r).trans (sc_apply x pad hp1 hp0 r))
theorem outT_mn (r : Fin 256) : outT x pad pc (ix2 1 r) = mnOf σ (fun k => x (ix2 r k)) :=
  (statT _ _ _ r 1).trans ((stat1 _ _ _ r).trans (mn_apply x pad hp1 hp0 r))
include hpc
theorem outS_sum (r : Fin 256) : outS x pad pc (ix2 r 2) = (((∑ p, rowCode σ (fun k => x (ix2 r k)) (σ (bcol p)) : ℕ) : ℝ) : EReal) :=
  (stat2 _ _ _ r).trans (v_rowsum x pad pc hp1 hp0 hpc r)
omit hp1 hp0 hpc

include hpo
theorem outX_apply (r : Fin 256) (o : Fin 256) : outX x po (ix2 r o) = x (ix2 r (σ (ocol o))) := by
  pointwise [outX, k0_pay29, k0_pay24]
  simp only [hpo]
  exact pick_ocol (fun k => x (ix2 r k)) (σ (ocol o))

end Rows

end Cert.Proof.QVal

end
-- ==== Proof.QuantArr.lean ====
/- The quantising call's four result arrays, element by element, in the terms of the model. -/
module

public import proofs.«01_k».proof.Proof.QuantRegion
public import proofs.«01_k».proof.Proof.QuantRows
public import Idealize.ShloMosaic.Lib.Pipeline.ValueKit.Geometry

@[expose] public section

set_option maxRecDepth 16384

noncomputable section

namespace Cert.Proof.QArr

open Cert.KernelIdeal Cert.KernelIdeal.Gen Cert.Proof.Quant Cert.Proof.Model Cert.Proof.QVal
open Idealize.ShloMosaic Idealize.ShloMosaic.TcCoe
open scoped BigOperators

variable (W : Dev nD → Valuation τ sig (Elt Ideal)) (c : Dev nD) (σ : Equiv.Perm (Fin 4096)) (X : Fin 16384 → Fin 4096 → EReal)

/-- What the call's operands hold: the permutation's three parts and the rows. -/
structure Entry : Prop where
  pf : ∀ (s : Fin 6) (j : Fin 640), (W c main_v2 : Vec Ideal S6x640 .i32) (ix2 s j) = BitVec.ofNat 32 (σ (bcol (fcol s j))).val
  po : ∀ o : Fin 256, (W c main_v4 : Vec Ideal S1x256 .i32) (ix2 0 o) = BitVec.ofNat 32 (σ (ocol o)).val
  pc : ∀ o : Fin 256, (W c main_v6 : Vec Ideal S256x1 .i32) (ix2 o 0) = BitVec.ofNat 32 (σ (ocol o)).val
  x : ∀ (r : Fin 16384) (k : Fin 4096), (W c main_v0 : Vec Ideal S16384x4096 .bf16) (ix2 r k) = X r k

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, t.val] := (by decide +kernel : ∀ t : Fin grid0.N, _)

/-- Row `r` of tile `t`. -/
def grow (t : Fin cfg0.N) (r : Fin 256) : Fin 16384 := ⟨t.val * 256 + r.val, by have := t.isLt; have h : cfg0.N = 64 := N_0; omega⟩

variable {W c σ X} (h : Entry W c σ X)
include h

theorem b0 (s : Fin 6) (j : Fin 640) : (iblk W c 0 p0 : Vec Ideal S6x640 .i32) (ix2 s j) = BitVec.ofNat 32 (σ (bcol (fcol s j))).val := by
  rw [← h.pf]
  blk_simp [iblk]
  congr 1
  blk_ext [e0]
theorem b1 (o : Fin 256) : (iblk W c 1 p0 : Vec Ideal S1x256 .i32) (ix2 0 o) = BitVec.ofNat 32 (σ (ocol o)).val := by
  rw [← h.po]
  blk_simp [iblk]
  congr 1
  blk_ext [e1]
theorem b2 (o : Fin 256) : (iblk W c 2 p0 : Vec Ideal S256x1 .i32) (ix2 o 0) = BitVec.ofNat 32 (σ (ocol o)).val := by
  rw [← h.pc]
  blk_simp [iblk]
  congr 1
  blk_ext [e2]
theorem b3 (t : Fin cfg0.N) (r : Fin 256) (k : Fin 4096) : (iblk W c 3 t : Vec Ideal S256x4096 .bf16) (ix2 r k) = X (grow t r) k := by
  rw [← h.x]
  blk_simp [iblk]
  congr 1
  blk_ext [e3, grow]

theorem hp1 (o : Fin 256) : padS W c (ix2 0 (σ (ocol o))) = (⊤ : EReal) := pad_ocol _ (b2 h) o
theorem hp0 (p : Fin 3840) : padS W c (ix2 0 (σ (bcol p))) = (⊥ : EReal) := pad_bcol _ (b2 h) p
theorem hpc (y) : pcS W c y = pcG σ y := pcV_apply _ (b0 h) _ (b1 h) y
theorem hpo (k : Fin 4096) (o : Fin 256) : poS W c (ix2 k o) = if k = σ (ocol o) then (1 : EReal) else 0 := po_apply _ (b1 h) k o

omit h in
theorem emb4 (t : Fin cfg0.N) (r : Fin 256) (x : Fin 3840) : (win0_4.blk t).view.emb (ix2 r x) = (ix2 (grow t r) x : S16384x3840.Idx) := by
  blk_ext [e4, grow]
omit h in
theorem emb5 (t : Fin cfg0.N) (r : Fin 256) (x : Fin 256) : (win0_5.blk t).view.emb (ix2 r x) = (ix2 (grow t r) x : S16384x256.Idx) := by
  blk_ext [e5, grow]
omit h in
theorem emb6 (t : Fin cfg0.N) (r : Fin 256) (x : Fin 128) : (win0_6.blk t).view.emb (ix2 r x) = (ix2 (grow t r) x : S16384x128.Idx) := by
  blk_ext [e6, grow]
omit h in
theorem emb7 (t : Fin cfg0.N) (x : Fin 8) (r : Fin 256) : (win0_7.blk t).view.emb (ix2 x r) = (ix2 x (grow t r) : S8x16384.Idx) := by
  blk_ext [e7, grow]

theorem rowX (t : Fin cfg0.N) (r : Fin 256) : (fun k => (iblk W c 3 t : Vec Ideal S256x4096 .bf16) (ix2 r k)) = X (grow t r) := funext fun k => b3 h t r k

/-- The codes. -/
theorem final_q : (dats W c).arrAt 4 cfg0.N = fun y : S16384x3840.Idx => BitVec.ofNat 8 (rowCode σ (X (y 0)) (σ (bcol (y 1)))) := by
  refine (dats W c).arrAt_eq_of_covers 4 _ (by decide +kernel) fun t hf y => ?_
  blk_simp
  rw [after_4]
  obtain ⟨r, x, rfl⟩ : ∃ (r : Fin 256) (x : Fin 3840), y = ix2 r x := ⟨y 0, y 1, eq_ix2 _⟩
  refine ((outQ_apply (iblk W c 3 t) (padS W c) (pcS W c) (hp1 h) (hp0 h) (hpc h) r x).trans ?_).trans
    (congrArg (fun y : S16384x3840.Idx => BitVec.ofNat 8 (rowCode σ (X (y 0)) (σ (bcol (y 1))))) (emb4 t r x).symm)
  rw [rowX h]
  rfl

/-- The outlier columns. -/
theorem final_xo : (dats W c).arrAt 5 cfg0.N = fun y : S16384x256.Idx => X (y 0) (σ (ocol (y 1))) := by
  refine (dats W c).arrAt_eq_of_covers 5 _ (by decide +kernel) fun t hf y => ?_
  blk_simp
  rw [after_5]
  obtain ⟨r, x, rfl⟩ : ∃ (r : Fin 256) (x : Fin 256), y = ix2 r x := ⟨y 0, y 1, eq_ix2 _⟩
  refine ((outX_apply (iblk W c 3 t) (poS W c) (hpo h) r x).trans (b3 h t r _)).trans
    (congrArg (fun y : S16384x256.Idx => X (y 0) (σ (ocol (y 1)))) (emb5 t r x).symm)

/-- The first three columns of the statistics: scale, minimum and sum of the codes. -/
theorem final_st (r : Fin 16384) :
    ((dats W c).arrAt 6 cfg0.N : Vec Ideal S16384x128 .f32) (ix2 r 0) = rowSc σ (X r)
    ∧ ((dats W c).arrAt 6 cfg0.N : Vec Ideal S16384x128 .f32) (ix2 r 1) = mnOf σ (X r)
    ∧ ((dats W c).arrAt 6 cfg0.N : Vec Ideal S16384x128 .f32) (ix2 r 2) = (((∑ p, rowCode σ (X r) (σ (bcol p)) : ℕ) : ℝ) : EReal) := by
  have key := fun i => (dats W c).arrAt_forall_of_covers 6
    (fun (i : S16384x128.Idx) (v : EReal) => ((i 1).val = 0 → v = rowSc σ (X (i 0))) ∧ ((i 1).val = 1 → v = mnOf σ (X (i 0)))
      ∧ ((i 1).val = 2 → v = (((∑ p, rowCode σ (X (i 0)) (σ (bcol p)) : ℕ) : ℝ) : EReal))) (by decide +kernel) (fun t hf y => by
    blk_simp
    rw [after_6]
    obtain ⟨r, x, rfl⟩ : ∃ (r : Fin 256) (x : Fin 128), y = ix2 r x := ⟨y 0, y 1, eq_ix2 _⟩
    have e : ((win0_6.blk t).view.emb (ix2 r x) : S16384x128.Idx) = ix2 (grow t r) x := emb6 t r x
    rw [e]
    refine ⟨fun hx => ?_, fun hx => ?_, fun hx => ?_⟩
    · have hx' : x = 0 := Fin.ext (by rw [e6] at hx; have h2 : 0 * 128 + x.val = 0 := hx; show x.val = 0; omega)
      subst hx'
      exact (outS_sc (iblk W c 3 t) (padS W c) (pcS W c) (hp1 h) (hp0 h) r).trans (by rw [rowX h]; rfl)
    · have hx' : x = 1 := Fin.ext (by rw [e6] at hx; have h2 : 0 * 128 + x.val = 1 := hx; show x.val = 1; omega)
      subst hx'
      exact (outS_mn (iblk W c 3 t) (padS W c) (pcS W c) (hp1 h) (hp0 h) r).trans (by rw [rowX h]; rfl)
    · have hx' : x = 2 := Fin.ext (by rw [e6] at hx; have h2 : 0 * 128 + x.val = 2 := hx; show x.val = 2; omega)
      subst hx'
      exact (outS_sum (iblk W c 3 t) (padS W c) (pcS W c) (hp1 h) (hp0 h) (hpc h) r).trans (by rw [rowX h]; rfl)) i
  exact ⟨(key (ix2 r 0)).1 rfl, (key (ix2 r 1)).2.1 rfl, (key (ix2 r 2)).2.2 rfl⟩

/-- The first two rows of the transposed statistics. -/
theorem final_stt (r : Fin 16384) :
    ((dats W c).arrAt 7 cfg0.N : Vec Ideal S8x16384 .f32) (ix2 0 r) = rowSc σ (X r)
    ∧ ((dats W c).arrAt 7 cfg0.N : Vec Ideal S8x16384 .f32) (ix2 1 r) = mnOf σ (X r) := by
  have key := fun i => (dats W c).arrAt_forall_of_covers 7
    (fun (i : S8x16384.Idx) (v : EReal) => ((i 0).val = 0 → v = rowSc σ (X (i 1))) ∧ ((i 0).val = 1 → v = mnOf σ (X (i 1)))) (by decide +kernel) (fun t hf y => by
    blk_simp
    rw [after_7]
    obtain ⟨x, r, rfl⟩ : ∃ (x : Fin 8) (r : Fin 256), y = ix2 x r := ⟨y 0, y 1, eq_ix2 _⟩
    have e : ((win0_7.blk t).view.emb (ix2 x r) : S8x16384.Idx) = ix2 x (grow t r) := emb7 t x r
    rw [e]
    refine ⟨fun hx => ?_, fun hx => ?_⟩
    · have hx' : x = 0 := Fin.ext (by rw [e7] at hx; have h2 : 0 * 8 + x.val = 0 := hx; show x.val = 0; omega)
      subst hx'
      exact (outT_sc (iblk W c 3 t) (padS W c) (pcS W c) (hp1 h) (hp0 h) r).trans (by rw [rowX h]; rfl)
    · have hx' : x = 1 := Fin.ext (by rw [e7] at hx; have h2 : 0 * 8 + x.val = 1 := hx; show x.val = 1; omega)
      subst hx'
      exact (outT_mn (iblk W c 3 t) (padS W c) (pcS W c) (hp1 h) (hp0 h) r).trans (by rw [rowX h]; rfl)) i
  exact ⟨(key (ix2 0 r)).1 rfl, (key (ix2 1 r)).2 rfl⟩

end Cert.Proof.QArr
-- ==== Proof.ModelMix.lean ====
/- The mathematics of the product, with no program in it: the nibbles of a packed weight, the product of the codes with
   the weights and the result's element, the sums exact because every code and every nibble is a small natural. -/
module

public import proofs.«01_k».proof.Proof.Model
public import Idealize.ShloMosaic.Lib.BitcastPair

@[expose] public section

set_option maxRecDepth 16384

noncomputable section

namespace Cert.Proof.Model

open Idealize.ShloMosaic
open scoped BigOperators

/-- A fold of word additions of zeros and ones counts. -/
theorem fold_count {ι : Type} (s : Finset ι) (f : ι → ℕ) :
    s.fold IntOp.addi (0#32) (fun k => BitVec.ofNat 32 (f k)) = BitVec.ofNat 32 (∑ k ∈ s, f k) := by
  classical
  induction s using Finset.induction_on with
  | empty => rfl
  | insert a s ha ih =>
    rw [Finset.fold_insert ha, Finset.sum_insert ha, ih]
    simp [IntOp.addi, BitVec.ofNat_add]

/-- A small natural's word, converted. -/
theorem sitofp_nat (φ : FTy) (n : ℕ) (h : n < 2 ^ 31) : (FloatOps.sitofp φ (BitVec.ofNat 32 n) : Ideal φ) = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat]
    omega
  rw [this]; norm_num

/-- The low nibble of a packed byte. -/
def lo (b : BitVec 8) : ℕ := b.toNat % 16
/-- The high nibble. -/
def hi (b : BitVec 8) : ℕ := b.toNat / 16

theorem lo_le (b : BitVec 8) : lo b ≤ 15 := by unfold lo; omega
theorem hi_le (b : BitVec 8) : hi b ≤ 15 := by unfold hi; have := b.isLt; omega

theorem and_lo (b : BitVec 8) : IntOp.andi (BitVec.setWidth 32 b) 15#32 = BitVec.ofNat 32 (lo b) := by
  revert b; decide +kernel
theorem shr_hi (u : ArithUnit) (b : BitVec 8) : IntOp.shrsi u (BitVec.setWidth 32 b) 4#32 = BitVec.ofNat 32 (hi b) := by
  cases u <;> (revert b; decide +kernel)
theorem add_nib (b : BitVec 8) : IntOp.addi (BitVec.ofNat 32 (lo b)) (BitVec.ofNat 32 (hi b)) = BitVec.ofNat 32 (lo b + hi b) := by
  simp [IntOp.addi, BitVec.ofNat_add]

/-- The word of a byte's two nibbles, each under the exponent of 128. -/
def nibWord (b : BitVec 8) : BitVec 32 :=
  IntOp.ori (IntOp.andi (IntOp.ori (BitVec.setWidth 32 b) (IntOp.shli ArithUnit.vector (BitVec.setWidth 32 b) 12#32)) 983055#32) 1124090624#32

theorem nibWord_lo (b : BitVec 8) : (nibWord b).extractLsb' 0 16 = BitVec.ofNat 16 (17152 + lo b) := by
  revert b; decide +kernel
theorem nibWord_hi (b : BitVec 8) : (nibWord b).extractLsb' 16 16 = BitVec.ofNat 16 (17152 + hi b) := by
  revert b; decide +kernel

/-- The bits of 128 with a nibble in the last places are 128 plus the nibble. -/
theorem bf16_nib (n : ℕ) (h : n ≤ 15) : Ideal.ofBits .bf16 (BitVec.ofNat 16 (17152 + n)) = (((128 + n : ℕ) : ℝ) : EReal) := by
  interval_cases n <;> (simp [Ideal.ofBits, Ideal.ieee, ← EReal.coe_mul]; try norm_num)

/-- A packed weight less the offset. -/
theorem nib_sub (n : ℕ) (h : n ≤ 15) : Ideal.ofBits .bf16 (BitVec.ofNat 16 (17152 + n)) - Ideal.ofBits .bf16 17160#16 = (((n : ℝ) - 8 : ℝ) : EReal) := by
  rw [bf16_nib n h, c136, ← EReal.coe_sub]
  congr 1; push_cast; ring

/-- Code place `2k`. -/
def evn (k : Fin 1920) : Fin 3840 := ⟨2 * k.val, by omega⟩
/-- Code place `2k + 1`. -/
def odd (k : Fin 1920) : Fin 3840 := ⟨2 * k.val + 1, by omega⟩

/-- A sum over the code places, by pairs. -/
theorem sum_pairs {M : Type} [AddCommMonoid M] (f : Fin 3840 → M) : ∑ x, f x = ∑ k, (f (evn k) + f (odd k)) := by
  have e := (Fintype.sum_equiv (finProdFinEquiv : Fin 1920 × Fin 2 ≃ Fin (1920 * 2)) (fun q => f (finProdFinEquiv q)) f (fun _ => rfl)).symm
  refine e.trans ?_
  rw [Fintype.sum_prod_type]
  refine Finset.sum_congr rfl fun k _ => ?_
  rw [Fin.sum_univ_two]
  congr 2 <;> (apply Fin.ext; simp [evn, odd, finProdFinEquiv]; try omega)

variable (cd : Fin 3840 → ℕ) (w : Fin 1920 → BitVec 8)

/-- The product of the codes with the unpacked weights. -/
def accN : ℕ := ∑ k, cd (evn k) * lo (w k) + ∑ k, cd (odd k) * hi (w k)
/-- The weights' column sum. -/
def csN : ℕ := ∑ k, (lo (w k) + hi (w k))

theorem csN_lt : csN w < 2 ^ 31 := by
  have : csN w ≤ ∑ _k : Fin 1920, 30 := Finset.sum_le_sum fun k _ => by have := lo_le (w k); have := hi_le (w k); omega
  simp at this
  omega

/-- The product with the offset weights, the offset restored by the sum of the codes. -/
theorem acc_offset (wt : Fin 3840 → EReal) (he : ∀ k, wt (evn k) = (((lo (w k) : ℝ) - 8 : ℝ) : EReal)) (ho : ∀ k, wt (odd k) = (((hi (w k) : ℝ) - 8 : ℝ) : EReal)) :
    (∑ x, ((cd x : ℝ) : EReal) * wt x) + ((8 : ℝ) : EReal) * (((∑ x, cd x : ℕ) : ℝ) : EReal) = ((accN cd w : ℝ) : EReal) := by
  rw [sum_pairs, sum_pairs cd]
  simp only [he, ho, ← EReal.coe_mul, ← EReal.coe_add]
  rw [coe_sum, ← EReal.coe_add]
  congr 1
  unfold accN
  push_cast
  rw [Finset.mul_sum, ← Finset.sum_add_distrib, ← Finset.sum_add_distrib]
  exact Finset.sum_congr rfl fun k _ => by ring

/-- One element of the result. -/
def yOf (sc mn : EReal) (xo : Fin 256 → EReal) (ws wz : EReal) (wo : Fin 256 → EReal) : EReal :=
  sc * ws * ((accN cd w : ℝ) : EReal) + mn * (ws * ((csN w : ℝ) : EReal))
    - ws * wz * (sc * (((∑ x, cd x : ℕ) : ℝ) : EReal) + mn * Ideal.ofBits FTy.f32 1164967936#32) + ∑ o, xo o * wo o

end Cert.Proof.Model
-- ==== Proof.MixVal.lean ====
/- The product kernel's result block at an index, in the terms of the model. -/
module

public import proofs.«01_k».proof.Proof.MixRun
public import proofs.«01_k».proof.Proof.ModelMix

@[expose] public section

set_option maxRecDepth 16384

noncomputable section

namespace Cert.Proof.MVal

open Cert.KernelIdeal Cert.KernelIdeal.Gen Cert.Proof.Mix Cert.Proof.Model
open Idealize.ShloMosaic
open scoped BigOperators

/-- The codes converted. -/
theorem codes_apply (q : Vec Ideal S1024x3840 .i8) (r : Fin 1024) (x : Fin 3840) (n : ℕ) (hn : n ≤ 15) (h : q (ix2 r x) = BitVec.ofNat 8 n) :
    k1_pay2 q (ix2 r x) = ((n : ℝ) : EReal) := by
  pointwise [k1_pay2]
  rw [h]
  have e : BitVec.setWidth 32 (BitVec.ofNat 8 n) = BitVec.ofNat 32 n := by
    apply BitVec.eq_of_toNat_eq
    simp only [BitVec.toNat_setWidth, BitVec.toNat_ofNat]
    omega
  rw [e]
  exact sitofp_nat _ n (by omega)

/-- The column sums. -/
theorem colsum_apply (w : Vec Ideal S1920x1024 .i8) (j : Fin 1024) : k1_pay3 (F := Ideal) w (ix3 0 0 j) = ((csN (fun k => w (ix2 k j)) : ℝ) : EReal) := by
  pointwise [k1_pay3]
  simp only [and_lo, shr_hi, add_nib]
  rw [fold_count]
  exact sitofp_nat _ _ (csN_lt _)

/-- The unpacked weights' bits. -/
theorem word_apply (w : Vec Ideal S1920x1024 .i8) (x : Fin 3840) (j : Fin 1024) (k : Fin 1920) (e : x.val / 2 = k.val)  :
    bitcast S3840x1024 16 (ori (andi (ori (extui 32 w natLt_8_32) (shli (extui 32 w natLt_8_32) (broadcast S1920x1024 12#32))) (broadcast S1920x1024 983055#32)) (broadcast S1920x1024 1124090624#32))
      bitcasts_S1920x1024_w32_S3840x1024_w16 (ix2 x j) = (nibWord (w (ix2 k j))).extractLsb' (16 * (x.val % 2)) 16 := by
  rw [bitcast_32_16]
  have hs : ∀ h, (bitcasts_S1920x1024_w32_S3840x1024_w16).srcIdx (ix2 x j) (S3840x1024.row (ix2 x j) / 2) h = (ix2 k j : S1920x1024.Idx) := fun h => by
    funext a
    match a with
    | 0 => exact Fin.ext e
    | 1 => rfl
  rw [hs]
  rfl

theorem wt_evn (w : Vec Ideal S1920x1024 .i8) (k : Fin 1920) (j : Fin 1024) : k1_pay4 (F := Ideal) w (ix2 (evn k) j) = (((lo (w (ix2 k j)) : ℝ) - 8 : ℝ) : EReal) := by
  have h := word_apply w (evn k) j k (by show 2 * k.val / 2 = _; omega)
  rw [show 16 * ((evn k).val % 2) = 0 by show 16 * (2 * k.val % 2) = 0; omega, nibWord_lo] at h
  pointwise [k1_pay4]
  rw [h]
  exact nib_sub _ (lo_le _)
theorem wt_odd (w : Vec Ideal S1920x1024 .i8) (k : Fin 1920) (j : Fin 1024) : k1_pay4 (F := Ideal) w (ix2 (odd k) j) = (((hi (w (ix2 k j)) : ℝ) - 8 : ℝ) : EReal) := by
  have h := word_apply w (odd k) j k (by show (2 * k.val + 1) / 2 = _; omega)
  rw [show 16 * ((odd k).val % 2) = 16 by show 16 * ((2 * k.val + 1) % 2) = 16; omega, nibWord_hi] at h
  pointwise [k1_pay4]
  rw [h]
  exact nib_sub _ (hi_le _)

/-- The block's element. -/
theorem mixY_raw (qb : Vec Ideal S1024x3840 .bf16) (x1 : Vec Ideal S1024x256 .bf16) (x2 : Vec Ideal S1024x128 .f32) (x3 : Vec Ideal S1920x1024 .i8)
    (x4 : Vec Ideal S256x1024 .bf16) (x5 x6 : Vec Ideal S1x1024 .f32) (cs : Vec Ideal S1x1x1024 .f32) (r j : Fin 1024) :
    mixY qb x1 x2 x3 x4 x5 x6 cs (ix2 r j) = x2 (ix2 r 0) * x5 (ix2 0 j) *
            (∑ x, qb (ix2 r x) * k1_pay4 x3 (ix2 x j) + Ideal.ofBits FTy.f32 1090519040#32 * x2 (ix2 r 2)) +
          x2 (ix2 r 1) * (x5 (ix2 0 j) * cs (ix3 0 0 j)) -
        x5 (ix2 0 j) * x6 (ix2 0 j) *
          (x2 (ix2 r 0) * x2 (ix2 r 2) + x2 (ix2 r 1) * Ideal.ofBits FTy.f32 1164967936#32) +
      ∑ x, x1 (ix2 r x) * x4 (ix2 x j) := by
  pointwise [mixY, k1_pay1, k1_pay5, k1_pay6, k1_pay7]

/-- The block's element in the terms of the model. -/
theorem mixY_apply (q : Vec Ideal S1024x3840 .i8) (x1 : Vec Ideal S1024x256 .bf16) (x2 : Vec Ideal S1024x128 .f32) (x3 : Vec Ideal S1920x1024 .i8)
    (x4 : Vec Ideal S256x1024 .bf16) (x5 x6 : Vec Ideal S1x1024 .f32) (r j : Fin 1024) (cd : Fin 3840 → ℕ) (hcd : ∀ x, cd x ≤ 15)
    (hq : ∀ x, q (ix2 r x) = BitVec.ofNat 8 (cd x)) (hs : x2 (ix2 r 2) = (((∑ x, cd x : ℕ) : ℝ) : EReal)) :
    mixY (k1_pay2 q) x1 x2 x3 x4 x5 x6 (k1_pay3 x3) (ix2 r j)
      = yOf cd (fun k => x3 (ix2 k j)) (x2 (ix2 r 0)) (x2 (ix2 r 1)) (fun o => x1 (ix2 r o)) (x5 (ix2 0 j)) (x6 (ix2 0 j)) (fun o => x4 (ix2 o j)) := by
  rw [mixY_raw, colsum_apply, hs, c8]
  simp only [fun x => codes_apply q r x (cd x) (hcd x) (hq x)]
  rw [acc_offset cd (fun k => x3 (ix2 k j)) (fun x => k1_pay4 (F := Ideal) x3 (ix2 x j)) (fun k => wt_evn x3 k j) (fun k => wt_odd x3 k j)]
  rfl

end Cert.Proof.MVal
-- ==== Proof.MixArr.lean ====
/- The product call's result array, element by element, in the terms of the model. -/
module

public import proofs.«01_k».proof.Proof.MixRegion
public import proofs.«01_k».proof.Proof.MixVal
public import Idealize.ShloMosaic.Lib.Pipeline.ValueKit.Geometry

@[expose] public section

set_option maxRecDepth 16384

noncomputable section

namespace Cert.Proof.MArr

open Cert.KernelIdeal Cert.KernelIdeal.Gen Cert.Proof.Mix Cert.Proof.Model Cert.Proof.MVal
open Idealize.ShloMosaic Idealize.ShloMosaic.TcCoe
open scoped BigOperators

variable (W : Dev nD → Valuation τ sig (Elt Ideal)) (c : Dev nD) (cd : Fin 16384 → Fin 3840 → ℕ)

/-- What the call's operands hold of the codes: the codes themselves, and their sums in the third column of statistics. -/
structure Entry : Prop where
  le : ∀ r x, cd r x ≤ 15
  q : ∀ (r : Fin 16384) (x : Fin 3840), (W c main_v7_0 : Vec Ideal S16384x3840 .i8) (ix2 r x) = BitVec.ofNat 8 (cd r x)
  s : ∀ (r : Fin 16384), (W c main_v7_2 : Vec Ideal S16384x128 .f32) (ix2 r 2) = (((∑ x, cd r x : ℕ) : ℝ) : EReal)

theorem e0 : ∀ t : Fin cfg1.N, win1_0.index t = ![t.val / 14, 0] := (by decide +kernel : ∀ t : Fin grid1.N, _)
theorem e1 : ∀ t : Fin cfg1.N, win1_1.index t = ![t.val / 14, 0] := (by decide +kernel : ∀ t : Fin grid1.N, _)
theorem e2 : ∀ t : Fin cfg1.N, win1_2.index t = ![t.val / 14, 0] := (by decide +kernel : ∀ t : Fin grid1.N, _)
theorem e3 : ∀ t : Fin cfg1.N, win1_3.index t = ![0, t.val % 14] := (by decide +kernel : ∀ t : Fin grid1.N, _)
theorem e4 : ∀ t : Fin cfg1.N, win1_4.index t = ![0, t.val % 14] := (by decide +kernel : ∀ t : Fin grid1.N, _)
theorem e5 : ∀ t : Fin cfg1.N, win1_5.index t = ![0, t.val % 14] := (by decide +kernel : ∀ t : Fin grid1.N, _)
theorem e6 : ∀ t : Fin cfg1.N, win1_6.index t = ![0, t.val % 14] := (by decide +kernel : ∀ t : Fin grid1.N, _)
theorem e7 : ∀ t : Fin cfg1.N, win1_7.index t = ![t.val / 14, t.val % 14] := (by decide +kernel : ∀ t : Fin grid1.N, _)

/-- Row `r` of the tile of rows at point `t`. -/
def grow (t : Fin cfg1.N) (r : Fin 1024) : Fin 16384 := ⟨t.val / 14 * 1024 + r.val, by have := t.isLt; have h : cfg1.N = 224 := N_1; omega⟩
/-- Column `j` of the tile of columns at point `t`. -/
def gcol (t : Fin cfg1.N) (j : Fin 1024) : Fin 14336 := ⟨t.val % 14 * 1024 + j.val, by omega⟩

/-- The result's element at row `r`, column `j`. -/
def yG (r : Fin 16384) (j : Fin 14336) : EReal :=
  yOf (cd r) (fun k => (W c main_arg2 : Vec Ideal S1920x14336 .i8) (ix2 k j))
    ((W c main_v7_2 : Vec Ideal S16384x128 .f32) (ix2 r 0)) ((W c main_v7_2 : Vec Ideal S16384x128 .f32) (ix2 r 1))
    (fun o => (W c main_v7_1 : Vec Ideal S16384x256 .bf16) (ix2 r o))
    ((W c main_v8 : Vec Ideal S1x14336 .f32) (ix2 0 j)) ((W c main_v9 : Vec Ideal S1x14336 .f32) (ix2 0 j))
    (fun o => (W c main_arg5 : Vec Ideal S256x14336 .bf16) (ix2 o j))

theorem b0 (t : Fin cfg1.N) (r : Fin 1024) (x : Fin 3840) : (iblk W c 0 t : Vec Ideal S1024x3840 .i8) (ix2 r x) = (W c main_v7_0 : Vec Ideal S16384x3840 .i8) (ix2 (grow t r) x) := by
  blk_simp [iblk]
  congr 1
  blk_ext [e0, grow]
theorem b1 (t : Fin cfg1.N) (r : Fin 1024) (x : Fin 256) : (iblk W c 1 t : Vec Ideal S1024x256 .bf16) (ix2 r x) = (W c main_v7_1 : Vec Ideal S16384x256 .bf16) (ix2 (grow t r) x) := by
  blk_simp [iblk]
  congr 1
  blk_ext [e1, grow]
theorem b2 (t : Fin cfg1.N) (r : Fin 1024) (x : Fin 128) : (iblk W c 2 t : Vec Ideal S1024x128 .f32) (ix2 r x) = (W c main_v7_2 : Vec Ideal S16384x128 .f32) (ix2 (grow t r) x) := by
  blk_simp [iblk]
  congr 1
  blk_ext [e2, grow]
theorem b3 (t : Fin cfg1.N) (k : Fin 1920) (j : Fin 1024) : (iblk W c 3 t : Vec Ideal S1920x1024 .i8) (ix2 k j) = (W c main_arg2 : Vec Ideal S1920x14336 .i8) (ix2 k (gcol t j)) := by
  blk_simp [iblk]
  congr 1
  blk_ext [e3, gcol]
theorem b4 (t : Fin cfg1.N) (k : Fin 256) (j : Fin 1024) : (iblk W c 4 t : Vec Ideal S256x1024 .bf16) (ix2 k j) = (W c main_arg5 : Vec Ideal S256x14336 .bf16) (ix2 k (gcol t j)) := by
  blk_simp [iblk]
  congr 1
  blk_ext [e4, gcol]
theorem b5 (t : Fin cfg1.N) (j : Fin 1024) : (iblk W c 5 t : Vec Ideal S1x1024 .f32) (ix2 0 j) = (W c main_v8 : Vec Ideal S1x14336 .f32) (ix2 0 (gcol t j)) := by
  blk_simp [iblk]
  congr 1
  blk_ext [e5, gcol]
theorem b6 (t : Fin cfg1.N) (j : Fin 1024) : (iblk W c 6 t : Vec Ideal S1x1024 .f32) (ix2 0 j) = (W c main_v9 : Vec Ideal S1x14336 .f32) (ix2 0 (gcol t j)) := by
  blk_simp [iblk]
  congr 1
  blk_ext [e6, gcol]

variable {W c cd} (h : Entry W c cd)
include h

theorem block_y (t : Fin cfg1.N) (r j : Fin 1024) : outY W c t (ix2 r j) = yG W c cd (grow t r) (gcol t j) := by
  refine (mixY_apply (iblk W c 0 t) (iblk W c 1 t) (iblk W c 2 t) (iblk W c 3 t) (iblk W c 4 t) (iblk W c 5 t) (iblk W c 6 t) r j
    (cd (grow t r)) (h.le _) (fun x => (b0 W c t r x).trans (h.q _ x)) ((b2 W c t r 2).trans (h.s _))).trans ?_
  rw [b2, b2, b5, b6]
  simp only [b3, b1, b4]
  rfl

omit h in
theorem covers_y : (cfg1.win 7).Covers := by decide +kernel

omit h in
theorem emb_y (t : Fin cfg1.N) (r j : Fin 1024) : (win1_7.blk t).view.emb (ix2 r j) = (ix2 (grow t r) (gcol t j) : S16384x14336.Idx) := by
  blk_ext [e7, grow, gcol]

omit h in
/-- The result array from its blocks. -/
theorem final_of (G : Fin 16384 → Fin 14336 → EReal) (hG : ∀ t r j, outY W c t (ix2 r j) = G (grow t r) (gcol t j)) :
    (dats W c).arrAt 7 cfg1.N = fun y : S16384x14336.Idx => G (y 0) (y 1) := by
  refine (dats W c).arrAt_eq_of_covers 7 _ covers_y fun t hf y => ?_
  blk_simp
  rw [after_7]
  obtain ⟨r, j, rfl⟩ : ∃ (r j : Fin 1024), y = ix2 r j := ⟨y 0, y 1, eq_ix2 _⟩
  exact (hG t r j).trans (congrArg (fun y : S16384x14336.Idx => G (y 0) (y 1)) (emb_y t r j).symm)

/-- The result. -/
theorem final_y : (dats W c).arrAt 7 cfg1.N = fun y : S16384x14336.Idx => yG W c cd (y 0) (y 1) :=
  final_of (yG W c cd) (block_y h)

end Cert.Proof.MArr
-- ==== Proof.KernelVal.lean ====
/- The kernel's results in plain terms: with `σ` the permutation the second argument holds, and `X r` row `r` of the first
   argument (rows numbered through both leading axes), each result of the kernel read at an index. -/
module

public import proofs.«01_k».proof.Proof.HostVal
public import proofs.«01_k».proof.Proof.QuantArr
public import proofs.«01_k».proof.Proof.MixArr

@[expose] public section
set_option maxRecDepth 16384
noncomputable section
namespace Cert.Proof.KVal
open Cert.KernelIdeal Cert.KernelIdeal.Gen Cert.Proof.Model Cert.Proof.Host Cert.Proof.Run
open Idealize.ShloMosaic Idealize.ShloMosaic.TcCoe

variable (m : (ℓ : Loc nD τ sig) → Buf (Elt Ideal) ℓ) (c : Dev nD) {σ : Equiv.Perm (Fin 4096)}

/-- Row `r` of the first argument. -/
def X (r : Fin 16384) (k : Fin 4096) : EReal := a0 m c (ix3 (rb r) (rs r) k)

/-- The code at row `r`, base column `p`. -/
def cd (σ : Equiv.Perm (Fin 4096)) (r : Fin 16384) (p : Fin 3840) : ℕ := rowCode σ (X m c r) (σ (bcol p))

section
variable (hσ : ∀ j, a1 m c (ix1 j) = BitVec.ofNat 32 (σ j).val)
include hσ

/-- The first call finds the permutation and the rows. -/
theorem entry0 : QArr.Entry (V1 m) c σ (X m c) where
  pf := fun s j => (v2 m c s j).trans (hσ _)
  po := fun o => (v4 m c o).trans (hσ _)
  pc := fun o => (v6 m c o).trans (hσ _)
  x := fun r k => v0 m c r k

/-- The second call finds the codes and their sums. -/
theorem entry1 : MArr.Entry (V3 m (outs0 m)) c (cd m c σ) where
  le := fun r x => code_le _ _ _
  q := fun r x => (congrFun ((w70 m c).trans (QArr.final_q (entry0 m c hσ))) (ix2 r x)).trans rfl
  s := fun r => (congrFun (w72 m c) (ix2 r 2)).trans (QArr.final_st (entry0 m c hσ) r).2.2

theorem q_at (b : Fin 8) (s : Fin 2048) (j : Fin 3840) :
    (V5 m (outs m) c main_v18 : Vec Ideal S8x2048x3840 .i8) (ix3 b s j) = BitVec.ofNat 8 (cd m c σ (row b s) j) :=
  (r18 m c b s j).trans (congrFun (QArr.final_q (entry0 m c hσ)) _)
theorem sc_at (b : Fin 8) (s : Fin 2048) :
    (V5 m (outs m) c main_v13 : Vec Ideal S8x2048 .f32) (ix2 b s) = rowSc σ (X m c (row b s)) :=
  (r13 m c b s).trans (QArr.final_stt (entry0 m c hσ) _).1
theorem mn_at (b : Fin 8) (s : Fin 2048) :
    (V5 m (outs m) c main_v16 : Vec Ideal S8x2048 .f32) (ix2 b s) = mnOf σ (X m c (row b s)) :=
  (r16 m c b s).trans (QArr.final_stt (entry0 m c hσ) _).2
theorem y_at (b : Fin 8) (s : Fin 2048) (j : Fin 14336) :
    (V5 m (outs m) c main_v17 : Vec Ideal S8x2048x14336 .bf16) (ix3 b s j)
      = yOf (cd m c σ (row b s)) (fun k => a2 m c (ix2 k j)) (rowSc σ (X m c (row b s))) (mnOf σ (X m c (row b s)))
          (fun o => X m c (row b s) (σ (ocol o))) (a3 m c (ix1 j)) (a4 m c (ix1 j)) (fun o => a5 m c (ix2 o j)) := by
  have h0 := (congrFun (w72 m c) (ix2 (row b s) 0)).trans (QArr.final_st (entry0 m c hσ) (row b s)).1
  have h1 := (congrFun (w72 m c) (ix2 (row b s) 1)).trans (QArr.final_st (entry0 m c hσ) (row b s)).2.1
  have hx : ∀ o, (V3 m (outs0 m) c main_v7_1 : Vec Ideal S16384x256 .bf16) (ix2 (row b s) o) = X m c (row b s) (σ (ocol o)) :=
    fun o => congrFun ((w71 m c).trans (QArr.final_xo (entry0 m c hσ))) (ix2 (row b s) o)
  refine (r17 m c b s j).trans ((congrFun (MArr.final_y (entry1 m c hσ)) (ix2 (row b s) j)).trans ?_)
  show MArr.yG _ _ _ (row b s) j = _
  unfold MArr.yG
  rw [h0, h1, w8 m c j, w9 m c j, warg2 m c, warg5 m c]
  simp only [hx]
end

/-- The row of `(b, s)` is the first argument's. -/
theorem X_row (b : Fin 8) (s : Fin 2048) (k : Fin 4096) : X m c (row b s) k = a0 m c (ix3 b s k) := by
  unfold X
  rw [rb_row, rs_row]

end Cert.Proof.KVal
end
-- ==== Proof.RefRun.lean ====
/- The run of the idealized reference, and its values at an index. -/
module

public import proofs.«01_k».proof.Defs
public import proofs.«01_k».proof.Proof.Gen.ReferenceIdeal
public import proofs.«01_k».proof.Proof.Gen.Pre_is_permutation
public import proofs.«01_k».proof.Proof.Gen.ReferenceIdeal.Run
public import proofs.«01_k».proof.Proof.Gen.ReferenceIdeal.Read

@[expose] public section
noncomputable section
namespace Cert.Proof.Ref
open Idealize.ShloMosaic Idealize.SL.Sem
end Cert.Proof.Ref
end
-- ==== Proof.RefVal.lean ====
/- The reference's values at an index, when its second argument lists a permutation `σ`. The reference keeps the base codes
   with the even places first, then the odd ones: place `p` of that order is place `ev p` of the kernel's. -/
module

public import proofs.«01_k».proof.Proof.RefRun
public import proofs.«01_k».proof.Proof.ModelMix
public import Idealize.ShloMosaic.Lib.Pointwise

@[expose] public section
set_option maxRecDepth 16384
noncomputable section
namespace Cert.Proof.RVal
open Cert.ReferenceIdeal Cert.ReferenceIdeal.Gen Cert.ReferenceIdeal.Read Cert.Proof.Model
open Idealize.ShloMosaic

/-- The place in the kernel's order of place `p` in the reference's. -/
def ev (p : Fin 3840) : Fin 3840 := ⟨if p.val < 1920 then 2 * p.val else 1 + 2 * (p.val - 1920), by split <;> omega⟩

theorem ev_inj : Function.Injective ev := by
  intro p q h
  have := congrArg Fin.val h
  simp only [ev] at this
  split at this <;> split at this <;> exact Fin.ext (by omega)
theorem ev_surj : Function.Surjective ev := Finite.injective_iff_surjective.mp ev_inj
theorem sum_ev {M : Type} [AddCommMonoid M] (f : Fin 3840 → M) : ∑ p, f (ev p) = ∑ p, f p :=
  Fintype.sum_bijective ev ⟨ev_inj, ev_surj⟩ _ _ (fun _ => rfl)

/-! ## Taking columns -/

/-- The gather of whole columns by a list of `P` column numbers. -/
abbrev colDims (P : ℕ) (wf : GatherDims.WF ⟨3, ![8, 2048, 4096]⟩ ⟨2, ![P, 1]⟩ ⟨3, ![8, 2048, P]⟩ [0, 1] [2] [] [2] [] 1 ![8, 2048, 1]) :
    GatherDims ⟨3, ![8, 2048, 4096]⟩ ⟨2, ![P, 1]⟩ ⟨3, ![8, 2048, P]⟩ where
  offsetDims := [0, 1]
  collapsedSliceDims := [2]
  operandBatchingDims := []
  startIndicesBatchingDims := []
  startIndexMap := [2]
  indexVectorDim := 1
  sliceSizes := ![8, 2048, 1]
  wf := wf

/-- Taking columns: place `p` of the result is the column the list names there, when it is one. -/
theorem gather_col {α : Type} {P : ℕ} (wf) (x : (⟨3, ![8, 2048, 4096]⟩ : Shape).Idx → α) (idx : IVec ⟨2, ![P, 1]⟩ 32)
    (b : Fin 8) (s : Fin 2048) (p : Fin P) (k : Fin 4096) (hk : (idx (ix2 p 0)).toInt = k.val) :
    Host.gather (colDims P wf) x idx (ix3 b s p) = x (ix3 b s k) := by
  unfold Host.gather
  congr 1
  funext a
  refine Fin.ext ?_
  show (colDims P wf).start (ix3 b s p) idx a + (colDims P wf).batchCoord (ix3 b s p) a + (colDims P wf).offCoord (ix3 b s p) a = _
  rw [GatherDims.batchCoord_eq_zero _ _ _ List.not_mem_nil, Nat.add_zero]
  match a with
  | ⟨0, _⟩ =>
    show (colDims P wf).start (ix3 b s p) idx (0 : Fin 3) + (colDims P wf).offCoord (ix3 b s p) (0 : Fin 3) = _
    have n : (0 : Fin 3) ∉ (colDims P wf).startIndexMap := show (0 : Fin 3) ∉ ([2] : List (Fin 3)) by decide
    unfold GatherDims.start
    rw [dif_neg n, Nat.zero_add]
    unfold GatherDims.offCoord
    rw [dif_pos ((GatherDims.mem_sKept _ _).mpr ⟨show (0 : Fin 3) ∉ ([2] : List (Fin 3)) by decide, List.not_mem_nil⟩)]
    rfl
  | ⟨1, _⟩ =>
    show (colDims P wf).start (ix3 b s p) idx (1 : Fin 3) + (colDims P wf).offCoord (ix3 b s p) (1 : Fin 3) = _
    have n : (1 : Fin 3) ∉ (colDims P wf).startIndexMap := show (1 : Fin 3) ∉ ([2] : List (Fin 3)) by decide
    unfold GatherDims.start
    rw [dif_neg n, Nat.zero_add]
    unfold GatherDims.offCoord
    rw [dif_pos ((GatherDims.mem_sKept _ _).mpr ⟨show (1 : Fin 3) ∉ ([2] : List (Fin 3)) by decide, List.not_mem_nil⟩)]
    rfl
  | ⟨2, _⟩ =>
    rw [GatherDims.offCoord_eq_zero _ _ _ (fun h => ((GatherDims.mem_sKept _ _).mp h).1 (List.mem_singleton.mpr rfl)), Nat.add_zero]
    show (colDims P wf).start (ix3 b s p) idx (2 : Fin 3) = _
    unfold GatherDims.start
    rw [dif_pos (show (2 : Fin 3) ∈ (colDims P wf).startIndexMap from List.mem_singleton.mpr rfl)]
    have hsi : (colDims P wf).siIdx (ix3 b s p) ⟨List.idxOf (2 : Fin 3) (colDims P wf).startIndexMap,
        List.idxOf_lt_length_iff.2 (List.mem_singleton.mpr rfl)⟩ = ix2 p 0 := by
      funext q; refine Fin.ext ?_
      match q with
      | ⟨0, _⟩ => rfl
      | ⟨1, _⟩ => rfl
    have e : (idx ((colDims P wf).siIdx (ix3 b s p) ⟨List.idxOf (2 : Fin 3) (colDims P wf).startIndexMap,
        List.idxOf_lt_length_iff.2 (List.mem_singleton.mpr rfl)⟩)).toInt.toNat = k.val := by
      rw [hsi, hk]; rfl
    show min _ (4096 - 1) = k.val
    refine (congrArg (fun n => min n (4096 - 1)) e).trans ?_
    have := k.isLt
    show min k.val (4096 - 1) = k.val
    omega

theorem toInt_nat (k : ℕ) (h : k < 4096) : (BitVec.ofNat 32 k).toInt = (k : ℤ) := by
  rw [BitVec.toInt_eq_toNat_of_lt (by rw [BitVec.toNat_ofNat]; omega), BitVec.toNat_ofNat]
  omega

/-- A column number is not negative, so it is not wrapped. -/
theorem wrap_nat (k : ℕ) (h : k < 4096) :
    Scalar.select (IntOp.cmpi .slt (BitVec.ofNat 32 k) 0#32) (IntOp.addi (BitVec.ofNat 32 k) 4096#32) (BitVec.ofNat 32 k) = BitVec.ofNat 32 k := by
  have e : (BitVec.ofNat 32 k).slt 0#32 = false := by
    rw [BitVec.slt, toInt_nat k h]
    simp
  have e' : IntOp.cmpi .slt (BitVec.ofNat 32 k) 0#32 = 0#1 := by
    simp [IntOp.cmpi, e]
  rw [e']; rfl

variable {x0 : (⟨S8x2048x4096, .bf16⟩ : BufTy).Contents (Elt Ideal)} {x1 : (⟨S4096, .i32⟩ : BufTy).Contents (Elt Ideal)}
  {σ : Equiv.Perm (Fin 4096)}

section
variable (hσ : ∀ j, x1 (ix1 j) = BitVec.ofNat 32 (σ j).val)
include hσ

theorem at_v2 (p : Fin 3840) : val_main_v2 (F := Ideal) x1 (ix1 p) = BitVec.ofNat 32 (σ (bcol (ev p))).val := by
  rw [← hσ]
  pointwise [val_main_v2, val_main_v1, val_main_v0]
  split
  · rename_i h
    refine congrArg x1 (congrArg ix1 (Fin.ext ?_))
    simp only [bcol, ev]
    rw [if_pos (by simpa using h)]
  · rename_i h
    refine congrArg x1 (congrArg ix1 (Fin.ext ?_))
    simp only [bcol, ev]
    rw [if_neg (by simpa using h)]

theorem at_v8 (p : Fin 3840) : val_main_v8 (F := Ideal) x1 (ix2 p 0) = BitVec.ofNat 32 (σ (bcol (ev p))).val := by
  have e : idx_main_v8 (ix2 p 0) = ix1 p := by
    funext a
    match a with
    | ⟨0, _⟩ => rfl
  rw [val_main_v8_apply, e, val_main_v7_apply, val_main_v4_apply, val_main_v6_apply, val_main_v3_apply, val_main_v5_apply,
    val_main_c_apply, val_main_c_0_apply, at_v2 hσ]
  exact wrap_nat _ (σ _).isLt

theorem at_v16 (o : Fin 256) : val_main_v16 (F := Ideal) x1 (ix2 o 0) = BitVec.ofNat 32 (σ (ocol o)).val := by
  have e : idx_main_v16 (ix2 o 0) = ix1 o := by
    funext a
    match a with
    | ⟨0, _⟩ => rfl
  have e' : idx_main_v10 (ix1 o) = ix1 (ocol o) := by
    funext a
    match a with
    | ⟨0, _⟩ => rfl
  rw [val_main_v16_apply, e, val_main_v15_apply, val_main_v12_apply, val_main_v14_apply, val_main_v11_apply, val_main_v13_apply,
    val_main_c_1_apply, val_main_c_2_apply, val_main_v10_apply, e', hσ]
  exact wrap_nat _ (σ _).isLt

/-- The base columns. -/
theorem at_v9 (b : Fin 8) (s : Fin 2048) (p : Fin 3840) :
    val_main_v9 (F := Ideal) x0 x1 (ix3 b s p) = x0 (ix3 b s (σ (bcol (ev p)))) := by
  unfold val_main_v9
  exact gather_col _ x0 _ b s p _ (by rw [at_v8 hσ]; exact toInt_nat _ (σ _).isLt)
/-- The outlier columns. -/
theorem at_v17 (b : Fin 8) (s : Fin 2048) (o : Fin 256) :
    val_main_v17 (F := Ideal) x0 x1 (ix3 b s o) = x0 (ix3 b s (σ (ocol o))) := by
  unfold val_main_v17
  exact gather_col _ x0 _ b s o _ (by rw [at_v16 hσ]; exact toInt_nat _ (σ _).isLt)

/-! ## The statistics -/

/-- The rows' minimum. -/
theorem at_v19 (b : Fin 8) (s : Fin 2048) :
    val_main_v19 (F := Ideal) x0 x1 (ix2 b s) = mnOf σ (fun k => x0 (ix3 b s k)) := by
  have h : ∀ x, val_main_v18 (F := Ideal) x0 x1 (ix3 b s x) = x0 (ix3 b s (σ (bcol (ev x)))) := fun x =>
    (val_main_v18_apply x0 x1 _).trans (at_v9 hσ b s x)
  rw [← fold_min_reindex σ (fun k => x0 (ix3 b s k)) ev ev_surj, ← top_f32]
  unfold val_main_v19
  revert h
  generalize val_main_v18 (F := Ideal) x0 x1 = y
  intro h
  simp only [← h]
  pointwise [val_main_cst]
/-- The rows' maximum. -/
theorem at_v20 (b : Fin 8) (s : Fin 2048) :
    val_main_v20 (F := Ideal) x0 x1 (ix2 b s) = mxOf σ (fun k => x0 (ix3 b s k)) := by
  have h : ∀ x, val_main_v18 (F := Ideal) x0 x1 (ix3 b s x) = x0 (ix3 b s (σ (bcol (ev x)))) := fun x =>
    (val_main_v18_apply x0 x1 _).trans (at_v9 hσ b s x)
  rw [← fold_max_reindex σ (fun k => x0 (ix3 b s k)) ev ev_surj, ← bot_f32]
  unfold val_main_v20
  revert h
  generalize val_main_v18 (F := Ideal) x0 x1 = y
  intro h
  simp only [← h]
  pointwise [val_main_cst_3]
end

/-! ## The codes -/

/-- The scale is the model's, of the minimum and the maximum. -/
theorem raw_v25 (b : Fin 8) (s : Fin 2048) : val_main_v25 (F := Ideal) x0 x1 (ix2 b s)
    = scOf (val_main_v19 (F := Ideal) x0 x1 (ix2 b s)) (val_main_v20 (F := Ideal) x0 x1 (ix2 b s)) := by
  rw [val_main_v25_apply, val_main_v22_apply, val_main_call0_v0_apply, val_main_cst_5_apply, val_main_v24_apply, val_main_v21_apply,
    val_main_v23_apply, val_main_cst_4_apply]
  generalize val_main_v20 (F := Ideal) x0 x1 (ix2 b s) = mx
  generalize val_main_v19 (F := Ideal) x0 x1 (ix2 b s) = mn
  pointwise []
  rfl

/-- The clipped quotient is the model's. -/
theorem raw_v33 (b : Fin 8) (s : Fin 2048) (p : Fin 3840) : val_main_v33 (F := Ideal) x0 x1 (ix3 b s p)
    = codeE (val_main_v19 (F := Ideal) x0 x1 (ix2 b s)) (val_main_v25 (F := Ideal) x0 x1 (ix2 b s)) (val_main_v9 (F := Ideal) x0 x1 (ix3 b s p)) := by
  have e1 : idx_main_v26 (idx_main_v27 (ix3 b s p)) = ix2 b s := by
    funext a
    match a with
    | ⟨0, _⟩ => rfl
    | ⟨1, _⟩ => rfl
  have e2 : idx_main_v29 (idx_main_v30 (ix3 b s p)) = ix2 b s := by
    funext a
    match a with
    | ⟨0, _⟩ => rfl
    | ⟨1, _⟩ => rfl
  rw [val_main_v33_apply, val_main_call2_v4_apply, val_main_call2_v3_apply, val_main_c_7_apply, val_main_call2_v2_apply,
    val_main_call2_v1_apply, val_main_call2_v0_apply, val_main_c_6_apply, val_main_v32_apply, val_main_v31_apply,
    val_main_v28_apply, val_main_v18_apply, val_main_v27_apply, val_main_v26_apply, val_main_v30_apply, val_main_v29_apply, e1, e2]
  generalize val_main_v25 (F := Ideal) x0 x1 (ix2 b s) = sc
  generalize val_main_v19 (F := Ideal) x0 x1 (ix2 b s) = mn
  generalize val_main_v9 (F := Ideal) x0 x1 (ix3 b s p) = v
  rfl

/-- The code of row `(b, s)` at the kernel's place `p`. -/
def rcd (x0 : (⟨S8x2048x4096, .bf16⟩ : BufTy).Contents (Elt Ideal)) (σ : Equiv.Perm (Fin 4096)) (b : Fin 8) (s : Fin 2048) (p : Fin 3840) : ℕ :=
  rowCode σ (fun k => x0 (ix3 b s k)) (σ (bcol p))

theorem rcd_le (b : Fin 8) (s : Fin 2048) (p : Fin 3840) : rcd x0 σ b s p ≤ 15 := code_le _ _ _

theorem widen (n : ℕ) (h : n ≤ 15) : (BitVec.ofNat 8 n).setWidth 32 = BitVec.ofNat 32 n := by
  interval_cases n <;> rfl

section
variable (hσ : ∀ j, x1 (ix1 j) = BitVec.ofNat 32 (σ j).val)
include hσ

theorem at_v25 (b : Fin 8) (s : Fin 2048) :
    val_main_v25 (F := Ideal) x0 x1 (ix2 b s) = rowSc σ (fun k => x0 (ix3 b s k)) := by
  rw [raw_v25, at_v19 hσ, at_v20 hσ]; rfl

theorem at_v35 (b : Fin 8) (s : Fin 2048) (p : Fin 3840) :
    val_main_v35 (F := Ideal) x0 x1 (ix3 b s p) = BitVec.ofNat 8 (rcd x0 σ b s (ev p)) := by
  rw [val_main_v35_apply, val_main_v34_apply, raw_v33, at_v19 hσ, at_v25 hσ, at_v9 hσ, codeE_eq]
  show BitVec.setWidth 8 (Ideal.fptosi 32 ((rcd x0 σ b s (ev p) : ℝ) : EReal)) = _
  have h := rcd_le (x0 := x0) (σ := σ) b s (ev p)
  rw [fptosi_nat _ (by omega), BitVec.setWidth_ofNat_of_le (by decide)]

/-- The codes, back in the kernel's order. -/
theorem at_v41 (b : Fin 8) (s : Fin 2048) (p : Fin 3840) :
    val_main_v41 (F := Ideal) x0 x1 (ix3 b s p) = BitVec.ofNat 8 (rcd x0 σ b s p) := by
  have h := at_v35 (x0 := x0) hσ b s
  unfold val_main_v41 val_main_v40 val_main_v39 val_main_v38 val_main_v37 val_main_v36
  revert h
  generalize val_main_v35 (F := Ideal) x0 x1 = y
  intro h
  pointwise []
  split
  · rw [h]
    refine congrArg (fun q => BitVec.ofNat 8 (rcd x0 σ b s q)) (Fin.ext ?_)
    simp only [ev]
    split <;> omega
  · rw [h]
    refine congrArg (fun q => BitVec.ofNat 8 (rcd x0 σ b s q)) (Fin.ext ?_)
    simp only [ev]
    split <;> omega

/-- The sum of a row's codes. -/
theorem at_v66 (b : Fin 8) (s : Fin 2048) :
    (val_main_v66 (F := Ideal) x0 x1 (ix2 b s) : EReal) = (((∑ p, rcd x0 σ b s p : ℕ) : ℝ) : EReal) := by
  have h : ∀ p, val_main_v64 (F := Ideal) x0 x1 (ix3 b s p) = BitVec.ofNat 32 (rcd x0 σ b s (ev p)) := fun p => by
    rw [val_main_v64_apply, at_v35 hσ, widen _ (rcd_le _ _ _)]
  have e : val_main_v65 (F := Ideal) x0 x1 (ix2 b s) = BitVec.ofNat 32 (∑ p, rcd x0 σ b s p) := by
    rw [← sum_ev (rcd x0 σ b s), ← fold_count]
    unfold val_main_v65
    revert h
    generalize val_main_v64 (F := Ideal) x0 x1 = y
    intro h
    simp only [← h]
    pointwise [val_main_c_12]
  have hl : ∑ p, rcd x0 σ b s p ≤ ∑ _p : Fin 3840, 15 := Finset.sum_le_sum fun p _ => rcd_le b s p
  simp only [Finset.sum_const, Finset.card_univ, Fintype.card_fin, smul_eq_mul] at hl
  rw [val_main_v66_apply, e]
  exact sitofp_nat _ _ (by omega)
end

/-! ## The weights -/

section
variable (x2 : (⟨S1920x14336, .i8⟩ : BufTy).Contents (Elt Ideal))

theorem at_v44 (k : Fin 1920) (j : Fin 14336) : val_main_v44 (F := Ideal) x2 (ix2 k j) = BitVec.ofNat 32 (lo (x2 (ix2 k j))) := by
  rw [val_main_v44_apply, val_main_v42_apply, val_main_v43_apply, val_main_c_8_apply, and_lo]
theorem at_v46 (k : Fin 1920) (j : Fin 14336) : val_main_v46 (F := Ideal) x2 (ix2 k j) = BitVec.ofNat 32 (hi (x2 (ix2 k j))) := by
  rw [val_main_v46_apply, val_main_v42_apply, val_main_v45_apply, val_main_c_9_apply, shr_hi]

/-- The weights' column sum. -/
theorem at_v63 (j : Fin 14336) : (val_main_v63 (F := Ideal) x2 (ix1 j) : EReal) = (((csN fun k => x2 (ix2 k j) : ℕ) : ℝ) : EReal) := by
  have e0 : val_main_v60 (F := Ideal) x2 (ix1 j) = BitVec.ofNat 32 (∑ k, lo (x2 (ix2 k j))) := by
    have h := at_v44 x2
    rw [← fold_count]
    unfold val_main_v60
    simp only [← h]
    generalize val_main_v44 (F := Ideal) x2 = y
    pointwise [val_main_c_10]
  have e1 : val_main_v61 (F := Ideal) x2 (ix1 j) = BitVec.ofNat 32 (∑ k, hi (x2 (ix2 k j))) := by
    have h := at_v46 x2
    rw [← fold_count]
    unfold val_main_v61
    simp only [← h]
    generalize val_main_v46 (F := Ideal) x2 = y
    pointwise [val_main_c_11]
  have e : val_main_v62 (F := Ideal) x2 (ix1 j) = BitVec.ofNat 32 (csN fun k => x2 (ix2 k j)) := by
    rw [val_main_v62_apply, e0, e1]
    unfold csN
    rw [Finset.sum_add_distrib]
    exact (BitVec.ofNat_add _ _).symm
  rw [val_main_v63_apply, e]
  exact sitofp_nat _ _ (csN_lt _)

theorem at_v51 (k : Fin 1920) (j : Fin 14336) : (val_main_v51 (F := Ideal) x2 (ix2 k j) : EReal) = (((lo (x2 (ix2 k j)) : ℕ) : ℝ) : EReal) := by
  have := lo_le (x2 (ix2 k j))
  rw [val_main_v51_apply, val_main_v50_apply, at_v44]
  exact sitofp_nat .f32 _ (by omega)
theorem at_v57 (k : Fin 1920) (j : Fin 14336) : (val_main_v57 (F := Ideal) x2 (ix2 k j) : EReal) = (((hi (x2 (ix2 k j)) : ℕ) : ℝ) : EReal) := by
  have := hi_le (x2 (ix2 k j))
  rw [val_main_v57_apply, val_main_v56_apply, at_v46]
  exact sitofp_nat .f32 _ (by omega)
end

/-! ## The product -/

section
variable (hσ : ∀ j, x1 (ix1 j) = BitVec.ofNat 32 (σ j).val)
include hσ

theorem at_v49 (b : Fin 8) (s : Fin 2048) (k : Fin 1920) :
    (val_main_v49 (F := Ideal) x0 x1 (ix3 b s k) : EReal) = ((rcd x0 σ b s (evn k) : ℝ) : EReal) := by
  have i : ev ⟨k.val, by omega⟩ = evn k := Fin.ext (by simp only [ev, evn]; rw [if_pos k.isLt])
  have e : idx_main_v36 (ix3 b s k) = ix3 b s ⟨k.val, by omega⟩ := by
    funext a
    match a with
    | ⟨0, _⟩ => rfl
    | ⟨1, _⟩ => rfl
    | ⟨2, _⟩ => rfl
  have h := rcd_le (x0 := x0) (σ := σ) b s (evn k)
  rw [val_main_v49_apply, val_main_v48_apply, val_main_v47_apply, val_main_v36_apply, e, at_v35 hσ, i, widen _ h]
  exact sitofp_nat .f32 _ (by omega)
theorem at_v55 (b : Fin 8) (s : Fin 2048) (k : Fin 1920) :
    (val_main_v55 (F := Ideal) x0 x1 (ix3 b s k) : EReal) = ((rcd x0 σ b s (odd k) : ℝ) : EReal) := by
  have i : ev ⟨1920 + k.val, by omega⟩ = odd k := Fin.ext (by simp only [ev, odd]; rw [if_neg (by omega)]; omega)
  have e : idx_main_v37 (ix3 b s k) = ix3 b s ⟨1920 + k.val, by omega⟩ := by
    funext a
    match a with
    | ⟨0, _⟩ => rfl
    | ⟨1, _⟩ => rfl
    | ⟨2, _⟩ => rfl
  have h := rcd_le (x0 := x0) (σ := σ) b s (odd k)
  rw [val_main_v55_apply, val_main_v54_apply, val_main_v53_apply, val_main_v37_apply, e, at_v35 hσ, i, widen _ h]
  exact sitofp_nat .f32 _ (by omega)

/-- The product of the codes with the packed weights. -/
theorem at_v59 (x2 : (⟨S1920x14336, .i8⟩ : BufTy).Contents (Elt Ideal)) (b : Fin 8) (s : Fin 2048) (j : Fin 14336) :
    (val_main_v59 (F := Ideal) x0 x1 x2 (ix3 b s j) : EReal) = ((accN (rcd x0 σ b s) (fun k => x2 (ix2 k j)) : ℝ) : EReal) := by
  have l0 : ∀ k, lidx_main_v52 (ix3 b s j) k = ix3 b s k := fun k => by
    funext a
    match a with
    | ⟨0, _⟩ => rfl
    | ⟨1, _⟩ => rfl
    | ⟨2, _⟩ => rfl
  have r0 : ∀ k, ridx_main_v52 (ix3 b s j) k = ix2 k j := fun k => by
    funext a
    match a with
    | ⟨0, _⟩ => rfl
    | ⟨1, _⟩ => rfl
  have l1 : ∀ k, lidx_main_v58 (ix3 b s j) k = ix3 b s k := fun k => by
    funext a
    match a with
    | ⟨0, _⟩ => rfl
    | ⟨1, _⟩ => rfl
    | ⟨2, _⟩ => rfl
  have r1 : ∀ k, ridx_main_v58 (ix3 b s j) k = ix2 k j := fun k => by
    funext a
    match a with
    | ⟨0, _⟩ => rfl
    | ⟨1, _⟩ => rfl
  rw [val_main_v59_apply, val_main_v52_apply, val_main_v58_apply]
  show (∑ k, _ : EReal) + (∑ k, _ : EReal) = _
  have t0 : (∑ k : Fin 1920, (val_main_v49 (F := Ideal) x0 x1 (lidx_main_v52 (ix3 b s j) k) * val_main_v51 (F := Ideal) x2 (ridx_main_v52 (ix3 b s j) k) : EReal))
      = (((∑ k, rcd x0 σ b s (evn k) * lo (x2 (ix2 k j)) : ℕ) : ℝ) : EReal) := by
    rw [Nat.cast_sum, ← coe_sum]
    refine Finset.sum_congr rfl fun k _ => ?_
    rw [l0, r0, at_v49 hσ, at_v51, ← EReal.coe_mul, Nat.cast_mul]
  have t1 : (∑ k : Fin 1920, (val_main_v55 (F := Ideal) x0 x1 (lidx_main_v58 (ix3 b s j) k) * val_main_v57 (F := Ideal) x2 (ridx_main_v58 (ix3 b s j) k) : EReal))
      = (((∑ k, rcd x0 σ b s (odd k) * hi (x2 (ix2 k j)) : ℕ) : ℝ) : EReal) := by
    rw [Nat.cast_sum, ← coe_sum]
    refine Finset.sum_congr rfl fun k _ => ?_
    rw [l1, r1, at_v55 hσ, at_v57, ← EReal.coe_mul, Nat.cast_mul]
  refine (congrArg₂ (fun a b : EReal => a + b) t0 t1).trans ?_
  rw [← EReal.coe_add, ← Nat.cast_add]
  rfl

/-- The product of the outliers. -/
theorem at_v67 (x5 : (⟨S256x14336, .bf16⟩ : BufTy).Contents (Elt Ideal)) (b : Fin 8) (s : Fin 2048) (j : Fin 14336) :
    (val_main_v67 (F := Ideal) x0 x1 x5 (ix3 b s j) : EReal) = ∑ o, (x0 (ix3 b s (σ (ocol o))) : EReal) * x5 (ix2 o j) := by
  have l0 : ∀ k, lidx_main_v67 (ix3 b s j) k = ix3 b s k := fun k => by
    funext a
    match a with
    | ⟨0, _⟩ => rfl
    | ⟨1, _⟩ => rfl
    | ⟨2, _⟩ => rfl
  have r0 : ∀ k, ridx_main_v67 (ix3 b s j) k = ix2 k j := fun k => by
    funext a
    match a with
    | ⟨0, _⟩ => rfl
    | ⟨1, _⟩ => rfl
  rw [val_main_v67_apply]
  refine Finset.sum_congr rfl fun k _ => ?_
  rw [l0, r0, at_v17 hσ]

/-- The result. -/
theorem at_v93 (x2 : (⟨S1920x14336, .i8⟩ : BufTy).Contents (Elt Ideal)) (x3 x4 : (⟨S14336, .f32⟩ : BufTy).Contents (Elt Ideal))
    (x5 : (⟨S256x14336, .bf16⟩ : BufTy).Contents (Elt Ideal)) (b : Fin 8) (s : Fin 2048) (j : Fin 14336) :
    (val_main_v93 (F := Ideal) x0 x1 x2 x3 x4 x5 (ix3 b s j) : EReal)
      = yOf (rcd x0 σ b s) (fun k => x2 (ix2 k j)) (rowSc σ fun k => x0 (ix3 b s k)) (mnOf σ fun k => x0 (ix3 b s k))
          (fun o => x0 (ix3 b s (σ (ocol o)))) (x3 (ix1 j)) (x4 (ix1 j)) (fun o => x5 (ix2 o j)) := by
  have e0 : idx_main_v74 (idx_main_v76 (ix3 b s j)) = ix2 b s := by
    funext a
    match a with
    | ⟨0, _⟩ => rfl
    | ⟨1, _⟩ => rfl
  have e1 : idx_main_v75 (idx_main_v77 (ix3 b s j)) = ix1 j := by
    funext a
    match a with
    | ⟨0, _⟩ => rfl
  have e2 : idx_main_v80 (idx_main_v83 (ix3 b s j)) = ix2 b s := by
    funext a
    match a with
    | ⟨0, _⟩ => rfl
    | ⟨1, _⟩ => rfl
  have e3 : idx_main_v82 (idx_main_v84 (ix3 b s j)) = ix1 j := by
    funext a
    match a with
    | ⟨0, _⟩ => rfl
  have e4 : idx_main_v87 (idx_main_v88 (ix3 b s j)) = ix1 j := by
    funext a
    match a with
    | ⟨0, _⟩ => rfl
  have e5 : idx_main_v73 (idx_main_v89 (ix3 b s j)) = ix2 b s := by
    funext a
    match a with
    | ⟨0, _⟩ => rfl
    | ⟨1, _⟩ => rfl
  rw [val_main_v93_apply, val_main_v92_apply, val_main_v91_apply, val_main_v90_apply, val_main_v89_apply, val_main_v88_apply, val_main_v87_apply,
    val_main_v86_apply, val_main_v85_apply, val_main_v84_apply, val_main_v83_apply, val_main_v82_apply, val_main_v81_apply, val_main_v80_apply,
    val_main_v79_apply, val_main_v78_apply, val_main_v77_apply, val_main_v76_apply, val_main_v75_apply, val_main_v74_apply, val_main_v73_apply,
    val_main_v72_apply, val_main_v71_apply, val_main_v70_apply, val_main_v69_apply, val_main_v68_apply, val_main_cst_13_apply,
    e0, e1, e2, e3, e4, e5]
  have h25 := at_v25 (x0 := x0) hσ b s
  have h19 := at_v19 (x0 := x0) hσ b s
  have h66 := at_v66 (x0 := x0) hσ b s
  have h63 := at_v63 x2 j
  have h59 := at_v59 (x0 := x0) hσ x2 b s j
  have h67 := at_v67 (x0 := x0) hσ x5 b s j
  unfold yOf
  rw [← h25, ← h19, ← h66, ← h63, ← h59, ← h67]
  generalize val_main_v25 (F := Ideal) x0 x1 (ix2 b s) = v25
  generalize val_main_v19 (F := Ideal) x0 x1 (ix2 b s) = v19
  generalize val_main_v66 (F := Ideal) x0 x1 (ix2 b s) = v66
  generalize val_main_v63 (F := Ideal) x2 (ix1 j) = v63
  generalize val_main_v59 (F := Ideal) x0 x1 x2 (ix3 b s j) = v59
  generalize val_main_v67 (F := Ideal) x0 x1 x5 (ix3 b s j) = v67
  rfl
end

end Cert.Proof.RVal
end
-- ==== Proof.PermPre.lean ====
/- The precondition, read as mathematics: the second argument lists a permutation of the 4096 columns. -/
module

public import proofs.«01_k».proof.Defs
public import proofs.«01_k».proof.Proof.Gen.Pre_is_permutation
public import proofs.«01_k».proof.Proof.ModelMix

@[expose] public section

set_option maxRecDepth 16384

noncomputable section

namespace Cert.Proof.Perm

open Idealize.ShloMosaic Cert.Proof.Model
open scoped BigOperators

theorem cmpi_ne {w : ℕ} {a b : BitVec w} (h : a ≠ b) : IntOp.cmpi .eq a b = 0#1 := by
  have hb : (a == b) = false := by simp [h]
  simp [IntOp.cmpi, hb]

/-- A listing that names every column exactly once (counted in 32-bit words) is a permutation. -/
theorem exists_perm (p : Fin 4096 → BitVec 32)
    (h : ∀ k : Fin 4096, BitVec.ofNat 32 (∑ j : Fin 4096, if BitVec.ofNat 32 k.val = p j then 1 else 0) = 1#32) :
    ∃ σ : Equiv.Perm (Fin 4096), ∀ j, p j = BitVec.ofNat 32 (σ j).val := by
  have hn : ∀ k : Fin 4096, (∑ j : Fin 4096, if BitVec.ofNat 32 k.val = p j then 1 else 0) = 1 := fun k => by
    have hle : (∑ j : Fin 4096, if BitVec.ofNat 32 k.val = p j then 1 else 0) ≤ 4096 := by
      refine (Finset.sum_le_card_nsmul _ _ 1 fun j _ => ?_).trans (by simp)
      split <;> omega
    have := congrArg BitVec.toNat (h k)
    simp only [BitVec.toNat_ofNat] at this
    omega
  have hex : ∀ k : Fin 4096, ∃ j, BitVec.ofNat 32 k.val = p j := fun k => by
    by_contra hc
    have := hn k
    rw [Finset.sum_eq_zero fun j _ => if_neg fun e => hc ⟨j, e⟩] at this
    omega
  choose g hg using hex
  have hinj : Function.Injective g := fun a b e => by
    have hab : BitVec.ofNat 32 a.val = BitVec.ofNat 32 b.val := by rw [hg a, hg b, e]
    have := congrArg BitVec.toNat hab
    simp only [BitVec.toNat_ofNat] at this
    exact Fin.ext (by omega)
  refine ⟨(Equiv.ofBijective g (Finite.injective_iff_bijective.mp hinj)).symm, fun j => ?_⟩
  obtain ⟨k, rfl⟩ := (Finite.injective_iff_surjective.mp hinj) j
  rw [← hg k]
  congr 2
  exact ((Equiv.ofBijective g (Finite.injective_iff_bijective.mp hinj)).symm_apply_apply k).symm

open Cert.Pre_is_permutation Cert.Pre_is_permutation.Gen in
/-- The precondition's element `k`: column `k` is named exactly once. -/
theorem of_pre (x0 x1 x2 x3 x4 x5) (h : Cert.Pre_is_permutation.fn (F := Ideal) x0 x1 x2 x3 x4 x5 = fun _ => 1#1) :
    ∃ σ : Equiv.Perm (Fin 4096), ∀ j, x1 (ix1 j) = BitVec.ofNat 32 (σ j).val := by
  refine exists_perm (fun j => x1 (ix1 j)) fun k => ?_
  have hk := congrFun h (ix1 k)
  have e : Cert.Pre_is_permutation.fn (F := Ideal) x0 x1 x2 x3 x4 x5 (ix1 k)
      = IntOp.cmpi .eq (Finset.univ.fold IntOp.addi (0#32) fun j : Fin 4096 => (IntOp.cmpi .eq (BitVec.ofNat 32 k.val) (x1 (ix1 j))).setWidth 32) 1#32 := by
    pointwise [Cert.Pre_is_permutation.fn]
  rw [e] at hk
  have e1 : (fun j : Fin 4096 => (IntOp.cmpi .eq (BitVec.ofNat 32 k.val) (x1 (ix1 j))).setWidth 32)
      = fun j => BitVec.ofNat 32 (if BitVec.ofNat 32 k.val = x1 (ix1 j) then 1 else 0) := funext fun j => by
    by_cases hc : BitVec.ofNat 32 k.val = x1 (ix1 j)
    · rw [if_pos hc, hc]; simp [IntOp.cmpi]
    · rw [if_neg hc, cmpi_ne hc]; rfl
  rw [e1, fold_count] at hk
  by_contra hc
  rw [cmpi_ne hc] at hk
  exact absurd hk (by decide)

end Cert.Proof.Perm
-- ==== Proof.lean ====
/- The proof of the claims about the whole program. -/
module

public import proofs.«01_k».proof.Defs
public import proofs.«01_k».proof.Proof.Gen.Kernel
public import proofs.«01_k».proof.Proof.Gen.KernelIdeal
public import proofs.«01_k».proof.Proof.Frames
public import proofs.«01_k».proof.Proof.KernelVal
public import proofs.«01_k».proof.Proof.RefVal
public import proofs.«01_k».proof.Proof.PermPre
public import Idealize.ShloMosaic.Lib.Quiescent

@[expose] public section

noncomputable section

namespace Cert.Proof

open Idealize.ShloMosaic Idealize.ShloMosaic.TcCoe Idealize.SL.Sem

/-- The reference terminates, its arguments end unchanged, and it has no semaphore. -/
theorem refFrame : Cert.quiescent_ReferenceIdeal (hReferenceIdeal := Cert.ReferenceIdeal.Gen.facts) := fun m g _ =>
  (θ_run Cert.ReferenceIdeal.defs _ _).mono (fun r h => ⟨fun c => (h c).2.2.2.2, sem_eq_zero_of_no_sems rfl r.2⟩)
    (Cert.ReferenceIdeal.Value.run (F := Ideal) m g)

section
variable (m : (ℓ : Loc Cert.KernelIdeal.nD Cert.KernelIdeal.τ Cert.KernelIdeal.sig) → Buf (Elt Ideal) ℓ) (c : Dev Cert.KernelIdeal.nD)
  {σ : Equiv.Perm (Fin 4096)} (hσ : ∀ j, Host.a1 m c (ix1 j) = BitVec.ofNat 32 (σ j).val)
include hσ

theorem row_eq (b : Fin 8) (s : Fin 2048) : KVal.X m c (Host.row b s) = fun k => Host.a0 m c (ix3 b s k) :=
  funext fun k => KVal.X_row m c b s k

/-- The codes agree. -/
theorem eq_q : (Cert.KernelIdeal.Gen.V5 m (Run.outs m) c Cert.KernelIdeal.main_v18 : Vec Ideal Cert.KernelIdeal.S8x2048x3840 .i8)
    = Cert.ReferenceIdeal.Read.val_main_v41 (F := Ideal) (Host.a0 m c) (Host.a1 m c) := by
  refine funext fun y => ?_
  obtain ⟨b, s, p, rfl⟩ : ∃ b s p, y = ix3 b s p := ⟨y 0, y 1, y 2, ValueIdx.eq_ix3 y⟩
  refine (KVal.q_at m c hσ b s p).trans (Eq.trans ?_ (RVal.at_v41 hσ b s p).symm)
  unfold KVal.cd RVal.rcd
  rw [row_eq m c hσ]
/-- The scales agree. -/
theorem eq_sc : (Cert.KernelIdeal.Gen.V5 m (Run.outs m) c Cert.KernelIdeal.main_v13 : Vec Ideal Cert.KernelIdeal.S8x2048 .f32)
    = Cert.ReferenceIdeal.Read.val_main_v25 (F := Ideal) (Host.a0 m c) (Host.a1 m c) := by
  refine funext fun y => ?_
  obtain ⟨b, s, rfl⟩ : ∃ b s, y = ix2 b s := ⟨y 0, y 1, ValueIdx.eq_ix2 y⟩
  refine (KVal.sc_at m c hσ b s).trans (Eq.trans ?_ (RVal.at_v25 hσ b s).symm)
  rw [row_eq m c hσ]
/-- The zero points agree. -/
theorem eq_mn : (Cert.KernelIdeal.Gen.V5 m (Run.outs m) c Cert.KernelIdeal.main_v16 : Vec Ideal Cert.KernelIdeal.S8x2048 .f32)
    = Cert.ReferenceIdeal.Read.val_main_v19 (F := Ideal) (Host.a0 m c) (Host.a1 m c) := by
  refine funext fun y => ?_
  obtain ⟨b, s, rfl⟩ : ∃ b s, y = ix2 b s := ⟨y 0, y 1, ValueIdx.eq_ix2 y⟩
  refine (KVal.mn_at m c hσ b s).trans (Eq.trans ?_ (RVal.at_v19 hσ b s).symm)
  rw [row_eq m c hσ]
/-- The linear layer's results agree. -/
theorem eq_y : (Cert.KernelIdeal.Gen.V5 m (Run.outs m) c Cert.KernelIdeal.main_v17 : Vec Ideal Cert.KernelIdeal.S8x2048x14336 .bf16)
    = Cert.ReferenceIdeal.Read.val_main_v93 (F := Ideal) (Host.a0 m c) (Host.a1 m c) (Host.a2 m c) (Host.a3 m c) (Host.a4 m c) (Host.a5 m c) := by
  refine funext fun y => ?_
  obtain ⟨b, s, j, rfl⟩ : ∃ b s j, y = ix3 b s j := ⟨y 0, y 1, y 2, ValueIdx.eq_ix3 y⟩
  refine (KVal.y_at m c hσ b s j).trans (Eq.trans ?_ (RVal.at_v93 hσ (Host.a2 m c) (Host.a3 m c) (Host.a4 m c) (Host.a5 m c) b s j).symm)
  have e : KVal.cd m c σ (Host.row b s) = RVal.rcd (Host.a0 m c) σ b s := by
    funext p
    unfold KVal.cd RVal.rcd
    rw [row_eq m c hσ]
  rw [e, row_eq m c hσ]
end

/-- The kernel and the reference end with equal results, each result at every index. -/
theorem algebraic : Cert.algebraic_KernelIdeal_ReferenceIdeal_pre_is_permutation (hKernelIdeal := Cert.KernelIdeal.Gen.facts)
    (hReferenceIdeal := Cert.ReferenceIdeal.Gen.facts) (hPre_is_permutation := Cert.Pre_is_permutation.Gen.facts) := by
  intro m g m' g' hpre hargs
  have hp : ∀ c, ∃ σ : Equiv.Perm (Fin 4096), ∀ j, Host.a1 m c (ix1 j) = BitVec.ofNat 32 (σ j).val := fun c =>
    Perm.of_pre (Host.a0 m c) (Host.a1 m c) (Host.a2 m c) (Host.a3 m c) (Host.a4 m c) (Host.a5 m c) (hpre c)
  have mem : ∀ b : Ref Cert.KernelIdeal.sig .tc, b.isScoped = false →
      (Proc.devRef .tc b : DevRef Cert.KernelIdeal.τ Cert.KernelIdeal.sig) ∈ Pipeline.ucRefs Cert.KernelIdeal.τ Cert.KernelIdeal.sig :=
    fun b h => Pipeline.devRef_mem_ucRefs (b := b) h
  refine ⟨fun c => Cert.KernelIdeal.Gen.V5 m (Run.outs m) c Cert.KernelIdeal.main_v17,
    fun c => Cert.KernelIdeal.Gen.V5 m (Run.outs m) c Cert.KernelIdeal.main_v18,
    fun c => Cert.KernelIdeal.Gen.V5 m (Run.outs m) c Cert.KernelIdeal.main_v13,
    fun c => Cert.KernelIdeal.Gen.V5 m (Run.outs m) c Cert.KernelIdeal.main_v16, ?_, ?_⟩
  · exact (θ_run Cert.KernelIdeal.defs _ _).mono (fun _ h c =>
      ⟨h.1 c _ (mem Cert.KernelIdeal.main_v17 (by decide)), h.1 c _ (mem Cert.KernelIdeal.main_v18 (by decide)),
        h.1 c _ (mem Cert.KernelIdeal.main_v13 (by decide)), h.1 c _ (mem Cert.KernelIdeal.main_v16 (by decide)),
        (h.1 c _ (mem Cert.KernelIdeal.main_arg0 (by decide))).trans (Cert.KernelIdeal.Gen.V5_main_arg0 m (Run.outs m) c),
        (h.1 c _ (mem Cert.KernelIdeal.main_arg1 (by decide))).trans (Cert.KernelIdeal.Gen.V5_main_arg1 m (Run.outs m) c),
        (h.1 c _ (mem Cert.KernelIdeal.main_arg2 (by decide))).trans (Cert.KernelIdeal.Gen.V5_main_arg2 m (Run.outs m) c),
        (h.1 c _ (mem Cert.KernelIdeal.main_arg3 (by decide))).trans (Cert.KernelIdeal.Gen.V5_main_arg3 m (Run.outs m) c),
        (h.1 c _ (mem Cert.KernelIdeal.main_arg4 (by decide))).trans (Cert.KernelIdeal.Gen.V5_main_arg4 m (Run.outs m) c),
        (h.1 c _ (mem Cert.KernelIdeal.main_arg5 (by decide))).trans (Cert.KernelIdeal.Gen.V5_main_arg5 m (Run.outs m) c)⟩) (Run.run_main m g)
  · refine (θ_run Cert.ReferenceIdeal.defs _ _).mono (fun r h c => ?_) (Cert.ReferenceIdeal.Value.run (F := Ideal) m' g')
    obtain ⟨hy, hq, hs, hz, hr⟩ := h c
    obtain ⟨e0, e1, e2, e3, e4, e5⟩ := hargs c
    obtain ⟨σ, hσ⟩ := hp c
    refine ⟨hy.trans ?_, hq.trans ?_, hs.trans ?_, hz.trans ?_, hr⟩
    · rw [Cert.ReferenceIdeal.Read.val_main_v93_eq, e0, e1, e2, e3, e4, e5]
      exact (eq_y m c hσ).symm
    · rw [Cert.ReferenceIdeal.Read.val_main_v41_eq, e0, e1]
      exact (eq_q m c hσ).symm
    · rw [Cert.ReferenceIdeal.Read.val_main_v25_eq, e0, e1]
      exact (eq_sc m c hσ).symm
    · rw [Cert.ReferenceIdeal.Read.val_main_v19_eq, e0, e1]
      exact (eq_mn m c hσ).symm

theorem claim : Cert.Claim := ⟨Cert.Kernel.Gen.facts, Cert.KernelIdeal.Gen.facts, Cert.ReferenceIdeal.Gen.facts, Cert.Pre_is_permutation.Gen.facts,
  fun m g _ => KRun.frame m g, fun m g _ => Run.frame m g, fun m g _ => Run.frame m g, refFrame, fun m g _ => refFrame m g trivial,
  trivial, algebraic⟩

end Cert.Proof

end
